-- ==== Defs.lean ====
def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionIdeal_finite_projections [hPre_finite_projections : Cert.Pre_finite_projections.Facts] (m : (ℓ : Loc Cert.RetentionIdeal.nD Cert.RetentionIdeal.τ Cert.RetentionIdeal.sig) → Buf (Elt Ideal) ℓ) : Prop :=
  ∀ c : Dev Cert.RetentionIdeal.nD,
    (Cert.Pre_finite_projections.fn (F := Ideal) (m ((c.tc : Thread Cert.RetentionIdeal.nD Cert.RetentionIdeal.τ).loc Cert.RetentionIdeal.main_arg0)) (m ((c.tc : Thread Cert.RetentionIdeal.nD Cert.RetentionIdeal.τ).loc Cert.RetentionIdeal.main_arg1)) (m ((c.tc : Thread Cert.RetentionIdeal.nD Cert.RetentionIdeal.τ).loc Cert.RetentionIdeal.main_arg2))) = (fun _ => 1#1)

def Pre_RetentionRefIdeal (m : (ℓ : Loc Cert.RetentionRefIdeal.nD Cert.RetentionRefIdeal.τ Cert.RetentionRefIdeal.sig) → Buf (Elt Ideal) ℓ) : Prop :=
  True

def Pre_RetentionRefIdeal_finite_projections [hPre_finite_projections : Cert.Pre_finite_projections.Facts] (m : (ℓ : Loc Cert.RetentionRefIdeal.nD Cert.RetentionRefIdeal.τ Cert.RetentionRefIdeal.sig) → Buf (Elt Ideal) ℓ) : Prop :=
  ∀ c : Dev Cert.RetentionRefIdeal.nD,
    (Cert.Pre_finite_projections.fn (F := Ideal) (m ((c.tc : Thread Cert.RetentionRefIdeal.nD Cert.RetentionRefIdeal.τ).loc Cert.RetentionRefIdeal.main_arg0)) (m ((c.tc : Thread Cert.RetentionRefIdeal.nD Cert.RetentionRefIdeal.τ).loc Cert.RetentionRefIdeal.main_arg1)) (m ((c.tc : Thread Cert.RetentionRefIdeal.nD Cert.RetentionRefIdeal.τ).loc Cert.RetentionRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MlpFirst (m : (ℓ : Loc Cert.MlpFirst.nD Cert.MlpFirst.τ Cert.MlpFirst.sig) → Buf (Elt Bits) ℓ) : Prop :=
  True

def Pre_MlpFirstIdeal (m : (ℓ : Loc Cert.MlpFirstIdeal.nD Cert.MlpFirstIdeal.τ Cert.MlpFirstIdeal.sig) → Buf (Elt Ideal) ℓ) : Prop :=
  True

def Pre_MlpFirstRefIdeal (m : (ℓ : Loc Cert.MlpFirstRefIdeal.nD Cert.MlpFirstRefIdeal.τ Cert.MlpFirstRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_MlpSecond (m : (ℓ : Loc Cert.MlpSecond.nD Cert.MlpSecond.τ Cert.MlpSecond.sig) → Buf (Elt Bits) ℓ) : Prop :=
  True

def Pre_MlpSecondIdeal (m : (ℓ : Loc Cert.MlpSecondIdeal.nD Cert.MlpSecondIdeal.τ Cert.MlpSecondIdeal.sig) → Buf (Elt Ideal) ℓ) : Prop :=
  True

def Pre_MlpSecondRefIdeal (m : (ℓ : Loc Cert.MlpSecondRefIdeal.nD Cert.MlpSecondRefIdeal.τ Cert.MlpSecondRefIdeal.sig) → Buf (Elt Ideal) ℓ) : Prop :=
  True

def Pre_MlpThird (m : (ℓ : Loc Cert.MlpThird.nD Cert.MlpThird.τ Cert.MlpThird.sig) → Buf (Elt Bits) ℓ) : Prop :=
  True

def Pre_MlpThirdIdeal (m : (ℓ : Loc Cert.MlpThirdIdeal.nD Cert.MlpThirdIdeal.τ Cert.MlpThirdIdeal.sig) → Buf (Elt Ideal) ℓ) : Prop :=
  True

def Pre_MlpThirdRefIdeal (m : (ℓ : Loc Cert.MlpThirdRefIdeal.nD Cert.MlpThirdRefIdeal.τ Cert.MlpThirdRefIdeal.sig) → Buf (Elt Ideal) ℓ) : Prop :=
  True

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0)
      ∧ r.2.mem ((c.tc : Thread Cert.Retention.nD Cert.Retention.τ).loc Cert.Retention.main_arg1) = m ((c.tc : Thread Cert.Retention.nD Cert.Retention.τ).loc Cert.Retention.main_arg1)
      ∧ r.2.mem ((c.tc : Thread Cert.Retention.nD Cert.Retention.τ).loc Cert.Retention.main_arg2) = m ((c.tc : Thread Cert.Retention.nD Cert.Retention.τ).loc Cert.Retention.main_arg2))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2))
      ∧ r.2.sem = fun _ => 0)

def quiescent_RetentionIdeal_pre_finite_projections [hRetentionIdeal : Cert.RetentionIdeal.Facts] [hPre_finite_projections : Cert.Pre_finite_projections.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal_finite_projections m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2))
      ∧ r.2.sem = fun _ => 0)

def quiescent_RetentionRefIdeal [hRetentionRefIdeal : Cert.RetentionRefIdeal.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0)
      ∧ r.2.mem ((c.tc : Thread Cert.RetentionRefIdeal.nD Cert.RetentionRefIdeal.τ).loc Cert.RetentionRefIdeal.main_arg1) = m ((c.tc : Thread Cert.RetentionRefIdeal.nD Cert.RetentionRefIdeal.τ).loc Cert.RetentionRefIdeal.main_arg1)
      ∧ r.2.mem ((c.tc : Thread Cert.RetentionRefIdeal.nD Cert.RetentionRefIdeal.τ).loc Cert.RetentionRefIdeal.main_arg2) = m ((c.tc : Thread Cert.RetentionRefIdeal.nD Cert.RetentionRefIdeal.τ).loc Cert.RetentionRefIdeal.main_arg2))
      ∧ r.2.sem = fun _ => 0)

def quiescent_RetentionRefIdeal_pre_finite_projections [hRetentionRefIdeal : Cert.RetentionRefIdeal.Facts] [hPre_finite_projections : Cert.Pre_finite_projections.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal_finite_projections m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0)
      ∧ r.2.mem ((c.tc : Thread Cert.RetentionRefIdeal.nD Cert.RetentionRefIdeal.τ).loc Cert.RetentionRefIdeal.main_arg1) = m ((c.tc : Thread Cert.RetentionRefIdeal.nD Cert.RetentionRefIdeal.τ).loc Cert.RetentionRefIdeal.main_arg1)
      ∧ r.2.mem ((c.tc : Thread Cert.RetentionRefIdeal.nD Cert.RetentionRefIdeal.τ).loc Cert.RetentionRefIdeal.main_arg2) = m ((c.tc : Thread Cert.RetentionRefIdeal.nD Cert.RetentionRefIdeal.τ).loc Cert.RetentionRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MlpFirst [hMlpFirst : Cert.MlpFirst.Facts] : Prop :=
  ∀ (m : (ℓ : Loc Cert.MlpFirst.nD Cert.MlpFirst.τ Cert.MlpFirst.sig) → Buf (Elt Bits) ℓ) (g : Dev Cert.MlpFirst.nD → PrngReg), Pre_MlpFirst m →
    θ_run (Cert.MlpFirst.defs (F := Bits)) (onTc (τ := Cert.MlpFirst.τ) (Cert.MlpFirst.main (F := Bits))) ⟨m, fun _ => 0, g⟩ (fun r => (∀ c : Dev Cert.MlpFirst.nD,
      r.2.mem ((c.tc : Thread Cert.MlpFirst.nD Cert.MlpFirst.τ).loc Cert.MlpFirst.main_arg0) = m ((c.tc : Thread Cert.MlpFirst.nD Cert.MlpFirst.τ).loc Cert.MlpFirst.main_arg0)
      ∧ r.2.mem ((c.tc : Thread Cert.MlpFirst.nD Cert.MlpFirst.τ).loc Cert.MlpFirst.main_arg1) = m ((c.tc : Thread Cert.MlpFirst.nD Cert.MlpFirst.τ).loc Cert.MlpFirst.main_arg1)
      ∧ r.2.mem ((c.tc : Thread Cert.MlpFirst.nD Cert.MlpFirst.τ).loc Cert.MlpFirst.main_arg2) = m ((c.tc : Thread Cert.MlpFirst.nD Cert.MlpFirst.τ).loc Cert.MlpFirst.main_arg2)
      ∧ r.2.mem ((c.tc : Thread Cert.MlpFirst.nD Cert.MlpFirst.τ).loc Cert.MlpFirst.main_arg3) = m ((c.tc : Thread Cert.MlpFirst.nD Cert.MlpFirst.τ).loc Cert.MlpFirst.main_arg3)
      ∧ r.2.mem ((c.tc : Thread Cert.MlpFirst.nD Cert.MlpFirst.τ).loc Cert.MlpFirst.main_arg4) = m ((c.tc : Thread Cert.MlpFirst.nD Cert.MlpFirst.τ).loc Cert.MlpFirst.main_arg4))
      ∧ r.2.sem = fun _ => 0)

def quiescent_MlpFirstIdeal [hMlpFirstIdeal : Cert.MlpFirstIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg), Pre_MlpFirstIdeal m →
    θ_run (Cert.MlpFirstIdeal.defs (F := Ideal)) (onTc (τ := Cert.MlpFirstIdeal.τ) (Cert.MlpFirstIdeal.main (F := Ideal))) ⟨m, fun _ => 0, g⟩ (fun r => (∀ c : Dev Cert.MlpFirstIdeal.nD,
      r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
      ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
      ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
      ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
      ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ r.2.sem = fun _ => 0)

def quiescent_MlpFirstRefIdeal [hMlpFirstRefIdeal : Cert.MlpFirstRefIdeal.Facts] : Prop :=
  ∀ (m : (ℓ : Loc Cert.MlpFirstRefIdeal.nD Cert.MlpFirstRefIdeal.τ Cert.MlpFirstRefIdeal.sig) → Buf (Elt Ideal) ℓ) (g : Dev Cert.MlpFirstRefIdeal.nD → PrngReg), Pre_MlpFirstRefIdeal m →
    θ_run (Cert.MlpFirstRefIdeal.defs (F := Ideal)) (onTc (τ := Cert.MlpFirstRefIdeal.τ) (Cert.MlpFirstRefIdeal.main (F := Ideal))) ⟨m, fun _ => 0, g⟩ (fun r => (∀ c : Dev Cert.MlpFirstRefIdeal.nD,
      r.2.mem ((c.tc : Thread Cert.MlpFirstRefIdeal.nD Cert.MlpFirstRefIdeal.τ).loc Cert.MlpFirstRefIdeal.main_arg0) = m ((c.tc : Thread Cert.MlpFirstRefIdeal.nD Cert.MlpFirstRefIdeal.τ).loc Cert.MlpFirstRefIdeal.main_arg0)
      ∧ r.2.mem ((c.tc : Thread Cert.MlpFirstRefIdeal.nD Cert.MlpFirstRefIdeal.τ).loc Cert.MlpFirstRefIdeal.main_arg1) = m ((c.tc : Thread Cert.MlpFirstRefIdeal.nD Cert.MlpFirstRefIdeal.τ).loc Cert.MlpFirstRefIdeal.main_arg1)
      ∧ r.2.mem ((c.tc : Thread Cert.MlpFirstRefIdeal.nD Cert.MlpFirstRefIdeal.τ).loc Cert.MlpFirstRefIdeal.main_arg2) = m ((c.tc : Thread Cert.MlpFirstRefIdeal.nD Cert.MlpFirstRefIdeal.τ).loc Cert.MlpFirstRefIdeal.main_arg2)
      ∧ r.2.mem ((c.tc : Thread Cert.MlpFirstRefIdeal.nD Cert.MlpFirstRefIdeal.τ).loc Cert.MlpFirstRefIdeal.main_arg3) = m ((c.tc : Thread Cert.MlpFirstRefIdeal.nD Cert.MlpFirstRefIdeal.τ).loc Cert.MlpFirstRefIdeal.main_arg3)
      ∧ r.2.mem ((c.tc : Thread Cert.MlpFirstRefIdeal.nD Cert.MlpFirstRefIdeal.τ).loc Cert.MlpFirstRefIdeal.main_arg4) = m ((c.tc : Thread Cert.MlpFirstRefIdeal.nD Cert.MlpFirstRefIdeal.τ).loc Cert.MlpFirstRefIdeal.main_arg4))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1)
      ∧ r.2.mem ((c.tc : Thread Cert.GdnInRefIdeal.nD Cert.GdnInRefIdeal.τ).loc Cert.GdnInRefIdeal.main_arg2) = m ((c.tc : Thread Cert.GdnInRefIdeal.nD Cert.GdnInRefIdeal.τ).loc Cert.GdnInRefIdeal.main_arg2))
      ∧ r.2.sem = fun _ => 0)

def quiescent_MlpSecond [hMlpSecond : Cert.MlpSecond.Facts] : Prop :=
  ∀ (m : (ℓ : Loc Cert.MlpSecond.nD Cert.MlpSecond.τ Cert.MlpSecond.sig) → Buf (Elt Bits) ℓ) (g : Dev Cert.MlpSecond.nD → PrngReg), Pre_MlpSecond m →
    θ_run (Cert.MlpSecond.defs (F := Bits)) (onTc (τ := Cert.MlpSecond.τ) (Cert.MlpSecond.main (F := Bits))) ⟨m, fun _ => 0, g⟩ (fun r => (∀ c : Dev Cert.MlpSecond.nD,
      r.2.mem ((c.tc : Thread Cert.MlpSecond.nD Cert.MlpSecond.τ).loc Cert.MlpSecond.main_arg0) = m ((c.tc : Thread Cert.MlpSecond.nD Cert.MlpSecond.τ).loc Cert.MlpSecond.main_arg0)
      ∧ r.2.mem ((c.tc : Thread Cert.MlpSecond.nD Cert.MlpSecond.τ).loc Cert.MlpSecond.main_arg1) = m ((c.tc : Thread Cert.MlpSecond.nD Cert.MlpSecond.τ).loc Cert.MlpSecond.main_arg1)
      ∧ r.2.mem ((c.tc : Thread Cert.MlpSecond.nD Cert.MlpSecond.τ).loc Cert.MlpSecond.main_arg2) = m ((c.tc : Thread Cert.MlpSecond.nD Cert.MlpSecond.τ).loc Cert.MlpSecond.main_arg2)
      ∧ r.2.mem ((c.tc : Thread Cert.MlpSecond.nD Cert.MlpSecond.τ).loc Cert.MlpSecond.main_arg3) = m ((c.tc : Thread Cert.MlpSecond.nD Cert.MlpSecond.τ).loc Cert.MlpSecond.main_arg3)
      ∧ r.2.mem ((c.tc : Thread Cert.MlpSecond.nD Cert.MlpSecond.τ).loc Cert.MlpSecond.main_arg4) = m ((c.tc : Thread Cert.MlpSecond.nD Cert.MlpSecond.τ).loc Cert.MlpSecond.main_arg4))
      ∧ r.2.sem = fun _ => 0)

def quiescent_MlpSecondIdeal [hMlpSecondIdeal : Cert.MlpSecondIdeal.Facts] : Prop :=
  ∀ (m : (ℓ : Loc Cert.MlpSecondIdeal.nD Cert.MlpSecondIdeal.τ Cert.MlpSecondIdeal.sig) → Buf (Elt Ideal) ℓ) (g : Dev Cert.MlpSecondIdeal.nD → PrngReg), Pre_MlpSecondIdeal m →
    θ_run (Cert.MlpSecondIdeal.defs (F := Ideal)) (onTc (τ := Cert.MlpSecondIdeal.τ) (Cert.MlpSecondIdeal.main (F := Ideal))) ⟨m, fun _ => 0, g⟩ (fun r => (∀ c : Dev Cert.MlpSecondIdeal.nD,
      r.2.mem ((c.tc : Thread Cert.MlpSecondIdeal.nD Cert.MlpSecondIdeal.τ).loc Cert.MlpSecondIdeal.main_arg0) = m ((c.tc : Thread Cert.MlpSecondIdeal.nD Cert.MlpSecondIdeal.τ).loc Cert.MlpSecondIdeal.main_arg0)
      ∧ r.2.mem ((c.tc : Thread Cert.MlpSecondIdeal.nD Cert.MlpSecondIdeal.τ).loc Cert.MlpSecondIdeal.main_arg1) = m ((c.tc : Thread Cert.MlpSecondIdeal.nD Cert.MlpSecondIdeal.τ).loc Cert.MlpSecondIdeal.main_arg1)
      ∧ r.2.mem ((c.tc : Thread Cert.MlpSecondIdeal.nD Cert.MlpSecondIdeal.τ).loc Cert.MlpSecondIdeal.main_arg2) = m ((c.tc : Thread Cert.MlpSecondIdeal.nD Cert.MlpSecondIdeal.τ).loc Cert.MlpSecondIdeal.main_arg2)
      ∧ r.2.mem ((c.tc : Thread Cert.MlpSecondIdeal.nD Cert.MlpSecondIdeal.τ).loc Cert.MlpSecondIdeal.main_arg3) = m ((c.tc : Thread Cert.MlpSecondIdeal.nD Cert.MlpSecondIdeal.τ).loc Cert.MlpSecondIdeal.main_arg3)
      ∧ r.2.mem ((c.tc : Thread Cert.MlpSecondIdeal.nD Cert.MlpSecondIdeal.τ).loc Cert.MlpSecondIdeal.main_arg4) = m ((c.tc : Thread Cert.MlpSecondIdeal.nD Cert.MlpSecondIdeal.τ).loc Cert.MlpSecondIdeal.main_arg4))
      ∧ r.2.sem = fun _ => 0)

def quiescent_MlpSecondRefIdeal [hMlpSecondRefIdeal : Cert.MlpSecondRefIdeal.Facts] : Prop :=
  ∀ (m : (ℓ : Loc Cert.MlpSecondRefIdeal.nD Cert.MlpSecondRefIdeal.τ Cert.MlpSecondRefIdeal.sig) → Buf (Elt Ideal) ℓ) (g : Dev Cert.MlpSecondRefIdeal.nD → PrngReg), Pre_MlpSecondRefIdeal m →
    θ_run (Cert.MlpSecondRefIdeal.defs (F := Ideal)) (onTc (τ := Cert.MlpSecondRefIdeal.τ) (Cert.MlpSecondRefIdeal.main (F := Ideal))) ⟨m, fun _ => 0, g⟩ (fun r => (∀ c : Dev Cert.MlpSecondRefIdeal.nD,
      r.2.mem ((c.tc : Thread Cert.MlpSecondRefIdeal.nD Cert.MlpSecondRefIdeal.τ).loc Cert.MlpSecondRefIdeal.main_arg0) = m ((c.tc : Thread Cert.MlpSecondRefIdeal.nD Cert.MlpSecondRefIdeal.τ).loc Cert.MlpSecondRefIdeal.main_arg0)
      ∧ r.2.mem ((c.tc : Thread Cert.MlpSecondRefIdeal.nD Cert.MlpSecondRefIdeal.τ).loc Cert.MlpSecondRefIdeal.main_arg1) = m ((c.tc : Thread Cert.MlpSecondRefIdeal.nD Cert.MlpSecondRefIdeal.τ).loc Cert.MlpSecondRefIdeal.main_arg1)
      ∧ r.2.mem ((c.tc : Thread Cert.MlpSecondRefIdeal.nD Cert.MlpSecondRefIdeal.τ).loc Cert.MlpSecondRefIdeal.main_arg2) = m ((c.tc : Thread Cert.MlpSecondRefIdeal.nD Cert.MlpSecondRefIdeal.τ).loc Cert.MlpSecondRefIdeal.main_arg2)
      ∧ r.2.mem ((c.tc : Thread Cert.MlpSecondRefIdeal.nD Cert.MlpSecondRefIdeal.τ).loc Cert.MlpSecondRefIdeal.main_arg3) = m ((c.tc : Thread Cert.MlpSecondRefIdeal.nD Cert.MlpSecondRefIdeal.τ).loc Cert.MlpSecondRefIdeal.main_arg3)
      ∧ r.2.mem ((c.tc : Thread Cert.MlpSecondRefIdeal.nD Cert.MlpSecondRefIdeal.τ).loc Cert.MlpSecondRefIdeal.main_arg4) = m ((c.tc : Thread Cert.MlpSecondRefIdeal.nD Cert.MlpSecondRefIdeal.τ).loc Cert.MlpSecondRefIdeal.main_arg4))
      ∧ r.2.sem = fun _ => 0)

def quiescent_MlpThird [hMlpThird : Cert.MlpThird.Facts] : Prop :=
  ∀ (m : (ℓ : Loc Cert.MlpThird.nD Cert.MlpThird.τ Cert.MlpThird.sig) → Buf (Elt Bits) ℓ) (g : Dev Cert.MlpThird.nD → PrngReg), Pre_MlpThird m →
    θ_run (Cert.MlpThird.defs (F := Bits)) (onTc (τ := Cert.MlpThird.τ) (Cert.MlpThird.main (F := Bits))) ⟨m, fun _ => 0, g⟩ (fun r => (∀ c : Dev Cert.MlpThird.nD,
      r.2.mem ((c.tc : Thread Cert.MlpThird.nD Cert.MlpThird.τ).loc Cert.MlpThird.main_arg0) = m ((c.tc : Thread Cert.MlpThird.nD Cert.MlpThird.τ).loc Cert.MlpThird.main_arg0)
      ∧ r.2.mem ((c.tc : Thread Cert.MlpThird.nD Cert.MlpThird.τ).loc Cert.MlpThird.main_arg1) = m ((c.tc : Thread Cert.MlpThird.nD Cert.MlpThird.τ).loc Cert.MlpThird.main_arg1)
      ∧ r.2.mem ((c.tc : Thread Cert.MlpThird.nD Cert.MlpThird.τ).loc Cert.MlpThird.main_arg2) = m ((c.tc : Thread Cert.MlpThird.nD Cert.MlpThird.τ).loc Cert.MlpThird.main_arg2)
      ∧ r.2.mem ((c.tc : Thread Cert.MlpThird.nD Cert.MlpThird.τ).loc Cert.MlpThird.main_arg3) = m ((c.tc : Thread Cert.MlpThird.nD Cert.MlpThird.τ).loc Cert.MlpThird.main_arg3)
      ∧ r.2.mem ((c.tc : Thread Cert.MlpThird.nD Cert.MlpThird.τ).loc Cert.MlpThird.main_arg4) = m ((c.tc : Thread Cert.MlpThird.nD Cert.MlpThird.τ).loc Cert.MlpThird.main_arg4))
      ∧ r.2.sem = fun _ => 0)

def quiescent_MlpThirdIdeal [hMlpThirdIdeal : Cert.MlpThirdIdeal.Facts] : Prop :=
  ∀ (m : (ℓ : Loc Cert.MlpThirdIdeal.nD Cert.MlpThirdIdeal.τ Cert.MlpThirdIdeal.sig) → Buf (Elt Ideal) ℓ) (g : Dev Cert.MlpThirdIdeal.nD → PrngReg), Pre_MlpThirdIdeal m →
    θ_run (Cert.MlpThirdIdeal.defs (F := Ideal)) (onTc (τ := Cert.MlpThirdIdeal.τ) (Cert.MlpThirdIdeal.main (F := Ideal))) ⟨m, fun _ => 0, g⟩ (fun r => (∀ c : Dev Cert.MlpThirdIdeal.nD,
      r.2.mem ((c.tc : Thread Cert.MlpThirdIdeal.nD Cert.MlpThirdIdeal.τ).loc Cert.MlpThirdIdeal.main_arg0) = m ((c.tc : Thread Cert.MlpThirdIdeal.nD Cert.MlpThirdIdeal.τ).loc Cert.MlpThirdIdeal.main_arg0)
      ∧ r.2.mem ((c.tc : Thread Cert.MlpThirdIdeal.nD Cert.MlpThirdIdeal.τ).loc Cert.MlpThirdIdeal.main_arg1) = m ((c.tc : Thread Cert.MlpThirdIdeal.nD Cert.MlpThirdIdeal.τ).loc Cert.MlpThirdIdeal.main_arg1)
      ∧ r.2.mem ((c.tc : Thread Cert.MlpThirdIdeal.nD Cert.MlpThirdIdeal.τ).loc Cert.MlpThirdIdeal.main_arg2) = m ((c.tc : Thread Cert.MlpThirdIdeal.nD Cert.MlpThirdIdeal.τ).loc Cert.MlpThirdIdeal.main_arg2)
      ∧ r.2.mem ((c.tc : Thread Cert.MlpThirdIdeal.nD Cert.MlpThirdIdeal.τ).loc Cert.MlpThirdIdeal.main_arg3) = m ((c.tc : Thread Cert.MlpThirdIdeal.nD Cert.MlpThirdIdeal.τ).loc Cert.MlpThirdIdeal.main_arg3)
      ∧ r.2.mem ((c.tc : Thread Cert.MlpThirdIdeal.nD Cert.MlpThirdIdeal.τ).loc Cert.MlpThirdIdeal.main_arg4) = m ((c.tc : Thread Cert.MlpThirdIdeal.nD Cert.MlpThirdIdeal.τ).loc Cert.MlpThirdIdeal.main_arg4))
      ∧ r.2.sem = fun _ => 0)

def quiescent_MlpThirdRefIdeal [hMlpThirdRefIdeal : Cert.MlpThirdRefIdeal.Facts] : Prop :=
  ∀ (m : (ℓ : Loc Cert.MlpThirdRefIdeal.nD Cert.MlpThirdRefIdeal.τ Cert.MlpThirdRefIdeal.sig) → Buf (Elt Ideal) ℓ) (g : Dev Cert.MlpThirdRefIdeal.nD → PrngReg), Pre_MlpThirdRefIdeal m →
    θ_run (Cert.MlpThirdRefIdeal.defs (F := Ideal)) (onTc (τ := Cert.MlpThirdRefIdeal.τ) (Cert.MlpThirdRefIdeal.main (F := Ideal))) ⟨m, fun _ => 0, g⟩ (fun r => (∀ c : Dev Cert.MlpThirdRefIdeal.nD,
      r.2.mem ((c.tc : Thread Cert.MlpThirdRefIdeal.nD Cert.MlpThirdRefIdeal.τ).loc Cert.MlpThirdRefIdeal.main_arg0) = m ((c.tc : Thread Cert.MlpThirdRefIdeal.nD Cert.MlpThirdRefIdeal.τ).loc Cert.MlpThirdRefIdeal.main_arg0)
      ∧ r.2.mem ((c.tc : Thread Cert.MlpThirdRefIdeal.nD Cert.MlpThirdRefIdeal.τ).loc Cert.MlpThirdRefIdeal.main_arg1) = m ((c.tc : Thread Cert.MlpThirdRefIdeal.nD Cert.MlpThirdRefIdeal.τ).loc Cert.MlpThirdRefIdeal.main_arg1)
      ∧ r.2.mem ((c.tc : Thread Cert.MlpThirdRefIdeal.nD Cert.MlpThirdRefIdeal.τ).loc Cert.MlpThirdRefIdeal.main_arg2) = m ((c.tc : Thread Cert.MlpThirdRefIdeal.nD Cert.MlpThirdRefIdeal.τ).loc Cert.MlpThirdRefIdeal.main_arg2)
      ∧ r.2.mem ((c.tc : Thread Cert.MlpThirdRefIdeal.nD Cert.MlpThirdRefIdeal.τ).loc Cert.MlpThirdRefIdeal.main_arg3) = m ((c.tc : Thread Cert.MlpThirdRefIdeal.nD Cert.MlpThirdRefIdeal.τ).loc Cert.MlpThirdRefIdeal.main_arg3)
      ∧ r.2.mem ((c.tc : Thread Cert.MlpThirdRefIdeal.nD Cert.MlpThirdRefIdeal.τ).loc Cert.MlpThirdRefIdeal.main_arg4) = m ((c.tc : Thread Cert.MlpThirdRefIdeal.nD Cert.MlpThirdRefIdeal.τ).loc Cert.MlpThirdRefIdeal.main_arg4))
      ∧ r.2.sem = fun _ => 0)

def preserves_Retention_RetentionIdeal : Prop :=
  IdealRules.named_const.Statement Cert.RetentionIdeal.κ "log_gamma0" .f32 0xBD020AEC#32 ((Real.log (31 / 32) : ℝ) : EReal)
  ∧ IdealRules.named_const.Statement Cert.RetentionIdeal.κ "log_gamma1" .f32 0xBC8102B3#32 ((Real.log (63 / 64) : ℝ) : EReal)
  ∧ IdealRules.named_const.Statement Cert.RetentionIdeal.κ "log_gamma2" .f32 0xBC0080AC#32 ((Real.log (127 / 128) : ℝ) : EReal)
  ∧ IdealRules.named_const.Statement Cert.RetentionIdeal.κ "log_gamma3" .f32 0xBB80402B#32 ((Real.log (255 / 256) : ℝ) : EReal)
  ∧ IdealRules.named_const.Statement Cert.RetentionIdeal.κ "chunk_dec0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.RetentionIdeal.κ "chunk_dec1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.RetentionIdeal.κ "chunk_dec2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.RetentionIdeal.κ "chunk_dec3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_RetentionIdeal_RetentionRefIdeal_pre_finite_projections [hRetentionIdeal : Cert.RetentionIdeal.Facts] [hRetentionRefIdeal : Cert.RetentionRefIdeal.Facts] [hPre_finite_projections : Cert.Pre_finite_projections.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionRefIdeal.nD Cert.RetentionRefIdeal.τ Cert.RetentionRefIdeal.sig) → Buf (Elt Ideal) ℓ) (g' : Dev Cert.RetentionRefIdeal.nD → PrngReg), Pre_RetentionIdeal_finite_projections m →
    (∀ c : Dev Cert.RetentionIdeal.nD,
      m' ((c.tc : Thread Cert.RetentionRefIdeal.nD Cert.RetentionRefIdeal.τ).loc Cert.RetentionRefIdeal.main_arg0) = m ((c.tc : Thread Cert.RetentionIdeal.nD Cert.RetentionIdeal.τ).loc Cert.RetentionIdeal.main_arg0)
      ∧ m' ((c.tc : Thread Cert.RetentionRefIdeal.nD Cert.RetentionRefIdeal.τ).loc Cert.RetentionRefIdeal.main_arg1) = m ((c.tc : Thread Cert.RetentionIdeal.nD Cert.RetentionIdeal.τ).loc Cert.RetentionIdeal.main_arg1)
      ∧ m' ((c.tc : Thread Cert.RetentionRefIdeal.nD Cert.RetentionRefIdeal.τ).loc Cert.RetentionRefIdeal.main_arg2) = m ((c.tc : Thread Cert.RetentionIdeal.nD Cert.RetentionIdeal.τ).loc Cert.RetentionIdeal.main_arg2)) →
    ∃ (v0 : (c : Dev Cert.RetentionIdeal.nD) → Buf (Elt Ideal) ((c.tc : Thread Cert.RetentionIdeal.nD Cert.RetentionIdeal.τ).loc Cert.RetentionIdeal.main_v19)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v19) = v0 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
          ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
          ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2))
      ∧ θ_run (Cert.RetentionRefIdeal.defs (F := Ideal)) (onTc (τ := Cert.RetentionRefIdeal.τ) (Cert.RetentionRefIdeal.main (F := Ideal))) ⟨m', fun _ => 0, g'⟩ (fun r => ∀ c : Dev Cert.RetentionRefIdeal.nD,
          r.2.mem ((c.tc : Thread Cert.RetentionRefIdeal.nD Cert.RetentionRefIdeal.τ).loc Cert.RetentionRefIdeal.main_v131) = v0 c
          ∧ r.2.mem ((c.tc : Thread Cert.RetentionRefIdeal.nD Cert.RetentionRefIdeal.τ).loc Cert.RetentionRefIdeal.main_arg0) = m' ((c.tc : Thread Cert.RetentionRefIdeal.nD Cert.RetentionRefIdeal.τ).loc Cert.RetentionRefIdeal.main_arg0)
          ∧ r.2.mem ((c.tc : Thread Cert.RetentionRefIdeal.nD Cert.RetentionRefIdeal.τ).loc Cert.RetentionRefIdeal.main_arg1) = m' ((c.tc : Thread Cert.RetentionRefIdeal.nD Cert.RetentionRefIdeal.τ).loc Cert.RetentionRefIdeal.main_arg1)
          ∧ r.2.mem ((c.tc : Thread Cert.RetentionRefIdeal.nD Cert.RetentionRefIdeal.τ).loc Cert.RetentionRefIdeal.main_arg2) = m' ((c.tc : Thread Cert.RetentionRefIdeal.nD Cert.RetentionRefIdeal.τ).loc Cert.RetentionRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v37) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MlpFirst_MlpFirstIdeal : Prop :=
  True

def algebraic_MlpFirstIdeal_MlpFirstRefIdeal [hMlpFirstIdeal : Cert.MlpFirstIdeal.Facts] [hMlpFirstRefIdeal : Cert.MlpFirstRefIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg)
    (m' : (ℓ : Loc Cert.MlpFirstRefIdeal.nD Cert.MlpFirstRefIdeal.τ Cert.MlpFirstRefIdeal.sig) → Buf (Elt Ideal) ℓ) (g' : Dev Cert.MlpFirstRefIdeal.nD → PrngReg), Pre_MlpFirstIdeal m →
    (∀ c : Dev Cert.MlpFirstIdeal.nD,
      m' ((c.tc : Thread Cert.MlpFirstRefIdeal.nD Cert.MlpFirstRefIdeal.τ).loc Cert.MlpFirstRefIdeal.main_arg0) = m ((c.tc : Thread Cert.MlpFirstIdeal.nD Cert.MlpFirstIdeal.τ).loc Cert.MlpFirstIdeal.main_arg0)
      ∧ m' ((c.tc : Thread Cert.MlpFirstRefIdeal.nD Cert.MlpFirstRefIdeal.τ).loc Cert.MlpFirstRefIdeal.main_arg1) = m ((c.tc : Thread Cert.MlpFirstIdeal.nD Cert.MlpFirstIdeal.τ).loc Cert.MlpFirstIdeal.main_arg1)
      ∧ m' ((c.tc : Thread Cert.MlpFirstRefIdeal.nD Cert.MlpFirstRefIdeal.τ).loc Cert.MlpFirstRefIdeal.main_arg2) = m ((c.tc : Thread Cert.MlpFirstIdeal.nD Cert.MlpFirstIdeal.τ).loc Cert.MlpFirstIdeal.main_arg2)
      ∧ m' ((c.tc : Thread Cert.MlpFirstRefIdeal.nD Cert.MlpFirstRefIdeal.τ).loc Cert.MlpFirstRefIdeal.main_arg3) = m ((c.tc : Thread Cert.MlpFirstIdeal.nD Cert.MlpFirstIdeal.τ).loc Cert.MlpFirstIdeal.main_arg3)
      ∧ m' ((c.tc : Thread Cert.MlpFirstRefIdeal.nD Cert.MlpFirstRefIdeal.τ).loc Cert.MlpFirstRefIdeal.main_arg4) = m ((c.tc : Thread Cert.MlpFirstIdeal.nD Cert.MlpFirstIdeal.τ).loc Cert.MlpFirstIdeal.main_arg4)) →
    ∃ (v0 : (c : Dev Cert.MlpFirstIdeal.nD) → Buf (Elt Ideal) ((c.tc : Thread Cert.MlpFirstIdeal.nD Cert.MlpFirstIdeal.τ).loc Cert.MlpFirstIdeal.main_v5)),
      θ_run (Cert.MlpFirstIdeal.defs (F := Ideal)) (onTc (τ := Cert.MlpFirstIdeal.τ) (Cert.MlpFirstIdeal.main (F := Ideal))) ⟨m, fun _ => 0, g⟩ (fun r => ∀ c : Dev Cert.MlpFirstIdeal.nD,
          r.2.mem ((c.tc : Thread Cert.MlpFirstIdeal.nD Cert.MlpFirstIdeal.τ).loc Cert.MlpFirstIdeal.main_v5) = v0 c
          ∧ r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
          ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
          ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
          ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
          ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ θ_run (Cert.MlpFirstRefIdeal.defs (F := Ideal)) (onTc (τ := Cert.MlpFirstRefIdeal.τ) (Cert.MlpFirstRefIdeal.main (F := Ideal))) ⟨m', fun _ => 0, g'⟩ (fun r => ∀ c : Dev Cert.MlpFirstRefIdeal.nD,
          r.2.mem ((c.tc : Thread Cert.MlpFirstRefIdeal.nD Cert.MlpFirstRefIdeal.τ).loc Cert.MlpFirstRefIdeal.main_v24) = v0 c
          ∧ r.2.mem ((c.tc : Thread Cert.MlpFirstRefIdeal.nD Cert.MlpFirstRefIdeal.τ).loc Cert.MlpFirstRefIdeal.main_arg0) = m' ((c.tc : Thread Cert.MlpFirstRefIdeal.nD Cert.MlpFirstRefIdeal.τ).loc Cert.MlpFirstRefIdeal.main_arg0)
          ∧ r.2.mem ((c.tc : Thread Cert.MlpFirstRefIdeal.nD Cert.MlpFirstRefIdeal.τ).loc Cert.MlpFirstRefIdeal.main_arg1) = m' ((c.tc : Thread Cert.MlpFirstRefIdeal.nD Cert.MlpFirstRefIdeal.τ).loc Cert.MlpFirstRefIdeal.main_arg1)
          ∧ r.2.mem ((c.tc : Thread Cert.MlpFirstRefIdeal.nD Cert.MlpFirstRefIdeal.τ).loc Cert.MlpFirstRefIdeal.main_arg2) = m' ((c.tc : Thread Cert.MlpFirstRefIdeal.nD Cert.MlpFirstRefIdeal.τ).loc Cert.MlpFirstRefIdeal.main_arg2)
          ∧ r.2.mem ((c.tc : Thread Cert.MlpFirstRefIdeal.nD Cert.MlpFirstRefIdeal.τ).loc Cert.MlpFirstRefIdeal.main_arg3) = m' ((c.tc : Thread Cert.MlpFirstRefIdeal.nD Cert.MlpFirstRefIdeal.τ).loc Cert.MlpFirstRefIdeal.main_arg3)
          ∧ r.2.mem ((c.tc : Thread Cert.MlpFirstRefIdeal.nD Cert.MlpFirstRefIdeal.τ).loc Cert.MlpFirstRefIdeal.main_arg4) = m' ((c.tc : Thread Cert.MlpFirstRefIdeal.nD Cert.MlpFirstRefIdeal.τ).loc Cert.MlpFirstRefIdeal.main_arg4))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)
      ∧ m' ((c.tc : Thread Cert.GdnInRefIdeal.nD Cert.GdnInRefIdeal.τ).loc Cert.GdnInRefIdeal.main_arg2) = m ((c.tc : Thread Cert.GdnInIdeal.nD Cert.GdnInIdeal.τ).loc Cert.GdnInIdeal.main_arg2)) →
    ∃ (v0 : (c : Dev Cert.GdnInIdeal.nD) → Buf (Elt Ideal) ((c.tc : Thread Cert.GdnInIdeal.nD Cert.GdnInIdeal.τ).loc Cert.GdnInIdeal.main_v14)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v14) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v16) = v0 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1)
          ∧ r.2.mem ((c.tc : Thread Cert.GdnInRefIdeal.nD Cert.GdnInRefIdeal.τ).loc Cert.GdnInRefIdeal.main_arg2) = m' ((c.tc : Thread Cert.GdnInRefIdeal.nD Cert.GdnInRefIdeal.τ).loc Cert.GdnInRefIdeal.main_arg2))

def preserves_MlpSecond_MlpSecondIdeal : Prop :=
  True

def algebraic_MlpSecondIdeal_MlpSecondRefIdeal [hMlpSecondIdeal : Cert.MlpSecondIdeal.Facts] [hMlpSecondRefIdeal : Cert.MlpSecondRefIdeal.Facts] : Prop :=
  ∀ (m : (ℓ : Loc Cert.MlpSecondIdeal.nD Cert.MlpSecondIdeal.τ Cert.MlpSecondIdeal.sig) → Buf (Elt Ideal) ℓ) (g : Dev Cert.MlpSecondIdeal.nD → PrngReg)
    (m' : (ℓ : Loc Cert.MlpSecondRefIdeal.nD Cert.MlpSecondRefIdeal.τ Cert.MlpSecondRefIdeal.sig) → Buf (Elt Ideal) ℓ) (g' : Dev Cert.MlpSecondRefIdeal.nD → PrngReg), Pre_MlpSecondIdeal m →
    (∀ c : Dev Cert.MlpSecondIdeal.nD,
      m' ((c.tc : Thread Cert.MlpSecondRefIdeal.nD Cert.MlpSecondRefIdeal.τ).loc Cert.MlpSecondRefIdeal.main_arg0) = m ((c.tc : Thread Cert.MlpSecondIdeal.nD Cert.MlpSecondIdeal.τ).loc Cert.MlpSecondIdeal.main_arg0)
      ∧ m' ((c.tc : Thread Cert.MlpSecondRefIdeal.nD Cert.MlpSecondRefIdeal.τ).loc Cert.MlpSecondRefIdeal.main_arg1) = m ((c.tc : Thread Cert.MlpSecondIdeal.nD Cert.MlpSecondIdeal.τ).loc Cert.MlpSecondIdeal.main_arg1)
      ∧ m' ((c.tc : Thread Cert.MlpSecondRefIdeal.nD Cert.MlpSecondRefIdeal.τ).loc Cert.MlpSecondRefIdeal.main_arg2) = m ((c.tc : Thread Cert.MlpSecondIdeal.nD Cert.MlpSecondIdeal.τ).loc Cert.MlpSecondIdeal.main_arg2)
      ∧ m' ((c.tc : Thread Cert.MlpSecondRefIdeal.nD Cert.MlpSecondRefIdeal.τ).loc Cert.MlpSecondRefIdeal.main_arg3) = m ((c.tc : Thread Cert.MlpSecondIdeal.nD Cert.MlpSecondIdeal.τ).loc Cert.MlpSecondIdeal.main_arg3)
      ∧ m' ((c.tc : Thread Cert.MlpSecondRefIdeal.nD Cert.MlpSecondRefIdeal.τ).loc Cert.MlpSecondRefIdeal.main_arg4) = m ((c.tc : Thread Cert.MlpSecondIdeal.nD Cert.MlpSecondIdeal.τ).loc Cert.MlpSecondIdeal.main_arg4)) →
    ∃ (v0 : (c : Dev Cert.MlpSecondIdeal.nD) → Buf (Elt Ideal) ((c.tc : Thread Cert.MlpSecondIdeal.nD Cert.MlpSecondIdeal.τ).loc Cert.MlpSecondIdeal.main_v5)),
      θ_run (Cert.MlpSecondIdeal.defs (F := Ideal)) (onTc (τ := Cert.MlpSecondIdeal.τ) (Cert.MlpSecondIdeal.main (F := Ideal))) ⟨m, fun _ => 0, g⟩ (fun r => ∀ c : Dev Cert.MlpSecondIdeal.nD,
          r.2.mem ((c.tc : Thread Cert.MlpSecondIdeal.nD Cert.MlpSecondIdeal.τ).loc Cert.MlpSecondIdeal.main_v5) = v0 c
          ∧ r.2.mem ((c.tc : Thread Cert.MlpSecondIdeal.nD Cert.MlpSecondIdeal.τ).loc Cert.MlpSecondIdeal.main_arg0) = m ((c.tc : Thread Cert.MlpSecondIdeal.nD Cert.MlpSecondIdeal.τ).loc Cert.MlpSecondIdeal.main_arg0)
          ∧ r.2.mem ((c.tc : Thread Cert.MlpSecondIdeal.nD Cert.MlpSecondIdeal.τ).loc Cert.MlpSecondIdeal.main_arg1) = m ((c.tc : Thread Cert.MlpSecondIdeal.nD Cert.MlpSecondIdeal.τ).loc Cert.MlpSecondIdeal.main_arg1)
          ∧ r.2.mem ((c.tc : Thread Cert.MlpSecondIdeal.nD Cert.MlpSecondIdeal.τ).loc Cert.MlpSecondIdeal.main_arg2) = m ((c.tc : Thread Cert.MlpSecondIdeal.nD Cert.MlpSecondIdeal.τ).loc Cert.MlpSecondIdeal.main_arg2)
          ∧ r.2.mem ((c.tc : Thread Cert.MlpSecondIdeal.nD Cert.MlpSecondIdeal.τ).loc Cert.MlpSecondIdeal.main_arg3) = m ((c.tc : Thread Cert.MlpSecondIdeal.nD Cert.MlpSecondIdeal.τ).loc Cert.MlpSecondIdeal.main_arg3)
          ∧ r.2.mem ((c.tc : Thread Cert.MlpSecondIdeal.nD Cert.MlpSecondIdeal.τ).loc Cert.MlpSecondIdeal.main_arg4) = m ((c.tc : Thread Cert.MlpSecondIdeal.nD Cert.MlpSecondIdeal.τ).loc Cert.MlpSecondIdeal.main_arg4))
      ∧ θ_run (Cert.MlpSecondRefIdeal.defs (F := Ideal)) (onTc (τ := Cert.MlpSecondRefIdeal.τ) (Cert.MlpSecondRefIdeal.main (F := Ideal))) ⟨m', fun _ => 0, g'⟩ (fun r => ∀ c : Dev Cert.MlpSecondRefIdeal.nD,
          r.2.mem ((c.tc : Thread Cert.MlpSecondRefIdeal.nD Cert.MlpSecondRefIdeal.τ).loc Cert.MlpSecondRefIdeal.main_v24) = v0 c
          ∧ r.2.mem ((c.tc : Thread Cert.MlpSecondRefIdeal.nD Cert.MlpSecondRefIdeal.τ).loc Cert.MlpSecondRefIdeal.main_arg0) = m' ((c.tc : Thread Cert.MlpSecondRefIdeal.nD Cert.MlpSecondRefIdeal.τ).loc Cert.MlpSecondRefIdeal.main_arg0)
          ∧ r.2.mem ((c.tc : Thread Cert.MlpSecondRefIdeal.nD Cert.MlpSecondRefIdeal.τ).loc Cert.MlpSecondRefIdeal.main_arg1) = m' ((c.tc : Thread Cert.MlpSecondRefIdeal.nD Cert.MlpSecondRefIdeal.τ).loc Cert.MlpSecondRefIdeal.main_arg1)
          ∧ r.2.mem ((c.tc : Thread Cert.MlpSecondRefIdeal.nD Cert.MlpSecondRefIdeal.τ).loc Cert.MlpSecondRefIdeal.main_arg2) = m' ((c.tc : Thread Cert.MlpSecondRefIdeal.nD Cert.MlpSecondRefIdeal.τ).loc Cert.MlpSecondRefIdeal.main_arg2)
          ∧ r.2.mem ((c.tc : Thread Cert.MlpSecondRefIdeal.nD Cert.MlpSecondRefIdeal.τ).loc Cert.MlpSecondRefIdeal.main_arg3) = m' ((c.tc : Thread Cert.MlpSecondRefIdeal.nD Cert.MlpSecondRefIdeal.τ).loc Cert.MlpSecondRefIdeal.main_arg3)
          ∧ r.2.mem ((c.tc : Thread Cert.MlpSecondRefIdeal.nD Cert.MlpSecondRefIdeal.τ).loc Cert.MlpSecondRefIdeal.main_arg4) = m' ((c.tc : Thread Cert.MlpSecondRefIdeal.nD Cert.MlpSecondRefIdeal.τ).loc Cert.MlpSecondRefIdeal.main_arg4))

def preserves_MlpThird_MlpThirdIdeal : Prop :=
  True

def algebraic_MlpThirdIdeal_MlpThirdRefIdeal [hMlpThirdIdeal : Cert.MlpThirdIdeal.Facts] [hMlpThirdRefIdeal : Cert.MlpThirdRefIdeal.Facts] : Prop :=
  ∀ (m : (ℓ : Loc Cert.MlpThirdIdeal.nD Cert.MlpThirdIdeal.τ Cert.MlpThirdIdeal.sig) → Buf (Elt Ideal) ℓ) (g : Dev Cert.MlpThirdIdeal.nD → PrngReg)
    (m' : (ℓ : Loc Cert.MlpThirdRefIdeal.nD Cert.MlpThirdRefIdeal.τ Cert.MlpThirdRefIdeal.sig) → Buf (Elt Ideal) ℓ) (g' : Dev Cert.MlpThirdRefIdeal.nD → PrngReg), Pre_MlpThirdIdeal m →
    (∀ c : Dev Cert.MlpThirdIdeal.nD,
      m' ((c.tc : Thread Cert.MlpThirdRefIdeal.nD Cert.MlpThirdRefIdeal.τ).loc Cert.MlpThirdRefIdeal.main_arg0) = m ((c.tc : Thread Cert.MlpThirdIdeal.nD Cert.MlpThirdIdeal.τ).loc Cert.MlpThirdIdeal.main_arg0)
      ∧ m' ((c.tc : Thread Cert.MlpThirdRefIdeal.nD Cert.MlpThirdRefIdeal.τ).loc Cert.MlpThirdRefIdeal.main_arg1) = m ((c.tc : Thread Cert.MlpThirdIdeal.nD Cert.MlpThirdIdeal.τ).loc Cert.MlpThirdIdeal.main_arg1)
      ∧ m' ((c.tc : Thread Cert.MlpThirdRefIdeal.nD Cert.MlpThirdRefIdeal.τ).loc Cert.MlpThirdRefIdeal.main_arg2) = m ((c.tc : Thread Cert.MlpThirdIdeal.nD Cert.MlpThirdIdeal.τ).loc Cert.MlpThirdIdeal.main_arg2)
      ∧ m' ((c.tc : Thread Cert.MlpThirdRefIdeal.nD Cert.MlpThirdRefIdeal.τ).loc Cert.MlpThirdRefIdeal.main_arg3) = m ((c.tc : Thread Cert.MlpThirdIdeal.nD Cert.MlpThirdIdeal.τ).loc Cert.MlpThirdIdeal.main_arg3)
      ∧ m' ((c.tc : Thread Cert.MlpThirdRefIdeal.nD Cert.MlpThirdRefIdeal.τ).loc Cert.MlpThirdRefIdeal.main_arg4) = m ((c.tc : Thread Cert.MlpThirdIdeal.nD Cert.MlpThirdIdeal.τ).loc Cert.MlpThirdIdeal.main_arg4)) →
    ∃ (v0 : (c : Dev Cert.MlpThirdIdeal.nD) → Buf (Elt Ideal) ((c.tc : Thread Cert.MlpThirdIdeal.nD Cert.MlpThirdIdeal.τ).loc Cert.MlpThirdIdeal.main_v5)),
      θ_run (Cert.MlpThirdIdeal.defs (F := Ideal)) (onTc (τ := Cert.MlpThirdIdeal.τ) (Cert.MlpThirdIdeal.main (F := Ideal))) ⟨m, fun _ => 0, g⟩ (fun r => ∀ c : Dev Cert.MlpThirdIdeal.nD,
          r.2.mem ((c.tc : Thread Cert.MlpThirdIdeal.nD Cert.MlpThirdIdeal.τ).loc Cert.MlpThirdIdeal.main_v5) = v0 c
          ∧ r.2.mem ((c.tc : Thread Cert.MlpThirdIdeal.nD Cert.MlpThirdIdeal.τ).loc Cert.MlpThirdIdeal.main_arg0) = m ((c.tc : Thread Cert.MlpThirdIdeal.nD Cert.MlpThirdIdeal.τ).loc Cert.MlpThirdIdeal.main_arg0)
          ∧ r.2.mem ((c.tc : Thread Cert.MlpThirdIdeal.nD Cert.MlpThirdIdeal.τ).loc Cert.MlpThirdIdeal.main_arg1) = m ((c.tc : Thread Cert.MlpThirdIdeal.nD Cert.MlpThirdIdeal.τ).loc Cert.MlpThirdIdeal.main_arg1)
          ∧ r.2.mem ((c.tc : Thread Cert.MlpThirdIdeal.nD Cert.MlpThirdIdeal.τ).loc Cert.MlpThirdIdeal.main_arg2) = m ((c.tc : Thread Cert.MlpThirdIdeal.nD Cert.MlpThirdIdeal.τ).loc Cert.MlpThirdIdeal.main_arg2)
          ∧ r.2.mem ((c.tc : Thread Cert.MlpThirdIdeal.nD Cert.MlpThirdIdeal.τ).loc Cert.MlpThirdIdeal.main_arg3) = m ((c.tc : Thread Cert.MlpThirdIdeal.nD Cert.MlpThirdIdeal.τ).loc Cert.MlpThirdIdeal.main_arg3)
          ∧ r.2.mem ((c.tc : Thread Cert.MlpThirdIdeal.nD Cert.MlpThirdIdeal.τ).loc Cert.MlpThirdIdeal.main_arg4) = m ((c.tc : Thread Cert.MlpThirdIdeal.nD Cert.MlpThirdIdeal.τ).loc Cert.MlpThirdIdeal.main_arg4))
      ∧ θ_run (Cert.MlpThirdRefIdeal.defs (F := Ideal)) (onTc (τ := Cert.MlpThirdRefIdeal.τ) (Cert.MlpThirdRefIdeal.main (F := Ideal))) ⟨m', fun _ => 0, g'⟩ (fun r => ∀ c : Dev Cert.MlpThirdRefIdeal.nD,
          r.2.mem ((c.tc : Thread Cert.MlpThirdRefIdeal.nD Cert.MlpThirdRefIdeal.τ).loc Cert.MlpThirdRefIdeal.main_v24) = v0 c
          ∧ r.2.mem ((c.tc : Thread Cert.MlpThirdRefIdeal.nD Cert.MlpThirdRefIdeal.τ).loc Cert.MlpThirdRefIdeal.main_arg0) = m' ((c.tc : Thread Cert.MlpThirdRefIdeal.nD Cert.MlpThirdRefIdeal.τ).loc Cert.MlpThirdRefIdeal.main_arg0)
          ∧ r.2.mem ((c.tc : Thread Cert.MlpThirdRefIdeal.nD Cert.MlpThirdRefIdeal.τ).loc Cert.MlpThirdRefIdeal.main_arg1) = m' ((c.tc : Thread Cert.MlpThirdRefIdeal.nD Cert.MlpThirdRefIdeal.τ).loc Cert.MlpThirdRefIdeal.main_arg1)
          ∧ r.2.mem ((c.tc : Thread Cert.MlpThirdRefIdeal.nD Cert.MlpThirdRefIdeal.τ).loc Cert.MlpThirdRefIdeal.main_arg2) = m' ((c.tc : Thread Cert.MlpThirdRefIdeal.nD Cert.MlpThirdRefIdeal.τ).loc Cert.MlpThirdRefIdeal.main_arg2)
          ∧ r.2.mem ((c.tc : Thread Cert.MlpThirdRefIdeal.nD Cert.MlpThirdRefIdeal.τ).loc Cert.MlpThirdRefIdeal.main_arg3) = m' ((c.tc : Thread Cert.MlpThirdRefIdeal.nD Cert.MlpThirdRefIdeal.τ).loc Cert.MlpThirdRefIdeal.main_arg3)
          ∧ r.2.mem ((c.tc : Thread Cert.MlpThirdRefIdeal.nD Cert.MlpThirdRefIdeal.τ).loc Cert.MlpThirdRefIdeal.main_arg4) = m' ((c.tc : Thread Cert.MlpThirdRefIdeal.nD Cert.MlpThirdRefIdeal.τ).loc Cert.MlpThirdRefIdeal.main_arg4))

def Claim : Prop :=
  ∃ (hRetention : Cert.Retention.Facts) (hRetentionIdeal : Cert.RetentionIdeal.Facts) (hRetentionRefIdeal : Cert.RetentionRefIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hMlpFirst : Cert.MlpFirst.Facts) (hMlpFirstIdeal : Cert.MlpFirstIdeal.Facts) (hMlpFirstRefIdeal : Cert.MlpFirstRefIdeal.Facts) (hGdnIn : Cert.GdnIn.Facts) (hGdnInIdeal : Cert.GdnInIdeal.Facts) (hGdnInRefIdeal : Cert.GdnInRefIdeal.Facts) (hMlpSecond : Cert.MlpSecond.Facts) (hMlpSecondIdeal : Cert.MlpSecondIdeal.Facts) (hMlpSecondRefIdeal : Cert.MlpSecondRefIdeal.Facts) (hMlpThird : Cert.MlpThird.Facts) (hMlpThirdIdeal : Cert.MlpThirdIdeal.Facts) (hMlpThirdRefIdeal : Cert.MlpThirdRefIdeal.Facts) (hPre_finite_projections : Cert.Pre_finite_projections.Facts),
    quiescent_Retention (hRetention := hRetention)
    ∧ quiescent_RetentionIdeal (hRetentionIdeal := hRetentionIdeal)
    ∧ quiescent_RetentionIdeal_pre_finite_projections (hRetentionIdeal := hRetentionIdeal) (hPre_finite_projections := hPre_finite_projections)
    ∧ quiescent_RetentionRefIdeal (hRetentionRefIdeal := hRetentionRefIdeal)
    ∧ quiescent_RetentionRefIdeal_pre_finite_projections (hRetentionRefIdeal := hRetentionRefIdeal) (hPre_finite_projections := hPre_finite_projections)
    ∧ quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_MlpFirst (hMlpFirst := hMlpFirst)
    ∧ quiescent_MlpFirstIdeal (hMlpFirstIdeal := hMlpFirstIdeal)
    ∧ quiescent_MlpFirstRefIdeal (hMlpFirstRefIdeal := hMlpFirstRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_MlpSecond (hMlpSecond := hMlpSecond)
    ∧ quiescent_MlpSecondIdeal (hMlpSecondIdeal := hMlpSecondIdeal)
    ∧ quiescent_MlpSecondRefIdeal (hMlpSecondRefIdeal := hMlpSecondRefIdeal)
    ∧ quiescent_MlpThird (hMlpThird := hMlpThird)
    ∧ quiescent_MlpThirdIdeal (hMlpThirdIdeal := hMlpThirdIdeal)
    ∧ quiescent_MlpThirdRefIdeal (hMlpThirdRefIdeal := hMlpThirdRefIdeal)
    ∧ preserves_Retention_RetentionIdeal
    ∧ algebraic_RetentionIdeal_RetentionRefIdeal_pre_finite_projections (hRetentionIdeal := hRetentionIdeal) (hRetentionRefIdeal := hRetentionRefIdeal) (hPre_finite_projections := hPre_finite_projections)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_MlpFirst_MlpFirstIdeal
    ∧ algebraic_MlpFirstIdeal_MlpFirstRefIdeal (hMlpFirstIdeal := hMlpFirstIdeal) (hMlpFirstRefIdeal := hMlpFirstRefIdeal)
    ∧ preserves_GdnIn_GdnInIdeal
    ∧ algebraic_GdnInIdeal_GdnInRefIdeal (hGdnInIdeal := hGdnInIdeal) (hGdnInRefIdeal := hGdnInRefIdeal)
    ∧ preserves_MlpSecond_MlpSecondIdeal
    ∧ algebraic_MlpSecondIdeal_MlpSecondRefIdeal (hMlpSecondIdeal := hMlpSecondIdeal) (hMlpSecondRefIdeal := hMlpSecondRefIdeal)
    ∧ preserves_MlpThird_MlpThirdIdeal
    ∧ algebraic_MlpThirdIdeal_MlpThirdRefIdeal (hMlpThirdIdeal := hMlpThirdIdeal) (hMlpThirdRefIdeal := hMlpThirdRefIdeal)
-- ==== Pre_finite_projections.lean ====
abbrev S4x4096x6144 : Shape := ⟨3, ![4, 4096, 6144]⟩
abbrev S4x4096x1024 : Shape := ⟨3, ![4, 4096, 1024]⟩
abbrev S2048x1024 : Shape := ⟨2, ![2048, 1024]⟩
abbrev S_ : Shape := ⟨0, ![]⟩

class Facts : Prop where
  bcast_S_S4x4096x6144 : S_.BroadcastsInDim S4x4096x6144 (![] : Fin 0 → Fin S4x4096x6144.rank)

variable [Facts]

def fn {F : FTy → Type} [FloatOps F] (main_arg0 : FVec F S4x4096x6144 .f32) (main_arg1 : FVec F S4x4096x1024 .f32) (main_arg2 : FVec F S2048x1024 .f32) : IVec S4x4096x6144 1 :=
  let main_v0 : FVec F S4x4096x6144 .f32 := Host.absf main_arg0
  let main_cst : FVec F S_ .f32 := constant S_ .f32 0x7F800000#32
  let main_v1 : FVec F S4x4096x6144 .f32 := broadcastInDim S4x4096x6144 ![] bcast_S_S4x4096x6144 main_cst
  let main_v2 : IVec S4x4096x6144 1 := cmpf .olt main_v0 main_v1
  main_v2
-- ==== Retention.lean ====
abbrev S4x4096x6144 : Shape := ⟨3, ![4, 4096, 6144]⟩
abbrev S4x4096x1024 : Shape := ⟨3, ![4, 4096, 1024]⟩
abbrev S2048x1024 : Shape := ⟨2, ![2048, 1024]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S1x512x6144 : Shape := ⟨3, ![1, 512, 6144]⟩
abbrev S1x512x1024 : Shape := ⟨3, ![1, 512, 1024]⟩
abbrev S512x128 : Shape := ⟨2, ![512, 128]⟩
abbrev S4x256x512 : Shape := ⟨3, ![4, 256, 512]⟩
abbrev S512x2048 : Shape := ⟨2, ![512, 2048]⟩
abbrev S4x256x256 : Shape := ⟨3, ![4, 256, 256]⟩
abbrev S256x256 : Shape := ⟨2, ![256, 256]⟩
abbrev S1x256x256 : Shape := ⟨3, ![1, 256, 256]⟩
abbrev S256x1 : Shape := ⟨2, ![256, 1]⟩
abbrev S256x128 : Shape := ⟨2, ![256, 128]⟩
abbrev S1x256x512 : Shape := ⟨3, ![1, 256, 512]⟩
abbrev S256x512 : Shape := ⟨2, ![256, 512]⟩
abbrev S256 : Shape := ⟨1, ![256]⟩
abbrev S512x1024 : Shape := ⟨2, ![512, 1024]⟩

abbrev nBuf : Space → Nat
  | .hbm => 27
  | .vmem => 14
  | .smem => 0
  | _ => 0

abbrev bufTy : (tb : Table) → Fin (tcTables nBuf tb) → BufTy
  | .hbm, ⟨0, _⟩ => ⟨S4x4096x6144, .f32⟩
  | .hbm, ⟨1, _⟩ => ⟨S4x4096x1024, .f32⟩
  | .hbm, ⟨2, _⟩ => ⟨S2048x1024, .f32⟩
  | .hbm, ⟨3, _⟩ => ⟨S4096, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S4096x1, .f32⟩
  | .hbm, ⟨19, _⟩ => ⟨S1x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S2048x1024, .bf16⟩
  | .hbm, ⟨26, _⟩ => ⟨S4x4096x1024, .f32⟩
  | .local _ .vmem, ⟨0, _⟩ => ⟨S1x512x6144, .f32⟩
  | .local _ .vmem, ⟨1, _⟩ => ⟨S1x512x6144, .f32⟩
  | .local _ .vmem, ⟨2, _⟩ => ⟨S1x512x1024, .f32⟩
  | .local _ .vmem, ⟨3, _⟩ => ⟨S1x512x1024, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2048x1024, .bf16⟩
  | .local _ .vmem, ⟨9, _⟩ => ⟨S1x512x1024, .f32⟩
  | .local _ .vmem, ⟨10, _⟩ => ⟨S1x512x1024, .f32⟩
  | .local _ .vmem, ⟨11, _⟩ => ⟨S4x256x512, .f32⟩
  | .local _ .vmem, ⟨12, _⟩ => ⟨S512x2048, .bf16⟩
  | .local _ .vmem, ⟨13, _⟩ => ⟨S4x256x256, .f32⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetentionIdeal.lean ====
variable {F : FTy → Type} [FloatOps F] [Named F]
def κ : String → Option EReal := fun
  | "chunk_dec0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "chunk_dec1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "chunk_dec2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "chunk_dec3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== RetentionRefIdeal.lean ====
abbrev S4x4096x6144 : Shape := ⟨3, ![4, 4096, 6144]⟩
abbrev S4x4096x1024 : Shape := ⟨3, ![4, 4096, 1024]⟩
abbrev S2048x1024 : Shape := ⟨2, ![2048, 1024]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S4x4096x4096 : Shape := ⟨3, ![4, 4096, 4096]⟩
abbrev S4x4096x2048 : Shape := ⟨3, ![4, 4096, 2048]⟩
abbrev S4x4096x4x256 : Shape := ⟨4, ![4, 4096, 4, 256]⟩
abbrev S4x4096x4x128 : Shape := ⟨4, ![4, 4096, 4, 128]⟩
abbrev S1x4096x1x128 : Shape := ⟨4, ![1, 4096, 1, 128]⟩
abbrev S4x4096x4x512 : Shape := ⟨4, ![4, 4096, 4, 512]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S64x4 : Shape := ⟨2, ![64, 4]⟩
abbrev S1x64x4x1 : Shape := ⟨4, ![1, 64, 4, 1]⟩
abbrev S1x4x1x1 : Shape := ⟨4, ![1, 4, 1, 1]⟩
abbrev S4x4x256x512 : Shape := ⟨4, ![4, 4, 256, 512]⟩
abbrev S4x64x64x4x256 : Shape := ⟨5, ![4, 64, 64, 4, 256]⟩
abbrev S64x4x64x4x256 : Shape := ⟨5, ![64, 4, 64, 4, 256]⟩
abbrev S4x64x64x4x512 : Shape := ⟨5, ![4, 64, 64, 4, 512]⟩
abbrev S64x4x64x4x512 : Shape := ⟨5, ![64, 4, 64, 4, 512]⟩
abbrev S1x4x64x4x256 : Shape := ⟨5, ![1, 4, 64, 4, 256]⟩
abbrev S4x64x4x256 : Shape := ⟨4, ![4, 64, 4, 256]⟩
abbrev S1x4x64x4x512 : Shape := ⟨5, ![1, 4, 64, 4, 512]⟩
abbrev S4x64x4x512 : Shape := ⟨4, ![4, 64, 4, 512]⟩
abbrev S4x4x64x64 : Shape := ⟨4, ![4, 4, 64, 64]⟩
abbrev S1x4x64x64 : Shape := ⟨4, ![1, 4, 64, 64]⟩
abbrev S4x4x512x64 : Shape := ⟨4, ![4, 4, 512, 64]⟩
abbrev S4x4096x4 : Shape := ⟨3, ![4, 4096, 4]⟩
abbrev S4x4096x4x1 : Shape := ⟨4, ![4, 4096, 4, 1]⟩

abbrev nBuf : Space → Nat
  | .hbm => 219
  | .vmem => 0
  | .smem => 0
  | _ => 0

abbrev hbmTy0_0 (i : Nat) : BufTy := match i % 128 with
  | 0 => ⟨S4x4096x6144, .f32⟩
  | 1 => ⟨S4x4096x1024, .f32⟩
  | 2 => ⟨S2048x1024, .f32⟩
  | 3 => ⟨S4096, .f32⟩
  | 4 => ⟨S128, .f32⟩
  | 5 => ⟨S_, .f32⟩
  | 6 => ⟨S128, .f32⟩
  | 7 => ⟨S128, .f32⟩
  | 8 => ⟨S_, .f32⟩
  | 9 => ⟨S128, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S4096x1, .f32⟩
  | 19 => ⟨S1x128, .f32⟩
  | 20 => ⟨S4096x128, .f32⟩
  | 21 => ⟨S4096x128, .f32⟩
  | 22 => ⟨S4096x128, .f32⟩
  | 23 => ⟨S4096x128, .f32⟩
  | 24 => ⟨S4096x128, .f32⟩
  | 25 => ⟨S4x4096x4096, .f32⟩
  | 26 => ⟨S4x4096x1024, .f32⟩
  | 27 => ⟨S4x4096x1024, .f32⟩
  | 28 => ⟨S4x4096x2048, .f32⟩
  | 29 => ⟨S4x4096x4x256, .f32⟩
  | 30 => ⟨S4x4096x4x128, .f32⟩
  | 31 => ⟨S4x4096x4x128, .f32⟩
  | 32 => ⟨S1x4096x1x128, .f32⟩
  | 33 => ⟨S1x4096x1x128, .f32⟩
  | 34 => ⟨S4x4096x4x128, .f32⟩
  | 35 => ⟨S4x4096x4x128, .f32⟩
  | 36 => ⟨S4x4096x4x128, .f32⟩
  | 37 => ⟨S4x4096x4x128, .f32⟩
  | 38 => ⟨S4x4096x4x128, .f32⟩
  | 39 => ⟨S4x4096x4x128, .f32⟩
  | 40 => ⟨S4x4096x4x128, .f32⟩
  | 41 => ⟨S4x4096x4x128, .f32⟩
  | 42 => ⟨S4x4096x4x128, .f32⟩
  | 43 => ⟨S4x4096x4x128, .f32⟩
  | 44 => ⟨S4x4096x4x256, .f32⟩
  | 45 => ⟨S4x4096x4x256, .f32⟩
  | 46 => ⟨S4x4096x4x128, .f32⟩
  | 47 => ⟨S4x4096x4x128, .f32⟩
  | 48 => ⟨S1x4096x1x128, .f32⟩
  | 49 => ⟨S1x4096x1x128, .f32⟩
  | 50 => ⟨S4x4096x4x128, .f32⟩
  | 51 => ⟨S4x4096x4x128, .f32⟩
  | 52 => ⟨S4x4096x4x128, .f32⟩
  | 53 => ⟨S4x4096x4x128, .f32⟩
  | 54 => ⟨S4x4096x4x128, .f32⟩
  | 55 => ⟨S4x4096x4x128, .f32⟩
  | 56 => ⟨S4x4096x4x128, .f32⟩
  | 57 => ⟨S4x4096x4x128, .f32⟩
  | 58 => ⟨S4x4096x4x128, .f32⟩
  | 59 => ⟨S4x4096x4x128, .f32⟩
  | 60 => ⟨S4x4096x4x256, .f32⟩
  | 61 => ⟨S_, .f32⟩
  | 62 => ⟨S4x4096x4x256, .f32⟩
  | 63 => ⟨S4x4096x4x256, .f32⟩
  | 64 => ⟨S4x4096x4x512, .f32⟩
  | 65 => ⟨S4, .f32⟩
  | 66 => ⟨S_, .f32⟩
  | 67 => ⟨S4, .f32⟩
  | 68 => ⟨S4, .f32⟩
  | 69 => ⟨S_, .f32⟩
  | 70 => ⟨S4, .f32⟩
  | 71 => ⟨S4, .f32⟩
  | 72 => ⟨S4, .f32⟩
  | 73 => ⟨S4, .f32⟩
  | 74 => ⟨S64, .f32⟩
  | 75 => ⟨S64x1, .f32⟩
  | 76 => ⟨S1x64, .f32⟩
  | 77 => ⟨S64x64, .f32⟩
  | 78 => ⟨S64x64, .f32⟩
  | 79 => ⟨S64x64, .f32⟩
  | 80 => ⟨S_, .f32⟩
  | 81 => ⟨S64x64, .f32⟩
  | 82 => ⟨S64x64, .i1⟩
  | 83 => ⟨S4x1x1, .f32⟩
  | 84 => ⟨S_, .f32⟩
  | 85 => ⟨S64x64, .f32⟩
  | 86 => ⟨S64x64, .f32⟩
  | 87 => ⟨S1x64x64, .f32⟩
  | 88 => ⟨S4x64x64, .f32⟩
  | 89 => ⟨S4x64x64, .f32⟩
  | 90 => ⟨S4x64x64, .f32⟩
  | 91 => ⟨S4x64x64, .f32⟩
  | 92 => ⟨S_, .f32⟩
  | 93 => ⟨S_, .f32⟩
  | 94 => ⟨S4x64x64, .i1⟩
  | 95 => ⟨S4x64x64, .f32⟩
  | 96 => ⟨S4x64x64, .f32⟩
  | 97 => ⟨S4x1, .f32⟩
  | 98 => ⟨S_, .f32⟩
  | 99 => ⟨S64, .f32⟩
  | 100 => ⟨S64, .f32⟩
  | 101 => ⟨S1x64, .f32⟩
  | 102 => ⟨S4x64, .f32⟩
  | 103 => ⟨S4x64, .f32⟩
  | 104 => ⟨S4x64, .f32⟩
  | 105 => ⟨S4x64, .f32⟩
  | 106 => ⟨S64x4, .f32⟩
  | 107 => ⟨S1x64x4x1, .f32⟩
  | 108 => ⟨S4x1, .f32⟩
  | 109 => ⟨S_, .f32⟩
  | 110 => ⟨S64, .f32⟩
  | 111 => ⟨S64, .f32⟩
  | 112 => ⟨S1x64, .f32⟩
  | 113 => ⟨S4x64, .f32⟩
  | 114 => ⟨S4x64, .f32⟩
  | 115 => ⟨S4x64, .f32⟩
  | 116 => ⟨S4x64, .f32⟩
  | 117 => ⟨S64x4, .f32⟩
  | 118 => ⟨S1x64x4x1, .f32⟩
  | 119 => ⟨S_, .f32⟩
  | 120 => ⟨S4, .f32⟩
  | 121 => ⟨S4, .f32⟩
  | 122 => ⟨S4, .f32⟩
  | 123 => ⟨S1x4x1x1, .f32⟩
  | 124 => ⟨S_, .f32⟩
  | 125 => ⟨S4x4x256x512, .f32⟩
  | 126 => ⟨S4x64x64x4x256, .f32⟩
  | 127 => ⟨S64x4x64x4x256, .f32⟩
  | _ => ⟨S4x4096x6144, .f32⟩

abbrev hbmTy0_1 (i : Nat) : BufTy := match i % 128 with
  | 0 => ⟨S4x64x64x4x256, .f32⟩
  | 1 => ⟨S64x4x64x4x256, .f32⟩
  | 2 => ⟨S4x64x64x4x512, .f32⟩
  | 3 => ⟨S64x4x64x4x512, .f32⟩
  | 4 => ⟨S_, .f32⟩
  | 5 => ⟨S64x4x64x4x512, .f32⟩
  | 6 => ⟨S_, .i32⟩
  | 7 => ⟨S64x4x64x4x256, .f32⟩
  | 8 => ⟨S64x4x64x4x256, .f32⟩
  | 9 => ⟨S64x4x64x4x512, .f32⟩
  | 10 => ⟨S4x64x64, .f32⟩
  | 11 => ⟨S1x64x4x1, .f32⟩
  | 12 => ⟨S1x4x1x1, .f32⟩
  | 13 => ⟨S1x64x4x1, .f32⟩
  | 14 => ⟨S_, .i32⟩
  | 15 => ⟨S4x4x256x512, .f32⟩
  | 16 => ⟨S64x4x64x4x512, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S1x4x64x4x256, .f32⟩
  | 24 => ⟨S4x64x4x256, .f32⟩
  | 25 => ⟨S_, .i32⟩
  | 26 => ⟨S_, .i32⟩
  | 27 => ⟨S_, .i32⟩
  | 28 => ⟨S_, .i32⟩
  | 29 => ⟨S1x4x64x4x256, .f32⟩
  | 30 => ⟨S4x64x4x256, .f32⟩
  | 31 => ⟨S_, .i32⟩
  | 32 => ⟨S_, .i32⟩
  | 33 => ⟨S_, .i32⟩
  | 34 => ⟨S_, .i32⟩
  | 35 => ⟨S1x4x64x4x512, .f32⟩
  | 36 => ⟨S4x64x4x512, .f32⟩
  | 37 => ⟨S4x4x64x64, .f32⟩
  | 38 => ⟨S1x4x64x64, .f32⟩
  | 39 => ⟨S4x4x64x64, .f32⟩
  | 40 => ⟨S4x4x64x64, .f32⟩
  | 41 => ⟨S4x4x512x64, .f32⟩
  | 42 => ⟨S4x64x4x512, .f32⟩
  | 43 => ⟨S4x4x512x64, .f32⟩
  | 44 => ⟨S4x64x4x512, .f32⟩
  | 45 => ⟨S4x64x4x512, .f32⟩
  | 46 => ⟨S4x64x4x512, .f32⟩
  | 47 => ⟨S4x64x4x512, .f32⟩
  | 48 => ⟨S4x4x256x512, .f32⟩
  | 49 => ⟨S4x4x256x512, .f32⟩
  | 50 => ⟨S4x64x4x256, .f32⟩
  | 51 => ⟨S4x64x4x256, .f32⟩
  | 52 => ⟨S4x4x256x512, .f32⟩
  | 53 => ⟨S4x4x256x512, .f32⟩
  | 54 => ⟨S1x4x64x4x512, .f32⟩
  | 55 => ⟨S_, .i32⟩
  | 56 => ⟨S_, .i32⟩
  | 57 => ⟨S_, .i32⟩
  | 58 => ⟨S_, .i32⟩
  | 59 => ⟨S64x4x64x4x512, .f32⟩
  | 60 => ⟨S_, .i32⟩
  | 61 => ⟨S_, .i32⟩
  | 62 => ⟨S4x64x64x4x512, .f32⟩
  | 63 => ⟨S4x4096x4x512, .f32⟩
  | 64 => ⟨S4x4096x4x512, .f32⟩
  | 65 => ⟨S_, .f32⟩
  | 66 => ⟨S4x4096x4, .f32⟩
  | 67 => ⟨S4x4096x4x1, .f32⟩
  | 68 => ⟨S_, .f32⟩
  | 69 => ⟨S4x4096x4x1, .f32⟩
  | 70 => ⟨S4x4096x4x1, .f32⟩
  | 71 => ⟨S_, .f32⟩
  | 72 => ⟨S4x4096x4x1, .f32⟩
  | 73 => ⟨S4x4096x4x1, .f32⟩
  | 74 => ⟨S4x4096x4x1, .f32⟩
  | 75 => ⟨S4x4096x4x512, .f32⟩
  | 76 => ⟨S4x4096x4x512, .f32⟩
  | 77 => ⟨S4x4096x2048, .f32⟩
  | 78 => ⟨S4x4096x2048, .f32⟩
  | 79 => ⟨S4x4096x2048, .f32⟩
  | 80 => ⟨S4x4096x2048, .f32⟩
  | 81 => ⟨S_, .f32⟩
  | 82 => ⟨S4x4096x2048, .f32⟩
  | 83 => ⟨S4x4096x2048, .f32⟩
  | 84 => ⟨S_, .f32⟩
  | 85 => ⟨S4x4096x2048, .f32⟩
  | 86 => ⟨S4x4096x2048, .f32⟩
  | 87 => ⟨S4x4096x2048, .f32⟩
  | 88 => ⟨S4x4096x2048, .f32⟩
  | 89 => ⟨S4x4096x1024, .f32⟩
  | 90 => ⟨S4x4096x1024, .f32⟩
  | _ => ⟨S4x4096x6144, .f32⟩

abbrev hbmTy (i : Nat) : BufTy := match i / 128 with
  | 0 => hbmTy0_0 i
  | 1 => hbmTy0_1 i
  | _ => ⟨S4x4096x6144, .f32⟩

abbrev bufTy : (tb : Table) → Fin (tcTables nBuf tb) → BufTy
  | .hbm, ⟨i, _⟩ => hbmTy i
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_6 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_7 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_8 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_v80 : Ref sig .tc := ⟨.hbm, 96, rfl⟩
abbrev main_v81 : Ref sig .tc := ⟨.hbm, 97, rfl⟩
abbrev main_cst_9 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_10 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_11 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_12 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_13 : Ref sig .tc := ⟨.hbm, 132, rfl⟩
abbrev main_v112 : Ref sig .tc := ⟨.hbm, 133, rfl⟩
abbrev main_c : Ref sig .tc := ⟨.hbm, 134, rfl⟩
abbrev main_v113_0 : Ref sig .tc := ⟨.hbm, 135, rfl⟩
abbrev main_v113_1 : Ref sig .tc := ⟨.hbm, 136, rfl⟩
abbrev main_v113_2 : Ref sig .tc := ⟨.hbm, 137, rfl⟩
abbrev main_v113_3 : Ref sig .tc := ⟨.hbm, 138, rfl⟩
abbrev main_v113_4 : Ref sig .tc := ⟨.hbm, 139, rfl⟩
abbrev main_v113_5 : Ref sig .tc := ⟨.hbm, 140, rfl⟩
abbrev main_v113_6 : Ref sig .tc := ⟨.hbm, 141, rfl⟩
abbrev main_v113_7 : Ref sig .tc := ⟨.hbm, 142, rfl⟩
abbrev main_v113_8 : Ref sig .tc := ⟨.hbm, 143, rfl⟩
abbrev main_v113_9 : Ref sig .tc := ⟨.hbm, 144, rfl⟩
abbrev main_while0c_c_26 : Ref sig .tc := ⟨.hbm, 145, rfl⟩
abbrev main_while0c_v132 : Ref sig .tc := ⟨.hbm, 146, rfl⟩
abbrev main_while0b_call1_c : Ref sig .tc := ⟨.hbm, 147, rfl⟩
abbrev main_while0b_call1_c_0 : Ref sig .tc := ⟨.hbm, 148, rfl⟩
abbrev main_while0b_call1_c_1 : Ref sig .tc := ⟨.hbm, 149, rfl⟩
abbrev main_while0b_call1_c_2 : Ref sig .tc := ⟨.hbm, 150, rfl⟩
abbrev main_while0b_call1_v0 : Ref sig .tc := ⟨.hbm, 151, rfl⟩
abbrev main_while0b_v132 : Ref sig .tc := ⟨.hbm, 152, rfl⟩
abbrev main_while0b_call2_c : Ref sig .tc := ⟨.hbm, 153, rfl⟩
abbrev main_while0b_call2_c_0 : Ref sig .tc := ⟨.hbm, 154, rfl⟩
abbrev main_while0b_call2_c_1 : Ref sig .tc := ⟨.hbm, 155, rfl⟩
abbrev main_while0b_call2_c_2 : Ref sig .tc := ⟨.hbm, 156, rfl⟩
abbrev main_while0b_call2_v0 : Ref sig .tc := ⟨.hbm, 157, rfl⟩
abbrev main_while0b_v133 : Ref sig .tc := ⟨.hbm, 158, rfl⟩
abbrev main_while0b_call3_c : Ref sig .tc := ⟨.hbm, 159, rfl⟩
abbrev main_while0b_call3_c_0 : Ref sig .tc := ⟨.hbm, 160, rfl⟩
abbrev main_while0b_call3_c_1 : Ref sig .tc := ⟨.hbm, 161, rfl⟩
abbrev main_while0b_call3_c_2 : Ref sig .tc := ⟨.hbm, 162, rfl⟩
abbrev main_while0b_call3_v0 : Ref sig .tc := ⟨.hbm, 163, rfl⟩
abbrev main_while0b_v134 : Ref sig .tc := ⟨.hbm, 164, rfl⟩
abbrev main_while0b_v135 : Ref sig .tc := ⟨.hbm, 165, rfl⟩
abbrev main_while0b_v136 : Ref sig .tc := ⟨.hbm, 166, rfl⟩
abbrev main_while0b_v137 : Ref sig .tc := ⟨.hbm, 167, rfl⟩
abbrev main_while0b_v138 : Ref sig .tc := ⟨.hbm, 168, rfl⟩
abbrev main_while0b_v139 : Ref sig .tc := ⟨.hbm, 169, rfl⟩
abbrev main_while0b_v140 : Ref sig .tc := ⟨.hbm, 170, rfl⟩
abbrev main_while0b_v141 : Ref sig .tc := ⟨.hbm, 171, rfl⟩
abbrev main_while0b_v142 : Ref sig .tc := ⟨.hbm, 172, rfl⟩
abbrev main_while0b_v143 : Ref sig .tc := ⟨.hbm, 173, rfl⟩
abbrev main_while0b_v144 : Ref sig .tc := ⟨.hbm, 174, rfl⟩
abbrev main_while0b_v145 : Ref sig .tc := ⟨.hbm, 175, rfl⟩
abbrev main_while0b_v146 : Ref sig .tc := ⟨.hbm, 176, rfl⟩
abbrev main_while0b_v147 : Ref sig .tc := ⟨.hbm, 177, rfl⟩
abbrev main_while0b_v148 : Ref sig .tc := ⟨.hbm, 178, rfl⟩
abbrev main_while0b_v149 : Ref sig .tc := ⟨.hbm, 179, rfl⟩
abbrev main_while0b_v150 : Ref sig .tc := ⟨.hbm, 180, rfl⟩
abbrev main_while0b_v151 : Ref sig .tc := ⟨.hbm, 181, rfl⟩
abbrev main_while0b_call4_v0 : Ref sig .tc := ⟨.hbm, 182, rfl⟩
abbrev main_while0b_call4_c : Ref sig .tc := ⟨.hbm, 183, rfl⟩
abbrev main_while0b_call4_c_0 : Ref sig .tc := ⟨.hbm, 184, rfl⟩
abbrev main_while0b_call4_c_1 : Ref sig .tc := ⟨.hbm, 185, rfl⟩
abbrev main_while0b_call4_c_2 : Ref sig .tc := ⟨.hbm, 186, rfl⟩
abbrev main_while0b_v152 : Ref sig .tc := ⟨.hbm, 187, rfl⟩
abbrev main_while0b_c_26 : Ref sig .tc := ⟨.hbm, 188, rfl⟩
abbrev main_while0b_v153 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_14 : Ref sig .tc := ⟨.hbm, 193, rfl⟩
abbrev main_v117 : Ref sig .tc := ⟨.hbm, 194, rfl⟩
abbrev main_v118 : Ref sig .tc := ⟨.hbm, 195, rfl⟩
abbrev main_cst_15 : Ref sig .tc := ⟨.hbm, 196, rfl⟩
abbrev main_v119 : Ref sig .tc := ⟨.hbm, 197, rfl⟩
abbrev main_v120 : Ref sig .tc := ⟨.hbm, 198, rfl⟩
abbrev main_cst_16 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_call5_v0 : Ref sig .tc := ⟨.hbm, 207, rfl⟩
abbrev main_call5_v1 : Ref sig .tc := ⟨.hbm, 208, rfl⟩
abbrev main_call5_cst : Ref sig .tc := ⟨.hbm, 209, rfl⟩
abbrev main_call5_v2 : Ref sig .tc := ⟨.hbm, 210, rfl⟩
abbrev main_call5_v3 : Ref sig .tc := ⟨.hbm, 211, rfl⟩
abbrev main_call5_cst_0 : Ref sig .tc := ⟨.hbm, 212, rfl⟩
abbrev main_call5_v4 : Ref sig .tc := ⟨.hbm, 213, rfl⟩
abbrev main_call5_v5 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩

abbrev nD : Nat := 1
abbrev τ : Topo := Topo.v7x

variable {F : FTy → Type} [FloatOps F]

abbrev main_while0_count : Scf.Loop 32 := ⟨0#32, 64#32, 1#32⟩
-- ==== Mlp.lean ====
abbrev S4x4096x1024 : Shape := ⟨3, ![4, 4096, 1024]⟩
abbrev S4x1024 : Shape := ⟨2, ![4, 1024]⟩
abbrev S4x1024x4096 : Shape := ⟨3, ![4, 1024, 4096]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S4x4096x1024 : Shape := ⟨3, ![4, 4096, 1024]⟩
abbrev S4x1024 : Shape := ⟨2, ![4, 1024]⟩
abbrev S4x1024x4096 : Shape := ⟨3, ![4, 1024, 4096]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1x1024x4096, .f32⟩
  | .hbm, ⟨24, _⟩ => ⟨S1024x4096, .f32⟩
  | .hbm, ⟨25, _⟩ => ⟨S1x4096x1024, .f32⟩
  | .hbm, ⟨26, _⟩ => ⟨S4096x1024, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== InProj.lean ====
abbrev S4x4096x1024 : Shape := ⟨3, ![4, 4096, 1024]⟩
abbrev S4x1024 : Shape := ⟨2, ![4, 1024]⟩
abbrev S1x1024x6144 : Shape := ⟨3, ![1, 1024, 6144]⟩
abbrev S16384x1024 : Shape := ⟨2, ![16384, 1024]⟩
abbrev S1x1024 : Shape := ⟨2, ![1, 1024]⟩
abbrev S1024 : Shape := ⟨1, ![1024]⟩
abbrev S1024x6144 : Shape := ⟨2, ![1024, 6144]⟩
abbrev S16384x6144 : Shape := ⟨2, ![16384, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩

abbrev nBuf : Space → Nat
  | .hbm => 10
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1x1024x6144, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1024x6144, .f32⟩
  | .hbm, ⟨7, _⟩ => ⟨S1024x6144, .bf16⟩
  | .hbm, ⟨8, _⟩ => ⟨S1x1024, .f32⟩
  | .hbm, ⟨9, _⟩ => ⟨S16384x6144, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x6144, .f32⟩
  | .local _ .vmem, ⟨5, _⟩ => ⟨S512x6144, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S4x4096x1024 : Shape := ⟨3, ![4, 4096, 1024]⟩
abbrev S4x1024 : Shape := ⟨2, ![4, 1024]⟩
abbrev S1x1024x6144 : Shape := ⟨3, ![1, 1024, 6144]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x6144 : Shape := ⟨2, ![1024, 6144]⟩
abbrev S4x4096x6144 : Shape := ⟨3, ![4, 4096, 6144]⟩
abbrev S16384x6144 : Shape := ⟨2, ![16384, 6144]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1x1024x6144, .f32⟩
  | .hbm, ⟨3, _⟩ => ⟨S1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x6144, .f32⟩
  | .hbm, ⟨22, _⟩ => ⟨S4x4096x6144, .f32⟩
  | .hbm, ⟨23, _⟩ => ⟨S16384x6144, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MlpFirst.lean ====
abbrev S4x4096x1024 : Shape := ⟨3, ![4, 4096, 1024]⟩
abbrev S4x1024 : Shape := ⟨2, ![4, 1024]⟩
abbrev S4x1024x4096 : Shape := ⟨3, ![4, 1024, 4096]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpFirstRefIdeal.lean ====
abbrev S4x4096x1024 : Shape := ⟨3, ![4, 4096, 1024]⟩
abbrev S4x1024 : Shape := ⟨2, ![4, 1024]⟩
abbrev S4x1024x4096 : Shape := ⟨3, ![4, 1024, 4096]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1x1024x4096, .f32⟩
  | .hbm, ⟨24, _⟩ => ⟨S1024x4096, .f32⟩
  | .hbm, ⟨25, _⟩ => ⟨S1x4096x1024, .f32⟩
  | .hbm, ⟨26, _⟩ => ⟨S4096x1024, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x1024, .f32⟩
  | .hbm, ⟨33, _⟩ => ⟨S4x4096x1024, .f32⟩
  | .hbm, ⟨34, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== GdnIn.lean ====
abbrev S4x4096x1024 : Shape := ⟨3, ![4, 4096, 1024]⟩
abbrev S4x1024 : Shape := ⟨2, ![4, 1024]⟩
abbrev S1x1024x6176 : Shape := ⟨3, ![1, 1024, 6176]⟩
abbrev S1024x6176 : Shape := ⟨2, ![1024, 6176]⟩
abbrev S1024x32 : Shape := ⟨2, ![1024, 32]⟩
abbrev S_ : Shape := ⟨0, ![]⟩
abbrev S1024x128 : Shape := ⟨2, ![1024, 128]⟩
abbrev S16384x1024 : Shape := ⟨2, ![16384, 1024]⟩
abbrev S1x1024 : Shape := ⟨2, ![1, 1024]⟩
abbrev S1024 : Shape := ⟨1, ![1024]⟩
abbrev S128x49x136x128 : Shape := ⟨4, ![128, 49, 136, 128]⟩
abbrev S512x1024 : Shape := ⟨2, ![512, 1024]⟩
abbrev S1024x6144 : Shape := ⟨2, ![1024, 6144]⟩
abbrev S4x49x136x128 : Shape := ⟨4, ![4, 49, 136, 128]⟩
abbrev S512 : Shape := ⟨1, ![512]⟩
abbrev S512x1 : Shape := ⟨2, ![512, 1]⟩
abbrev S512x6144 : Shape := ⟨2, ![512, 6144]⟩
abbrev S512x128 : Shape := ⟨2, ![512, 128]⟩
abbrev S128x128 : Shape := ⟨2, ![128, 128]⟩
abbrev S16x128 : Shape := ⟨2, ![16, 128]⟩
abbrev S1x1x136x128 : Shape := ⟨4, ![1, 1, 136, 128]⟩
abbrev S136x128 : Shape := ⟨2, ![136, 128]⟩
abbrev S8x128 : Shape := ⟨2, ![8, 128]⟩
abbrev S1x1x8x128 : Shape := ⟨4, ![1, 1, 8, 128]⟩
abbrev S128x49x8x17x128 : Shape := ⟨5, ![128, 49, 8, 17, 128]⟩
abbrev S128x49x8x16x128 : Shape := ⟨5, ![128, 49, 8, 16, 128]⟩
abbrev S128x8x16x49x128 : Shape := ⟨5, ![128, 8, 16, 49, 128]⟩
abbrev S4x4096x6272 : Shape := ⟨3, ![4, 4096, 6272]⟩
abbrev S4x4096x6176 : Shape := ⟨3, ![4, 4096, 6176]⟩

abbrev nBuf : Space → Nat
  | .hbm => 20
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1x1024x6176, .f32⟩
  | .hbm, ⟨3, _⟩ => ⟨S1024x6176, .f32⟩
  | .hbm, ⟨4, _⟩ => ⟨S1024x32, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x128, .bf16⟩
  | .hbm, ⟨9, _⟩ => ⟨S16384x1024, .f32⟩
  | .hbm, ⟨10, _⟩ => ⟨S1x1024, .f32⟩
  | .hbm, ⟨11, _⟩ => ⟨S1024, .f32⟩
  | .hbm, ⟨12, _⟩ => ⟨S1024x6176, .bf16⟩
  | .hbm, ⟨13, _⟩ => ⟨S1x1024, .f32⟩
  | .hbm, ⟨14, _⟩ => ⟨S128x49x136x128, .f32⟩
  | .hbm, ⟨15, _⟩ => ⟨S128x49x8x17x128, .f32⟩
  | .hbm, ⟨16, _⟩ => ⟨S128x49x8x16x128, .f32⟩
  | .hbm, ⟨17, _⟩ => ⟨S128x8x16x49x128, .f32⟩
  | .hbm, ⟨18, _⟩ => ⟨S4x4096x6272, .f32⟩
  | .hbm, ⟨19, _⟩ => ⟨S4x4096x6176, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S1024x128, .bf16⟩
  | .local _ .vmem, ⟨5, _⟩ => ⟨S4x49x136x128, .f32⟩
  | .local _ .vmem, ⟨6, _⟩ => ⟨S4x49x136x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x49x136x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnInRefIdeal.lean ====
abbrev S4x4096x1024 : Shape := ⟨3, ![4, 4096, 1024]⟩
abbrev S4x1024 : Shape := ⟨2, ![4, 1024]⟩
abbrev S1x1024x6176 : Shape := ⟨3, ![1, 1024, 6176]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x6176 : Shape := ⟨2, ![1024, 6176]⟩
abbrev S4x4096x6176 : Shape := ⟨3, ![4, 4096, 6176]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1x1024x6176, .f32⟩
  | .hbm, ⟨3, _⟩ => ⟨S1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x6176, .f32⟩
  | .hbm, ⟨22, _⟩ => ⟨S4x4096x6176, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MlpSecond.lean ====
abbrev S4x4096x1024 : Shape := ⟨3, ![4, 4096, 1024]⟩
abbrev S4x1024 : Shape := ⟨2, ![4, 1024]⟩
abbrev S4x1024x4096 : Shape := ⟨3, ![4, 1024, 4096]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpSecondRefIdeal.lean ====
abbrev S4x4096x1024 : Shape := ⟨3, ![4, 4096, 1024]⟩
abbrev S4x1024 : Shape := ⟨2, ![4, 1024]⟩
abbrev S4x1024x4096 : Shape := ⟨3, ![4, 1024, 4096]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1x1024x4096, .f32⟩
  | .hbm, ⟨24, _⟩ => ⟨S1024x4096, .f32⟩
  | .hbm, ⟨25, _⟩ => ⟨S1x4096x1024, .f32⟩
  | .hbm, ⟨26, _⟩ => ⟨S4096x1024, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x1024, .f32⟩
  | .hbm, ⟨33, _⟩ => ⟨S4x4096x1024, .f32⟩
  | .hbm, ⟨34, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== MlpThird.lean ====
abbrev S4x4096x1024 : Shape := ⟨3, ![4, 4096, 1024]⟩
abbrev S4x1024 : Shape := ⟨2, ![4, 1024]⟩
abbrev S4x1024x4096 : Shape := ⟨3, ![4, 1024, 4096]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpThirdRefIdeal.lean ====
abbrev S4x4096x1024 : Shape := ⟨3, ![4, 4096, 1024]⟩
abbrev S4x1024 : Shape := ⟨2, ![4, 1024]⟩
abbrev S4x1024x4096 : Shape := ⟨3, ![4, 1024, 4096]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1x1024x4096, .f32⟩
  | .hbm, ⟨24, _⟩ => ⟨S1024x4096, .f32⟩
  | .hbm, ⟨25, _⟩ => ⟨S1x4096x1024, .f32⟩
  | .hbm, ⟨26, _⟩ => ⟨S4096x1024, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x1024, .f32⟩
  | .hbm, ⟨33, _⟩ => ⟨S4x4096x1024, .f32⟩
  | .hbm, ⟨34, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.GdnInSlab.lean ====
/- The gated DeltaNet projection's kernel body, written as a recursion: four loads, two products, and then 3528 accesses
   to the output block, each given by its number. -/
module

public import proofs.«01_k».proof.GdnInIdeal
public import Idealize.ShloMosaic.Lib.Tactic

@[expose] public section

noncomputable section

namespace Cert.Proof.GdnIn

open Cert.GdnInIdeal Idealize.ShloMosaic Idealize.ShloMosaic.Tactic Idealize.SL.Sem
open Facts₀ Facts

variable {F : FTy → Type} [FloatOps F] [Facts]

theorem lt_of_ble {a b : Nat} (h : Nat.ble a b = false) : b < a :=
  Nat.lt_of_not_le fun hle => absurd (Nat.ble_eq_true_of_le hle) (by rw [h]; exact Bool.false_ne_true)

theorem slices_piece (r k : Nat) (hr : r < 4) (hk : k < 48) :
    S512x6144.Slices ![128 * r, 128 * k] S128x128 :=
  ⟨rfl, fun a => by
    fin_cases a
    · show 128 * r + 128 ≤ 512; omega
    · show 128 * k + 128 ≤ 6144; omega⟩

theorem slices_tail (r : Nat) (hr : r < 4) : S512x128.Slices ![128 * r, 0] S128x128 :=
  ⟨rfl, fun a => by
    fin_cases a
    · show 128 * r + 128 ≤ 512; omega
    · show 0 + 128 ≤ 128; omega⟩

theorem slices_rows (s : Nat) (hs : s < 8) : S128x128.Slices ![16 * s, 0] S16x128 :=
  ⟨rfl, fun a => by
    fin_cases a
    · show 16 * s + 16 ≤ 128; omega
    · show 0 + 128 ≤ 128; omega⟩

theorem inb_slab (r k : Nat) (hr : r < 4) (hk : k < 49) :
    ∀ a, (![r, k, 0, 0] : Fin 4 → Nat) a + S1x1x136x128.size a ≤ S4x49x136x128.size a := fun a => by
  fin_cases a
  · show r + 1 ≤ 4; omega
  · show k + 1 ≤ 49; omega
  · show 0 + 136 ≤ 136; omega
  · show 0 + 128 ≤ 128; omega

theorem inb_rows (s : Nat) (hs : s < 8) :
    ∀ a, (![17 * s, 0] : Fin 2 → Nat) a + S16x128.size a ≤ S136x128.size a := fun a => by
  fin_cases a
  · show 17 * s + 16 ≤ 136; omega
  · show 0 + 128 ≤ 128; omega

theorem inb_gap (r k : Nat) (hr : r < 4) (hk : k < 49) :
    ∀ a, S1x1x8x128.size a = 0 ∨ (![r, k, 16, 0] : Fin 4 → Nat) a + (![1, 1, 17, 1] : Fin 4 → Nat) a * (S1x1x8x128.size a - 1) < S4x49x136x128.size a := fun a => by
  right
  fin_cases a
  · show r + 1 * 0 < 4; omega
  · show k + 1 * 0 < 49; omega
  · show 16 + 17 * 7 < 136; omega
  · show 0 + 1 * 127 < 128; omega

/-- Chunk `r`'s lane tile `k` of the projected rows. -/
abbrev piece (z : FVec F S512x6144 .f32) (z2 : FVec F S512x128 .f32) (r k : Nat) (hr : r < 4) : FVec F S128x128 .f32 :=
  Bool.rec (motive := fun b => Nat.ble 48 k = b → FVec F S128x128 .f32)
    (fun h => extractStridedSlice S128x128 ![128 * r, 128 * k] z
      (slices_piece r k hr (lt_of_ble h)))
    (fun _ => extractStridedSlice S128x128 ![128 * r, 0] z2 (slices_tail r hr)) (Nat.ble 48 k) rfl

abbrev slab (arg5 : Memref sig .tc .vmem S4x49x136x128 .f32) (r k : Nat) (hr : r < 4) (hk : k < 49) :
    Memref sig .tc .vmem S136x128 .f32 :=
  (arg5.slice (Rect.unit (s := S4x49x136x128) ![r, k, 0, 0] S1x1x136x128.size (inb_slab r k hr hk)) (fun _ => rfl)).squeeze
    S136x128 squeezes_S1x1x136x128_S136x128

abbrev rowsRect (s : Nat) (hs : s < 8) : Rect S136x128 := Rect.unit (s := S136x128) ![17 * s, 0] S16x128.size (inb_rows s hs)
abbrev gapRect (r k : Nat) (hr : r < 4) (hk : k < 49) : LoadRect S4x49x136x128 :=
  ⟨![r, k, 16, 0], S1x1x8x128.size, ![1, 1, 17, 1], inb_gap r k hr hk⟩

abbrev P := Prog (TpuEff nD τ sig (Elt F) Λ₀ .tc)

/-- One access: group `s` of chunk `r`'s lane tile `k` (`s = 8`: the rows between the groups), read when `w`
    is false and written when it is true. -/
abbrev access (z : FVec F S512x6144 .f32) (z2 : FVec F S512x128 .f32) (arg5 : Memref sig .tc .vmem S4x49x136x128 .f32)
    (r k s : Nat) (w : Bool) (hr : r < 4) (hk : k < 49) : P (F := F) PUnit :=
  Bool.rec (motive := fun b => Nat.ble 8 s = b → P (F := F) PUnit)
    (fun h =>
      have hs : s < 8 := lt_of_ble h
      Bool.rec (motive := fun _ => P (F := F) PUnit)
        (Prog.op (.load (slab arg5 r k hr hk) (rowsRect s hs).toLoadRect (View.loadsAt_vmem h_S16x128)) fun _ => .ret ⟨⟩)
        (Prog.op (.store (slab arg5 r k hr hk) (rowsRect s hs) (extractStridedSlice S16x128 ![16 * s, 0] (piece z z2 r k hr) (slices_rows s hs))
          Finset.univ (View.stores_vmem_bits_univ h_S16x128 rfl) (.inl rfl)) fun _ => .ret ⟨⟩) w)
    (fun _ =>
      Bool.rec (motive := fun _ => P (F := F) PUnit)
        (Prog.op (.load arg5 (gapRect r k hr hk) (View.loadsAt_vmem h_S1x1x8x128)) fun _ => .ret ⟨⟩)
        (Prog.op (.store arg5 ⟨gapRect r k hr hk, spos_1_1_17_1⟩
          (shapeCast S1x1x8x128 (broadcast S8x128 (Scalar.ofBits .f32 0x00000000#32 : F .f32)) shapeCasts_S8x128_S1x1x8x128)
          Finset.univ (View.stores_vmem_bits_univ h_S1x1x8x128 rfl) (.inl rfl)) fun _ => .ret ⟨⟩) w)
    (Nat.ble 8 s) rfl

theorem lt_chunk (n : Nat) (h : n < 3528) : Nat.div n 882 < 4 := by
  show n / 882 < 4; omega
theorem lt_tile (n : Nat) : Nat.mod (Nat.div n 18) 49 < 49 := by
  show n / 18 % 49 < 49; omega

/-- The `n`-th access: `18` of a lane tile, `882` of a chunk. -/
abbrev accessAt (z : FVec F S512x6144 .f32) (z2 : FVec F S512x128 .f32) (arg5 : Memref sig .tc .vmem S4x49x136x128 .f32)
    (n : Nat) (h : n < 3528) : P (F := F) PUnit :=
  access z z2 arg5 (Nat.div n 882) (Nat.mod (Nat.div n 18) 49) (Nat.div (Nat.mod n 18) 2) (Nat.ble 1 (Nat.mod n 2)) (lt_chunk n h) (lt_tile n)

/-- The `len` accesses up to access `e`. -/
abbrev accesses (z : FVec F S512x6144 .f32) (z2 : FVec F S512x128 .f32) (arg5 : Memref sig .tc .vmem S4x49x136x128 .f32)
    (e : Nat) (he : e ≤ 3528) (len : Nat) : len ≤ e → P (F := F) PUnit :=
  Nat.rec (motive := fun len => len ≤ e → P (F := F) PUnit) (fun _ => .ret ⟨⟩)
    (fun len ih h => Prog.bind (accessAt z z2 arg5 (Nat.sub e (Nat.succ len)) (by show e - (len + 1) < _; omega)) fun _ => ih (Nat.le_of_succ_le h)) len

/-- A point's 512 rows, each divided by its root mean square, times the gain. -/
abbrev normed (x : Vec F S512x1024 .f32) (g : Vec F S1x1024 .f32) : FVec F S512x1024 .bf16 :=
  have x' : FVec F S512x1024 .f32 := shapeCast S512x1024 x shapeCasts_S512x1024_S512x1024
  truncf .bf16 (mulf (mulf x' (broadcastTo S512x1024 (rsqrt (addf (divf
    (shapeCast S512x1 (multiReduction .add [1] S512 (mulf x' x') 0x00000000#32 reduces_S512x1024_S512 (.inl rfl) rfl) shapeCasts_S512_S512x1)
    (broadcast S512x1 (Scalar.ofBits .f32 0x44800000#32 : F .f32))) (broadcast S512x1 (Scalar.ofBits .f32 0x358637BD#32 : F .f32)))) broadcasts_S512x1_S512x1024))
    (broadcastTo S512x1024 (shapeCast S1x1024 g shapeCasts_S1x1024_S1x1024) broadcasts_S1x1024_S512x1024)) bitsLt_bf16_f32

/-- The rows times the first 6144 columns of the weights. -/
abbrev wide (x : Vec F S512x1024 .f32) (g : Vec F S1x1024 .f32) (w : Vec F S1024x6144 .bf16) : FVec F S512x6144 .f32 :=
  matmul dot_S512x1024_S1024x6144_S512x6144_1_0_0_1_n_n none (normed x g) (shapeCast S1024x6144 w shapeCasts_S1024x6144_S1024x6144)
    (constant S512x6144 .f32 0x00000000#32)

/-- The rows times the last columns of the weights, padded to 128. -/
abbrev tail (x : Vec F S512x1024 .f32) (g : Vec F S1x1024 .f32) (w : Vec F S1024x128 .bf16) : FVec F S512x128 .f32 :=
  matmul dot_S512x1024_S1024x128_S512x128_1_0_0_1_n_n none (normed x g) (shapeCast S1024x128 w shapeCasts_S1024x128_S1024x128)
    (constant S512x128 .f32 0x00000000#32)

set_option maxRecDepth 100000 in
/-- The kernel body is its four loads and all the accesses. -/
theorem cc0_eq (i : grid0.Coords) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1024x128 .bf16) (harg4 : arg4.IsWhole) (arg5 : Memref sig .tc .vmem S4x49x136x128 .f32) (harg5 : arg5.IsWhole) :
    cc0_norm_matmul (F := F) i arg1 harg1 arg2 harg2 arg3 harg3 arg4 harg4 arg5 harg5
      = Prog.op (.load arg1 (Rect.unit (s := S512x1024) ![0, 0] S512x1024.size inb_S512x1024_S512x1024_0_0).toLoadRect (View.loadsAt_vmem h_S512x1024)) fun (v0 : Vec F S512x1024 .f32) =>
        Prog.op (.load arg2 (Rect.unit (s := S1x1024) ![0, 0] S1x1024.size inb_S1x1024_S1x1024_0_0).toLoadRect (View.loadsAt_vmem h_S1x1024)) fun (v11 : Vec F S1x1024 .f32) =>
        Prog.op (.load arg3 (Rect.unit (s := S1024x6144) ![0, 0] S1024x6144.size inb_S1024x6144_S1024x6144_0_0).toLoadRect (View.loadsAt_vmem h_S1024x6144)) fun (v16 : Vec F S1024x6144 .bf16) =>
        Prog.op (.load arg4 (Rect.unit (s := S1024x128) ![0, 0] S1024x128.size inb_S1024x128_S1024x128_0_0).toLoadRect (View.loadsAt_vmem h_S1024x128)) fun (v19 : Vec F S1024x128 .bf16) =>
        accesses (wide v0 v11 v16) (tail v0 v11 v19) arg5 3528 (by omega) 3528 (by omega) := by
  sl_kernel_rfl

end Cert.Proof.GdnIn

end
-- ==== Proof.GdnInSteps.lean ====
/- What the accesses of the gated DeltaNet projection's body leave in the output block: the value each index has after
   the first `n` of them, one access at a time, and so after all. -/
module

public import proofs.«01_k».proof.Proof.GdnInSlab
public import Idealize.ShloMosaic.Lib.ValueLayout
public import Idealize.ShloMosaic.Lib.Pipeline.Value

@[expose] public section

noncomputable section

namespace Cert.Proof.GdnIn

open Cert.GdnInIdeal Idealize.ShloMosaic Idealize.ShloMosaic.Tactic Idealize.SL.Sem
open Idealize.ShloMosaic.ValueIdx
open Facts₀ Facts

variable {F : FTy → Type} [FloatOps F] [Facts]

/-- The group a slab's row is in: 8 for the rows between the groups. -/
def groupOf (y : Nat) : Nat := if y % 17 = 16 then 8 else y / 17

/-- The number of the access that writes an index of the output block. -/
def writerOf (y : S4x49x136x128.Idx) : Nat := 882 * (y 0).val + 18 * (y 1).val + 2 * groupOf (y 2).val + 1

theorem row_lt (y : S4x49x136x128.Idx) (h : ¬ (y 2).val % 17 = 16) :
    128 * (y 0).val + (16 * ((y 2).val / 17) + (y 2).val % 17) < 512 := by
  have h0 : (y 0).val < 4 := (y 0).isLt
  have h2 : (y 2).val < 136 := (y 2).isLt
  omega

/-- What the body leaves at an index of the output block: zero between the groups, else the product's row and column. -/
def laid (z : FVec F S512x6144 .f32) (z2 : FVec F S512x128 .f32) (y : S4x49x136x128.Idx) : F .f32 :=
  if h : (y 2).val % 17 = 16 then Scalar.ofBits .f32 0x00000000#32
  else if hk : (y 1).val < 48 then
    z (ix2 ⟨128 * (y 0).val + (16 * ((y 2).val / 17) + (y 2).val % 17), row_lt y h⟩
      ⟨128 * (y 1).val + (y 3).val, by have h3 : (y 3).val < 128 := (y 3).isLt; omega⟩)
  else z2 (ix2 ⟨128 * (y 0).val + (16 * ((y 2).val / 17) + (y 2).val % 17), row_lt y h⟩ (y 3))

/-- After the first `n` accesses: every index one of them writes holds its value. -/
def Done (z : FVec F S512x6144 .f32) (z2 : FVec F S512x128 .f32) (arg5 : Memref sig .tc .vmem S4x49x136x128 .f32) (n : Nat)
    (f : arg5.view.ty.Contents (Elt F)) : Prop :=
  ∀ y : S4x49x136x128.Idx, writerOf y < n → arg5.view.read (Elt F) f y = laid z z2 y

variable (z : FVec F S512x6144 .f32) (z2 : FVec F S512x128 .f32) (arg5 : Memref sig .tc .vmem S4x49x136x128 .f32)

/-- A write through any view of the block's buffer that sits in the block at `φ`. -/
theorem done_of_write {s : Shape} (n : Nat) (f : arg5.view.ty.Contents (Elt F)) (hd : Done z z2 arg5 n f)
    (φ : s.Idx → S4x49x136x128.Idx) (w : s.Idx → F .f32) (g : arg5.view.ty.Contents (Elt F))
    (hin : ∀ x, arg5.view.read (Elt F) g (φ x) = w x)
    (hout : ∀ y, (∀ x, φ x ≠ y) → arg5.view.read (Elt F) g y = arg5.view.read (Elt F) f y)
    (hw : ∀ x, w x = laid z z2 (φ x)) (hφ : ∀ y, writerOf y = n → ∃ x, φ x = y) : Done z z2 arg5 (n + 1) g := by
  intro y hy
  by_cases hx : ∃ x, φ x = y
  · obtain ⟨x, rfl⟩ := hx
    rw [hin, hw]
  · rw [hout y fun x e => hx ⟨x, e⟩]
    exact hd y (by have : writerOf y ≠ n := fun e => hx (hφ y e); omega)

/-- The view of group `s` of lane tile `k` of chunk `r`. -/
abbrev groupView (r k s : Nat) (hr : r < 4) (hk : k < 49) (hs : s < 8) : View sig .tc .vmem S16x128 .f32 :=
  (slab arg5 r k hr hk).access (rowsRect s hs)

/-- Where the group's elements lie in the block. -/
def groupAt (r k s : Nat) (hr : r < 4) (hk : k < 49) (hs : s < 8) (x : S16x128.Idx) : S4x49x136x128.Idx :=
  (Rect.unit (s := S4x49x136x128) ![r, k, 0, 0] S1x1x136x128.size (inb_slab r k hr hk)).emb
    (Shape.reshapeEquiv squeezes_S1x1x136x128_S136x128.numel_eq ((rowsRect s hs).emb x))

theorem groupAt_eq (r k s : Nat) (hr : r < 4) (hk : k < 49) (hs : s < 8) (a : Fin 16) (b : Fin 128) :
    groupAt r k s hr hk hs (ix2 a b) = ix4 ⟨r, hr⟩ ⟨k, hk⟩ ⟨17 * s + a.val, by omega⟩ b := by
  have e : (rowsRect s hs).emb (ix2 a b) = (ix2 ⟨17 * s + a.val, by omega⟩ b : S136x128.Idx) := by
    funext x; apply Fin.ext
    match x with
    | ⟨0, _⟩ => show 17 * s + 1 * a.val = 17 * s + a.val; omega
    | ⟨1, _⟩ => show 0 + 1 * b.val = b.val; omega
  unfold groupAt
  rw [e, reshapeEquiv_ix2_11ab]
  funext x; apply Fin.ext
  match x with
  | ⟨0, _⟩ => show r + 1 * 0 = r; omega
  | ⟨1, _⟩ => show k + 1 * 0 = k; omega
  | ⟨2, _⟩ => show 0 + 1 * (17 * s + a.val) = 17 * s + a.val; omega
  | ⟨3, _⟩ => show 0 + 1 * b.val = b.val; omega

theorem groupView_emb (r k s : Nat) (hr : r < 4) (hk : k < 49) (hs : s < 8) (x : S16x128.Idx) :
    (groupView arg5 r k s hr hk hs).emb x = arg5.view.emb (groupAt r k s hr hk hs x) := rfl

theorem groupView_sub (r k s : Nat) (hr : r < 4) (hk : k < 49) (hs : s < 8) :
    (groupView arg5 r k s hr hk hs).set ⊆ arg5.view.set := by
  intro i hi
  obtain ⟨x, -, rfl⟩ := Finset.mem_map.1 hi
  exact arg5.view.emb_mem_set (groupAt r k s hr hk hs x)

theorem rec_false {α : Type*} {c : Bool} (f : c = false → α) (g : c = true → α) (h : c = false) :
    Bool.rec (motive := fun b => c = b → α) f g c rfl = f h := by
  subst h; rfl

theorem rec_true {α : Type*} {c : Bool} (f : c = false → α) (g : c = true → α) (h : c = true) :
    Bool.rec (motive := fun b => c = b → α) f g c rfl = g h := by
  subst h; rfl

theorem ble_false {a b : Nat} (h : b < a) : Nat.ble a b = false := by
  cases hb : Nat.ble a b with
  | false => rfl
  | true => exact absurd (Nat.le_of_ble_eq_true hb) (by omega)

theorem group_value (r k s : Nat) (hr : r < 4) (hk : k < 49) (hs : s < 8) (a : Fin 16) (b : Fin 128) :
    extractStridedSlice S16x128 ![16 * s, 0] (piece z z2 r k hr) (slices_rows s hs) (ix2 a b)
      = laid z z2 (ix4 ⟨r, hr⟩ ⟨k, hk⟩ ⟨17 * s + a.val, by omega⟩ b) := by
  have ha := a.isLt
  have hb := b.isLt
  have e1 : (17 * s + a.val) / 17 = s := by omega
  have e2 : (17 * s + a.val) % 17 = a.val := by omega
  unfold laid
  rw [dif_neg (show ¬ (17 * s + a.val) % 17 = 16 by omega)]
  by_cases h : k < 48
  · rw [dif_pos (show k < 48 from h), piece, rec_false _ _ (ble_false h)]
    refine congrArg z (funext fun x => Fin.ext ?_)
    match x with
    | ⟨0, _⟩ => show 128 * r + (16 * s + a.val) = 128 * r + (16 * ((17 * s + a.val) / 17) + (17 * s + a.val) % 17); omega
    | ⟨1, _⟩ => show 128 * k + (0 + b.val) = 128 * k + b.val; omega
  · rw [dif_neg (show ¬ k < 48 from h), piece, rec_true _ _ (Nat.ble_eq_true_of_le (by omega))]
    refine congrArg z2 (funext fun x => Fin.ext ?_)
    match x with
    | ⟨0, _⟩ => show 128 * r + (16 * s + a.val) = 128 * r + (16 * ((17 * s + a.val) / 17) + (17 * s + a.val) % 17); omega
    | ⟨1, _⟩ => show 0 + (0 + b.val) = b.val; omega

/-- The write of a group. -/
theorem done_group (r k s n : Nat) (hr : r < 4) (hk : k < 49) (hs : s < 8) (hn : n = 882 * r + 18 * k + 2 * s + 1)
    (f : arg5.view.ty.Contents (Elt F)) (hd : Done z z2 arg5 n f) :
    Done z z2 arg5 (n + 1) ((groupView arg5 r k s hr hk hs).write (Elt F) f
      (extractStridedSlice S16x128 ![16 * s, 0] (piece z z2 r k hr) (slices_rows s hs)) Finset.univ) := by
  refine done_of_write z z2 arg5 n f hd (groupAt r k s hr hk hs)
    (extractStridedSlice S16x128 ![16 * s, 0] (piece z z2 r k hr) (slices_rows s hs)) _ (fun x => ?_) (fun y hy => ?_) (fun x => ?_) (fun y hy => ?_)
  · exact View.read_write_of_mem (v := groupView arg5 r k s hr hk hs) f _ (Finset.mem_univ x)
  · refine View.read_congr_at y (View.write_of_not_mem (v := groupView arg5 r k s hr hk hs) f _ _ fun hm => ?_)
    obtain ⟨x, -, hx⟩ := Finset.mem_map.1 hm
    exact hy x (arg5.view.emb.injective hx)
  · obtain ⟨a, b, rfl⟩ : ∃ (a : Fin 16) (b : Fin 128), x = ix2 a b := ⟨x 0, x 1, eq_ix2 x⟩
    rw [groupAt_eq]
    exact group_value z z2 r k s hr hk hs a b
  · obtain ⟨y0, y1, y2, y3, rfl⟩ : ∃ (y0 : Fin 4) (y1 : Fin 49) (y2 : Fin 136) (y3 : Fin 128), y = ix4 y0 y1 y2 y3 :=
      ⟨y 0, y 1, y 2, y 3, eq_ix4 y⟩
    have h0 := y0.isLt
    have h1 := y1.isLt
    have h2 := y2.isLt
    have hy' : 882 * y0.val + 18 * y1.val + 2 * groupOf y2.val + 1 = n := hy
    unfold groupOf at hy'
    split at hy'
    · omega
    · refine ⟨ix2 ⟨y2.val % 17, by omega⟩ y3, ?_⟩
      rw [groupAt_eq]
      funext x; apply Fin.ext
      match x with
      | ⟨0, _⟩ => show r = y0.val; omega
      | ⟨1, _⟩ => show k = y1.val; omega
      | ⟨2, _⟩ => show 17 * s + y2.val % 17 = y2.val; omega
      | ⟨3, _⟩ => rfl

/-- The view of the rows between the groups of lane tile `k` of chunk `r`, and where they lie in the block. -/
abbrev gapView (r k : Nat) (hr : r < 4) (hk : k < 49) : View sig .tc .vmem S1x1x8x128 .f32 :=
  arg5.access ⟨gapRect r k hr hk, spos_1_1_17_1⟩

def gapAt (r k : Nat) (hr : r < 4) (hk : k < 49) (x : S1x1x8x128.Idx) : S4x49x136x128.Idx :=
  (⟨gapRect r k hr hk, spos_1_1_17_1⟩ : Rect S4x49x136x128).emb x

theorem gapAt_eq (r k : Nat) (hr : r < 4) (hk : k < 49) (a b : Fin 1) (c : Fin 8) (d : Fin 128) :
    gapAt r k hr hk (ix4 a b c d) = ix4 ⟨r, hr⟩ ⟨k, hk⟩ ⟨16 + 17 * c.val, by omega⟩ d := by
  have ha := a.isLt
  have hb := b.isLt
  funext x; apply Fin.ext
  match x with
  | ⟨0, _⟩ => show r + 1 * a.val = r; omega
  | ⟨1, _⟩ => show k + 1 * b.val = k; omega
  | ⟨2, _⟩ => rfl
  | ⟨3, _⟩ => show 0 + 1 * d.val = d.val; omega

theorem gapView_sub (r k : Nat) (hr : r < 4) (hk : k < 49) : (gapView arg5 r k hr hk).set ⊆ arg5.view.set := by
  intro i hi
  obtain ⟨x, -, rfl⟩ := Finset.mem_map.1 hi
  exact arg5.view.emb_mem_set (gapAt r k hr hk x)

/-- The zeros written between the groups. -/
abbrev zeros : Vec F S1x1x8x128 .f32 :=
  shapeCast S1x1x8x128 (broadcast S8x128 (Scalar.ofBits .f32 0x00000000#32 : F .f32)) shapeCasts_S8x128_S1x1x8x128

/-- The write of the rows between the groups. -/
theorem done_gap (r k n : Nat) (hr : r < 4) (hk : k < 49) (hn : n = 882 * r + 18 * k + 17)
    (f : arg5.view.ty.Contents (Elt F)) (hd : Done z z2 arg5 n f) :
    Done z z2 arg5 (n + 1) ((gapView arg5 r k hr hk).write (Elt F) f zeros Finset.univ) := by
  refine done_of_write z z2 arg5 n f hd (gapAt r k hr hk) zeros _ (fun x => ?_) (fun y hy => ?_) (fun x => ?_) (fun y hy => ?_)
  · exact View.read_write_of_mem (v := gapView arg5 r k hr hk) f _ (Finset.mem_univ x)
  · refine View.read_congr_at y (View.write_of_not_mem (v := gapView arg5 r k hr hk) f _ _ fun hm => ?_)
    obtain ⟨x, -, hx⟩ := Finset.mem_map.1 hm
    exact hy x (arg5.view.emb.injective hx)
  · obtain ⟨a, b, c, d, rfl⟩ : ∃ (a b : Fin 1) (c : Fin 8) (d : Fin 128), x = ix4 a b c d := ⟨x 0, x 1, x 2, x 3, eq_ix4 x⟩
    rw [gapAt_eq]
    unfold laid
    rw [dif_pos (show (16 + 17 * c.val) % 17 = 16 by omega)]
    rfl
  · obtain ⟨y0, y1, y2, y3, rfl⟩ : ∃ (y0 : Fin 4) (y1 : Fin 49) (y2 : Fin 136) (y3 : Fin 128), y = ix4 y0 y1 y2 y3 :=
      ⟨y 0, y 1, y 2, y 3, eq_ix4 y⟩
    have h0 := y0.isLt
    have h1 := y1.isLt
    have h2 := y2.isLt
    have hy' : 882 * y0.val + 18 * y1.val + 2 * groupOf y2.val + 1 = n := hy
    unfold groupOf at hy'
    split at hy'
    · refine ⟨ix4 0 0 ⟨y2.val / 17, by omega⟩ y3, ?_⟩
      rw [gapAt_eq]
      funext x; apply Fin.ext
      match x with
      | ⟨0, _⟩ => show r = y0.val; omega
      | ⟨1, _⟩ => show k = y1.val; omega
      | ⟨2, _⟩ => show 16 + 17 * (y2.val / 17) = y2.val; omega
      | ⟨3, _⟩ => rfl
    · omega

/-- An access that reads changes nothing: no index is written by an even access. -/
theorem done_even (n : Nat) (hn : n % 2 = 0) (f : arg5.view.ty.Contents (Elt F)) (hd : Done z z2 arg5 n f) :
    Done z z2 arg5 (n + 1) f := fun y hy => hd y (by
  have : writerOf y ≠ n := fun e => by unfold writerOf at e; omega
  omega)

end Cert.Proof.GdnIn

end
-- ==== Proof.GdnInRun.lean ====
/- The gated DeltaNet projection's kernel run: its body at any grid point, the pipeline's proof data, and the run of the
   whole program, over any values. -/
module

public import proofs.«01_k».proof.Proof.GdnInSteps
public import proofs.«01_k».proof.Proof.Gen.GdnInIdeal.Frame
public import Idealize.ShloMosaic.Lib.Claim

@[expose] public section

set_option maxRecDepth 16384

noncomputable section

namespace Cert.Proof.GdnIn

open Cert.GdnInIdeal Cert.GdnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accesses -/

section
variable (z : FVec F S512x6144 .f32) (z2 : FVec F S512x128 .f32) (arg5 : Memref sig .tc .vmem S4x49x136x128 .f32)
  (c : Dev nD) (E : Set ℕ)

/-- The output block's buffer, held whole. -/
abbrev held (f : Buf (Elt F) (arg5.view.loc (c : Thread nD τ))) : sProp 𝕄 :=
  iprop(arg5.view.loc (c : Thread nD τ) ↦[arg5.view.set]{fullShare} f)

/-- One access, whatever comes after it. -/
theorem access_run (n r k s : Nat) (w : Bool) (hr : r < 4) (hk : k < 49) (hs : s ≤ 8) (hn : n = 882 * r + 18 * k + 2 * s + w.toNat)
    (f : Buf (Elt F) (arg5.view.loc (c : Thread nD τ))) (hd : Done z z2 arg5 n f) (K : PUnit → sProp 𝕄) :
    iprop(held arg5 c f ∗ (∀ f', ⌜Done z z2 arg5 (n + 1) f'⌝ -∗ held arg5 c f' -∗ K ⟨⟩))
      ⊢ wp frame (wpE (defs₀ (F := F)) Variants.none c none) E (access z z2 arg5 r k s w hr hk) K := by
  by_cases h : s < 8
  · rw [access, rec_false _ _ (ble_false h)]
    cases w with
    | false =>
      iintro ⟨H, Hk⟩
      iapply (wp_load_rect Variants.none (c : Thread nD τ) none E (m := slab arg5 r k hr hk) (r := rowsRect s h)
        (groupView_sub arg5 r k s hr hk h)) $$ H
      iintro H
      rw [wp_ret]; imodintro
      ispecialize Hk $$ %f
      iapply Hk
      · ipureintro; exact done_even z z2 arg5 n (by rw [hn]; simp only [Bool.toNat_false]; omega) f hd
      · iexact H
    | true =>
      iintro ⟨H, Hk⟩
      iapply (wp_store Variants.none (c : Thread nD τ) none E (m := slab arg5 r k hr hk) (r := rowsRect s h)
        (groupView_sub arg5 r k s hr hk h)) $$ H
      iintro H
      rw [wp_ret]; imodintro
      ispecialize Hk $$ %((groupView arg5 r k s hr hk h).write (Elt F) f
        (extractStridedSlice S16x128 ![16 * s, 0] (piece z z2 r k hr) (slices_rows s h)) Finset.univ)
      iapply Hk
      · ipureintro; exact done_group z z2 arg5 r k s n hr hk h hn f hd
      · iexact H
  · obtain rfl : s = 8 := by omega
    rw [access, rec_true (c := Nat.ble 8 8) _ _ rfl]
    cases w with
    | false =>
      iintro ⟨H, Hk⟩
      iapply (wp_load_rect Variants.none (c : Thread nD τ) none E (m := arg5) (r := ⟨gapRect r k hr hk, spos_1_1_17_1⟩)
        (gapView_sub arg5 r k hr hk)) $$ H
      iintro H
      rw [wp_ret]; imodintro
      ispecialize Hk $$ %f
      iapply Hk
      · ipureintro; exact done_even z z2 arg5 n (by rw [hn]; simp only [Bool.toNat_false]; omega) f hd
      · iexact H
    | true =>
      iintro ⟨H, Hk⟩
      iapply (wp_store Variants.none (c : Thread nD τ) none E (m := arg5) (r := ⟨gapRect r k hr hk, spos_1_1_17_1⟩)
        (gapView_sub arg5 r k hr hk)) $$ H
      iintro H
      rw [wp_ret]; imodintro
      ispecialize Hk $$ %((gapView arg5 r k hr hk).write (Elt F) f zeros Finset.univ)
      iapply Hk
      · ipureintro; exact done_gap z z2 arg5 r k n hr hk hn f hd
      · iexact H

theorem accessAt_run (n : Nat) (h : n < 3528) (f : Buf (Elt F) (arg5.view.loc (c : Thread nD τ))) (hd : Done z z2 arg5 n f)
    (K : PUnit → sProp 𝕄) :
    iprop(held arg5 c f ∗ (∀ f', ⌜Done z z2 arg5 (n + 1) f'⌝ -∗ held arg5 c f' -∗ K ⟨⟩))
      ⊢ wp frame (wpE (defs₀ (F := F)) Variants.none c none) E (accessAt z z2 arg5 n h) K := by
  refine access_run z z2 arg5 c E n (Nat.div n 882) (Nat.mod (Nat.div n 18) 49) (Nat.div (Nat.mod n 18) 2)
    (Nat.ble 1 (Nat.mod n 2)) (lt_chunk n h) (lt_tile n) (by show n % 18 / 2 ≤ 8; omega) ?_ f hd K
  have hb : (Nat.ble 1 (Nat.mod n 2)).toNat = n % 2 := by
    show (Nat.ble 1 (n % 2)).toNat = n % 2
    rcases Nat.mod_two_eq_zero_or_one n with h0 | h1
    · rw [h0]; rfl
    · rw [h1]; rfl
  rw [hb]
  show n = 882 * (n / 882) + 18 * (n / 18 % 49) + 2 * (n % 18 / 2) + n % 2
  omega

/-- The last `len` accesses before access `e`, from a block where the ones before them are done. -/
theorem accesses_run (e : Nat) (he : e ≤ 3528) (K : PUnit → sProp 𝕄) : ∀ (len : Nat) (h : len ≤ e)
    (f : Buf (Elt F) (arg5.view.loc (c : Thread nD τ))), Done z z2 arg5 (e - len) f →
    (iprop(held arg5 c f ∗ (∀ f', ⌜Done z z2 arg5 e f'⌝ -∗ held arg5 c f' -∗ K ⟨⟩))
      ⊢ wp frame (wpE (defs₀ (F := F)) Variants.none c none) E (accesses z z2 arg5 e he len h) K) := by
  intro len
  induction len with
  | zero =>
    intro h f hd
    show _ ⊢ wp frame (wpE (defs₀ (F := F)) Variants.none c none) E (.ret ⟨⟩) K
    iintro ⟨H, Hk⟩
    rw [wp_ret]; imodintro
    ispecialize Hk $$ %f
    iapply Hk
    · ipureintro; exact hd
    · iexact H
  | succ len ih =>
    intro h f hd
    show _ ⊢ wp frame (wpE (defs₀ (F := F)) Variants.none c none) E
      (accessAt z z2 arg5 (e - (len + 1)) (by omega) >>= fun _ => accesses z z2 arg5 e he len (Nat.le_of_succ_le h)) K
    rw [wp_bind]
    refine .trans ?_ (accessAt_run z z2 arg5 c E (e - (len + 1)) (by omega) f hd _)
    iintro ⟨H, Hk⟩
    isplitl [H]; · iexact H
    iintro %f' %hd' H
    iapply (ih (Nat.le_of_succ_le h) f' (by rw [show e - len = e - (len + 1) + 1 by omega]; exact hd'))
    isplitl [H]; · iexact H
    iexact Hk

end

/-! ## The body -/

/-- The output block after the body, from the blocks it reads. -/
def blockOut (x : Vec F S512x1024 .f32) (g : Vec F S1x1024 .f32) (w : Vec F S1024x6144 .bf16) (w2 : Vec F S1024x128 .bf16) :
    Vec F S4x49x136x128 .f32 :=
  laid (wide x g w) (tail x g w2)

theorem done_all (z : FVec F S512x6144 .f32) (z2 : FVec F S512x128 .f32) (arg5 : Memref sig .tc .vmem S4x49x136x128 .f32)
    (f : arg5.view.ty.Contents (Elt F)) (hd : Done z z2 arg5 3528 f) : arg5.view.read (Elt F) f = laid z z2 := by
  funext y
  refine hd y ?_
  have h0 : (y 0).val < 4 := (y 0).isLt
  have h1 : (y 1).val < 49 := (y 1).isLt
  have h2 : (y 2).val < 136 := (y 2).isLt
  unfold writerOf groupOf
  split <;> omega

set_option maxHeartbeats 1000000 in
/-- The kernel body on whole staging buffers leaves the inputs as they were and the output at `blockOut` of them. -/
theorem sound_kernel (c : Dev nD) (E : Set ℕ) (i : grid0.Coords) (arg1 : Memref sig .tc .vmem S512x1024 .f32) (harg1 : arg1.IsWhole)
    (arg2 : Memref sig .tc .vmem S1x1024 .f32) (harg2 : arg2.IsWhole) (arg3 : Memref sig .tc .vmem S1024x6144 .bf16) (harg3 : arg3.IsWhole)
    (arg4 : Memref sig .tc .vmem S1024x128 .bf16) (harg4 : arg4.IsWhole) (arg5 : Memref sig .tc .vmem S4x49x136x128 .f32) (harg5 : arg5.IsWhole)
    (x0 : Vec F S512x1024 .f32) (x1 : Vec F S1x1024 .f32) (x2 : Vec F S1024x6144 .bf16) (x3 : Vec F S1024x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare (blockOut x0 x1 x2 x3)) -∗ K ⟨⟩))
      ⊢ wp frame (wpE (defs₀ (F := F)) Variants.none c none) E
          (cc0_norm_matmul i arg1 harg1 arg2 harg2 arg3 harg3 arg4 harg4 arg5 harg5) K := by
  rw [cc0_eq]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_step
  sl_step
  sl_step
  sl_step
  have hz : (![0, 0] : Fin 2 → Nat) = fun _ => 0 := funext fun a => by fin_cases a <;> rfl
  rw [show View.readAt (Elt F) arg1.view (Rect.unit (s := S512x1024) ![0, 0] S512x1024.size inb_S512x1024_S512x1024_0_0).toLoadRect f0
        = arg1.view.read (Elt F) f0 from View.ld_unit_zero (S := S512x1024) hz _ _,
    show View.readAt (Elt F) arg2.view (Rect.unit (s := S1x1024) ![0, 0] S1x1024.size inb_S1x1024_S1x1024_0_0).toLoadRect f1
        = arg2.view.read (Elt F) f1 from View.ld_unit_zero (S := S1x1024) hz _ _,
    show View.readAt (Elt F) arg3.view (Rect.unit (s := S1024x6144) ![0, 0] S1024x6144.size inb_S1024x6144_S1024x6144_0_0).toLoadRect f2
        = arg3.view.read (Elt F) f2 from View.ld_unit_zero (S := S1024x6144) hz _ _,
    show View.readAt (Elt F) arg4.view (Rect.unit (s := S1024x128) ![0, 0] S1024x128.size inb_S1024x128_S1024x128_0_0).toLoadRect f3
        = arg4.view.read (Elt F) f3 from View.ld_unit_zero (S := S1024x128) hz _ _]
  iapply (accesses_run _ _ arg5 c E 3528 _ K 3528 _ f4 (fun y hy => absurd hy (by omega)))
  isplitl [H4]; · iexact H4
  iintro %f' %hd H4
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists f'; isplitr
  swap; · iexact H4
  ipureintro
  exact done_all _ _ arg5 f' hd

/-! ## The pipeline's proof data -/

variable (m : (ℓ : Loc nD τ sig) → Buf (Elt F) ℓ) (ρ : Dev nD → PrngReg)

/-- The proof data: the arrays as the region finds them; after the body each input's buffer at its block and the output's
    at `blockOut` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => blockOut (iblk m c 0 t) (iblk m c 1 t) (X0_2 m c t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = blockOut (iblk m c 0 t) (iblk m c 1 t) (X0_2 m c t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (X0_2 m c t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The run: every array of the pipeline at what the proof data says, the host lines after the region run from there, and
    every semaphore counter at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.GdnIn

end
-- ==== Proof.GdnInFrame.lean ====
/- The gated DeltaNet projection's frame over the floats' bits, taken from the run over any values: the two printed programs
   have the same text. -/
module

public import proofs.«01_k».proof.Proof.GdnInRun
public import proofs.«01_k».proof.Defs
public import proofs.«01_k».proof.Proof.Gen.GdnIn

@[expose] public section

set_option maxRecDepth 100000

noncomputable section

namespace Cert.Proof.GdnIn

open Idealize.ShloMosaic Idealize.ShloMosaic.TcCoe Idealize.SL.Sem

/-- The kernel runs, leaves its arguments and ends with its counters at zero. -/
theorem frame_bits : Cert.quiescent_GdnIn (hGdnIn := Cert.GdnIn.Gen.facts) :=
  fun m ρ _ => cast (by sl_kernel_rfl) (frame (F := Bits) m ρ)

end Cert.Proof.GdnIn

end
-- ==== Proof.Rms.lean ====
/- The root-mean-square scale of a row of 1024 numbers, as both the kernels and the references compute it over the
   extended reals: one over the square root of (the sum of the squares, divided by 1024, plus a small constant). -/
module

public import Idealize.ShloMosaic.Lib.Pointwise

@[expose] public section

noncomputable section

namespace Cert.Proof

open Idealize.ShloMosaic

/-- `1 / √(mean of squares + ε)` of a row. -/
def rmsScale (x : Fin 1024 → EReal) : EReal :=
  Ideal.rsqrt (Ideal.div (∑ k, x k * x k) (Ideal.ofBits .f32 0x44800000#32) + Ideal.ofBits .f32 0x358637BD#32)

/-- The 4 sequences of 4096 positions as 16384 rows: row `r` is position `r % 4096` of sequence `r / 4096`. -/
abbrev rowOf (h : (⟨3, ![4, 4096, 1024]⟩ : Shape).Idx → EReal) (r : Fin 16384) (k : Fin 1024) : EReal :=
  h (ix3 ⟨r.val / 4096, by omega⟩ ⟨r.val % 4096, by omega⟩ k)

/-- A row normalized: scaled by `rmsScale`, times a gain per column. -/
def normRow (x g : Fin 1024 → EReal) (k : Fin 1024) : EReal := x k * rmsScale x * g k

end Cert.Proof

end
-- ==== Proof.GdnInArrays.lean ====
/- The gated DeltaNet projection: what its host lines before the call leave in the arrays that the call reads, and what its
   host lines after the call read out of the slabs. -/
module

public import proofs.«01_k».proof.Proof.Rms
public import proofs.«01_k».proof.Proof.Gen.GdnInIdeal.Frame
public import Idealize.ShloMosaic.Lib.StableHlo.ReadAt
public import Idealize.ShloMosaic.Lib.KernelVsHost

@[expose] public section

set_option maxRecDepth 16384

noncomputable section

namespace Cert.Proof.GdnIn

open Cert.GdnInIdeal Cert.GdnInIdeal.Gen Idealize.ShloMosaic Idealize.ShloMosaic.TcCoe
open Idealize.SL.Sem

/-- The projection: each row divided by its root mean square, times the gain, times the weight matrix. -/
def projected (h : S4x4096x1024.Idx → EReal) (g : S4x1024.Idx → EReal) (w : S1x1024x6176.Idx → EReal) :
    S4x4096x6176.Idx → EReal := fun i =>
  ∑ k : Fin 1024, h (ix3 (i 0) (i 1) k) * rmsScale (fun k => h (ix3 (i 0) (i 1) k)) * g (ix2 2 k) * w (ix3 0 k (i 2))

variable (m : (ℓ : Loc nD τ sig) → Buf (Elt Ideal) ℓ)

/-- The activations as the kernel reads them: 16384 rows. -/
theorem rows_at (c : Dev nD) (r : Fin 16384) (k : Fin 1024) :
    (V m c main_v4 : S16384x1024.Idx → EReal) (ix2 r k) = rowOf (m ((c : Thread nD τ).loc main_arg0)) r k := by
  unfold V
  after_reads_at

/-- The gain as the kernel reads it: row 2 of the gains. -/
theorem gain_at (c : Dev nD) (k : Fin 1024) :
    (V m c main_v8 : S1x1024.Idx → EReal) (ix2 0 k) = (m ((c : Thread nD τ).loc main_arg1) : S4x1024.Idx → EReal) (ix2 2 k) := by
  unfold V
  after_reads_at

/-- The weights as the kernel reads them. -/
theorem weight_at (c : Dev nD) (k : Fin 1024) (j : Fin 6176) :
    (V m c main_v7 : S1024x6176.Idx → EReal) (ix2 k j)
      = (m ((c : Thread nD τ).loc main_arg2) : S1x1024x6176.Idx → EReal) (ix3 0 k j) := by
  unfold V
  after_reads_at

/-- The last 32 columns of the weights as the kernel reads them, in an array of 128 columns. -/
theorem last_at (c : Dev nD) (k : Fin 1024) (j : Fin 128) (hj : j.val < 32) :
    (V m c main_v3 : S1024x128.Idx → EReal) (ix2 k j)
      = (m ((c : Thread nD τ).loc main_arg2) : S1x1024x6176.Idx → EReal) (ix3 0 k ⟨6144 + j.val, by omega⟩) := by
  unfold V
  after_reads_at
  exact dif_pos hj

/-- An index of the result, read out of the slabs. -/
theorem read_back (W : Valuation τ sig (Elt Ideal)) (b : Fin 4) (s : Fin 4096) (j : Fin 6176) :
    (StableHlo.after (List.flatten [hostOps1]) W (main_v14 : DevRef τ sig) : S4x4096x6176.Idx → EReal) (ix3 b s j)
      = (W (main_v9 : DevRef τ sig) : S128x49x136x128.Idx → EReal)
        (ix4 ⟨b.val * 32 + s.val / 128, by omega⟩ ⟨j.val / 128, by omega⟩
          ⟨s.val / 16 % 8 * 17 + s.val % 16, by omega⟩ ⟨j.val % 128, by omega⟩) := by
  after_reads_at

end Cert.Proof.GdnIn

end
-- ==== Proof.GdnInValue.lean ====
/- The gated DeltaNet projection's kernel: what a grid point writes, what the slabs hold after the call, and what the result
   holds after the host lines that read the slabs back. -/
module

public import proofs.«01_k».proof.Proof.GdnInArrays
public import proofs.«01_k».proof.Proof.GdnInRun
public import Idealize.ShloMosaic.Lib.Pointwise

@[expose] public section

set_option maxRecDepth 16384

noncomputable section

namespace Cert.Proof.GdnIn

open Cert.GdnInIdeal Cert.GdnInIdeal.Gen Idealize.ShloMosaic Idealize.ShloMosaic.TcCoe
open Idealize.SL.Sem

/-! ## The blocks that a point reads -/

section
variable (m : (ℓ : Loc nD τ sig) → Buf (Elt Ideal) ℓ)

/-- Point `t` works on rows `512 t` to `512 t + 511` and writes slabs `4 t` to `4 t + 3`, with the whole gain and weights. -/
theorem index_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 4) = t.val ∧ win0_4.index t (1 : Fin 4) = 0 ∧ win0_4.index t (2 : Fin 4) = 0
      ∧ win0_4.index t (3 : Fin 4) = 0) :=
  (by decide +kernel : ∀ t : Fin grid0.N, _)

theorem iblk0_at (c : Dev nD) (t : Fin cfg0.N) (a : Fin 512) (k : Fin 1024) (r : Fin 16384) (hr : r.val = t.val * 512 + a.val) :
    (iblk m c 0 t : S512x1024.Idx → EReal) (ix2 a k) = rowOf (m ((c : Thread nD τ).loc main_arg0)) r k := by
  refine Eq.trans ?_ (rows_at m c r k)
  show (V m c main_v4 : S16384x1024.Idx → EReal) (((cfg0.win 0).blk t).view.emb (ix2 a k)) = _
  congr 1
  have e := index_facts t
  funext x; apply Fin.ext
  match x with
  | ⟨0, _⟩ => show win0_0.index t (0 : Fin 2) * 512 + 1 * a.val = r.val; omega
  | ⟨1, _⟩ => show win0_0.index t (1 : Fin 2) * 1024 + 1 * k.val = k.val; omega

theorem iblk1_at (c : Dev nD) (t : Fin cfg0.N) (k : Fin 1024) :
    (iblk m c 1 t : S1x1024.Idx → EReal) (ix2 0 k) = (m ((c : Thread nD τ).loc main_arg1) : S4x1024.Idx → EReal) (ix2 2 k) := by
  refine Eq.trans ?_ (gain_at m c k)
  show (V m c main_v8 : S1x1024.Idx → EReal) (((cfg0.win 1).blk t).view.emb (ix2 0 k)) = _
  congr 1
  have e := index_facts t
  funext x; apply Fin.ext
  match x with
  | ⟨0, _⟩ => show win0_1.index t (0 : Fin 2) * 1 + 1 * 0 = 0; omega
  | ⟨1, _⟩ => show win0_1.index t (1 : Fin 2) * 1024 + 1 * k.val = k.val; omega

theorem block2_at (c : Dev nD) (t : Fin cfg0.N) (k : Fin 1024) (j : Fin 6144) :
    (X0_2 m c t : S1024x6144.Idx → EReal) (ix2 k j)
      = (m ((c : Thread nD τ).loc main_arg2) : S1x1024x6176.Idx → EReal) (ix3 0 k ⟨j.val, by omega⟩) := by
  refine Eq.trans ?_ (weight_at m c k ⟨j.val, by omega⟩)
  unfold X0_2 Pipeline.Window.fill
  rw [dif_pos (moved0_2 t (ix2 k j))]
  show (V m c main_v7 : S1024x6176.Idx → EReal) (((cfg0.win 2).blk t).view.emb _) = _
  congr 1
  have e := index_facts t
  funext x; apply Fin.ext
  match x with
  | ⟨0, _⟩ => show win0_2.index t (0 : Fin 2) * 1024 + 1 * k.val = k.val; omega
  | ⟨1, _⟩ => show win0_2.index t (1 : Fin 2) * 6144 + 1 * j.val = j.val; omega

theorem iblk3_at (c : Dev nD) (t : Fin cfg0.N) (k : Fin 1024) (j : Fin 128) :
    (iblk m c 3 t : S1024x128.Idx → EReal) (ix2 k j) = (V m c main_v3 : S1024x128.Idx → EReal) (ix2 k j) := by
  show (V m c main_v3 : S1024x128.Idx → EReal) (((cfg0.win 3).blk t).view.emb (ix2 k j)) = _
  congr 1
  have e := index_facts t
  funext x; apply Fin.ext
  match x with
  | ⟨0, _⟩ => show win0_3.index t (0 : Fin 2) * 1024 + 1 * k.val = k.val; omega
  | ⟨1, _⟩ => show win0_3.index t (1 : Fin 2) * 128 + 1 * j.val = j.val; omega

end

/-! ## The products, element by element -/

theorem wide_at (x : Vec Ideal S512x1024 .f32) (g : Vec Ideal S1x1024 .f32) (w : Vec Ideal S1024x6144 .bf16)
    (a : Fin 512) (j : Fin 6144) :
    (wide x g w : S512x6144.Idx → EReal) (ix2 a j)
      = ∑ k : Fin 1024, x (ix2 a k) * rmsScale (fun k => x (ix2 a k)) * g (ix2 0 k) * w (ix2 k j) := by
  pointwise [normed, rmsScale]

theorem tail_at (x : Vec Ideal S512x1024 .f32) (g : Vec Ideal S1x1024 .f32) (w : Vec Ideal S1024x128 .bf16)
    (a : Fin 512) (j : Fin 128) :
    (tail x g w : S512x128.Idx → EReal) (ix2 a j)
      = ∑ k : Fin 1024, x (ix2 a k) * rmsScale (fun k => x (ix2 a k)) * g (ix2 0 k) * w (ix2 k j) := by
  pointwise [normed, rmsScale]

/-! ## The slabs -/

section
variable (m : (ℓ : Loc nD τ sig) → Buf (Elt Ideal) ℓ)

/-- Column `n` of the weights with the last columns padded: of the weights, or of the array of the last columns. -/
def column (c : Dev nD) (k : Fin 1024) (n : Nat) (hn : n < 6272) : EReal :=
  if h : n < 6144 then (m ((c : Thread nD τ).loc main_arg2) : S1x1024x6176.Idx → EReal) (ix3 0 k ⟨n, by omega⟩)
  else (V m c main_v3 : S1024x128.Idx → EReal) (ix2 k ⟨n - 6144, by omega⟩)

theorem column_wide (c : Dev nD) (k : Fin 1024) (n : Nat) (hn : n < 6272) (h : n < 6144) :
    column m c k n hn = (m ((c : Thread nD τ).loc main_arg2) : S1x1024x6176.Idx → EReal) (ix3 0 k ⟨n, by omega⟩) := by
  unfold column
  rw [dif_pos h]

theorem row_lt_slabs (y : S128x49x136x128.Idx) (h : ¬ (y 2).val % 17 = 16) :
    128 * (y 0).val + (16 * ((y 2).val / 17) + (y 2).val % 17) < 16384 := by
  have h0 : (y 0).val < 128 := (y 0).isLt
  have h2 : (y 2).val < 136 := (y 2).isLt
  omega

/-- What the slabs hold: zero between the groups of rows, else a row of the product at a column. -/
def slabs (c : Dev nD) (y : S128x49x136x128.Idx) : EReal :=
  if h : (y 2).val % 17 = 16 then Scalar.ofBits (F := Ideal) .f32 0x00000000#32
  else ∑ k : Fin 1024,
    rowOf (m ((c : Thread nD τ).loc main_arg0)) ⟨128 * (y 0).val + (16 * ((y 2).val / 17) + (y 2).val % 17), row_lt_slabs y h⟩ k
      * rmsScale (rowOf (m ((c : Thread nD τ).loc main_arg0)) ⟨128 * (y 0).val + (16 * ((y 2).val / 17) + (y 2).val % 17), row_lt_slabs y h⟩)
      * (m ((c : Thread nD τ).loc main_arg1) : S4x1024.Idx → EReal) (ix2 2 k)
      * column m c k (128 * (y 1).val + (y 3).val) (by
          have h1 : (y 1).val < 49 := (y 1).isLt
          have h3 : (y 3).val < 128 := (y 3).isLt
          omega)

/-- The block a point computes is its part of the slabs. -/
theorem block_eq (c : Dev nD) (t : Fin cfg0.N) (r : Fin 4) (p : Fin 49) (q : Fin 136) (l : Fin 128) (u : Fin 128)
    (hu : u.val = t.val * 4 + r.val) :
    blockOut (F := Ideal) (iblk m c 0 t) (iblk m c 1 t) (X0_2 m c t) (iblk m c 3 t) (ix4 r p q l) = slabs m c (ix4 u p q l) := by
  unfold blockOut laid slabs
  by_cases h : q.val % 17 = 16
  · rw [dif_pos (show ((ix4 r p q l : S4x49x136x128.Idx) 2).val % 17 = 16 from h),
      dif_pos (show ((ix4 u p q l : S128x49x136x128.Idx) 2).val % 17 = 16 from h)]
  · rw [dif_neg (show ¬((ix4 r p q l : S4x49x136x128.Idx) 2).val % 17 = 16 from h),
      dif_neg (show ¬((ix4 u p q l : S128x49x136x128.Idx) 2).val % 17 = 16 from h)]
    have hx : ∀ k : Fin 1024, (iblk m c 0 t : S512x1024.Idx → EReal) (ix2 ⟨128 * r.val + (16 * (q.val / 17) + q.val % 17), by omega⟩ k)
        = rowOf (m ((c : Thread nD τ).loc main_arg0)) ⟨128 * u.val + (16 * (q.val / 17) + q.val % 17), by omega⟩ k :=
      fun k => iblk0_at m c t _ k _ (by show 128 * u.val + (16 * (q.val / 17) + q.val % 17) = t.val * 512 + (128 * r.val + (16 * (q.val / 17) + q.val % 17)); omega)
    by_cases hp : p.val < 48
    · rw [dif_pos (show ((ix4 r p q l : S4x49x136x128.Idx) 1).val < 48 from hp)]
      refine (wide_at _ _ _ _ _).trans (Finset.sum_congr rfl fun k _ => ?_)
      refine congr_arg₂ (· * ·) (congr_arg₂ (· * ·) (congr_arg₂ (· * rmsScale ·) (hx k) (funext hx)) (iblk1_at m c t k)) ?_
      have hn : 128 * p.val + l.val < 6144 := by omega
      exact (block2_at m c t k _).trans (column_wide m c k _ _ hn).symm
    · rw [dif_neg (show ¬((ix4 r p q l : S4x49x136x128.Idx) 1).val < 48 from hp)]
      refine (tail_at _ _ _ _ _).trans (Finset.sum_congr rfl fun k _ => ?_)
      refine congr_arg₂ (· * ·) (congr_arg₂ (· * ·) (congr_arg₂ (· * rmsScale ·) (hx k) (funext hx)) (iblk1_at m c t k)) ?_
      have hn : ¬ 128 * p.val + l.val < 6144 := by omega
      refine (iblk3_at m c t k l).trans (Eq.trans ?_ (dif_neg hn).symm)
      refine congrArg (fun x => (V m c main_v3 : S1024x128.Idx → EReal) (ix2 k x)) (Fin.ext ?_)
      show l.val = 128 * p.val + l.val - 6144
      omega

/-- What point `t` writes back is block `t` of the slabs. -/
theorem flushed_eq (c : Dev nD) (t : Fin cfg0.N) :
    (dats m 0 c).flushed 4 t = ((cfg0.win 4).blk t).view.read (Elt Ideal) (slabs m c) := by
  show (cfg0.win 4).cut (grid0.coords t) ((dats m 0 c).after 4 t) = _
  rw [after0_4]
  funext y
  obtain ⟨r, p, q, l, rfl⟩ : ∃ (r : Fin 4) (p : Fin 49) (q : Fin 136) (l : Fin 128), y = ix4 r p q l :=
    ⟨y 0, y 1, y 2, y 3, eq_ix4 y⟩
  have e := (index_facts t).2.2.2.2
  have ht : t.val < 32 := lt_of_lt_of_eq t.isLt N_0
  have hemb : ((cfg0.win 4).blk t).view.emb (ix4 r p q l) = (ix4 ⟨t.val * 4 + r.val, by omega⟩ p q l : S128x49x136x128.Idx) := by
    funext x; apply Fin.ext
    match x with
    | ⟨0, _⟩ => show win0_4.index t (0 : Fin 4) * 4 + 1 * r.val = t.val * 4 + r.val; omega
    | ⟨1, _⟩ => show win0_4.index t (1 : Fin 4) * 49 + 1 * p.val = p.val; omega
    | ⟨2, _⟩ => show win0_4.index t (2 : Fin 4) * 136 + 1 * q.val = q.val; omega
    | ⟨3, _⟩ => show win0_4.index t (3 : Fin 4) * 128 + 1 * l.val = l.val; omega
  show blockOut (F := Ideal) (iblk m c 0 t) (iblk m c 1 t) (X0_2 m c t) (iblk m c 3 t) (ix4 r p q l)
    = slabs m c (((cfg0.win 4).blk t).view.emb (ix4 r p q l))
  rw [hemb]
  exact block_eq m c t r p q l _ rfl

/-- An index lies in point `t`'s block when each coordinate is in the block's range. -/
theorem mem_block (t : Fin cfg0.N) (i : S128x49x136x128.Idx) : i ∈ ((cfg0.win 4).blk t).view.set
    ↔ ∀ a : Fin 4, win0_4.index t a * S4x49x136x128.size a ≤ (i a).val
      ∧ (i a).val < win0_4.index t a * S4x49x136x128.size a + S4x49x136x128.size a := by
  show i ∈ ((View.whole main_v9).slice (win0_4.rect t)).set ↔ _
  rw [View.set_slice_whole, Rect.mem_set_unit]
  exact Iff.rfl

/-- Every index of the slabs lies in some point's block. -/
theorem covered (i : S128x49x136x128.Idx) :
    ∃ t : Fin cfg0.N, (cfg0.win 4).flush t = true ∧ i ∈ ((cfg0.win 4).blk t).view.set := by
  have hi0 : (i 0).val < 128 := (i 0).isLt
  have hi1 : (i 1).val < 49 := (i 1).isLt
  have hi2 : (i 2).val < 136 := (i 2).isLt
  have hi3 : (i 3).val < 128 := (i 3).isLt
  obtain ⟨t, ht⟩ : ∃ t : Fin cfg0.N, t.val = (i 0).val / 4 := ⟨⟨(i 0).val / 4, lt_of_lt_of_eq (by omega) N_0.symm⟩, rfl⟩
  refine ⟨t, (by decide +kernel : ∀ t : Fin grid0.N, win0_4.flush t = true) t, (mem_block t i).2 fun a => ?_⟩
  have e := (index_facts t).2.2.2.2
  match a with
  | ⟨0, _⟩ => show win0_4.index t (0 : Fin 4) * 4 ≤ (i 0).val ∧ (i 0).val < win0_4.index t (0 : Fin 4) * 4 + 4; omega
  | ⟨1, _⟩ => show win0_4.index t (1 : Fin 4) * 49 ≤ (i 1).val ∧ (i 1).val < win0_4.index t (1 : Fin 4) * 49 + 49; omega
  | ⟨2, _⟩ => show win0_4.index t (2 : Fin 4) * 136 ≤ (i 2).val ∧ (i 2).val < win0_4.index t (2 : Fin 4) * 136 + 136; omega
  | ⟨3, _⟩ => show win0_4.index t (3 : Fin 4) * 128 ≤ (i 3).val ∧ (i 3).val < win0_4.index t (3 : Fin 4) * 128 + 128; omega

theorem slabs_eq (c : Dev nD) : (dats m 0 c).arrAt 4 cfg0.N = slabs m c :=
  (dats m 0 c).arrAt_eq_of_cover 4 _ (fun t _ => flushed_eq m c t) covered

/-! ## The result -/

theorem column_at (c : Dev nD) (k : Fin 1024) (j : Fin 6176) (n : Nat) (hn : n < 6272) (h : n = j.val) :
    column m c k n hn = (m ((c : Thread nD τ).loc main_arg2) : S1x1024x6176.Idx → EReal) (ix3 0 k j) := by
  subst h
  unfold column
  split
  · rfl
  · next h =>
    rw [last_at m c k ⟨j.val - 6144, by omega⟩ (by show j.val - 6144 < 32; omega)]
    refine congrArg (fun x => (m ((c : Thread nD τ).loc main_arg2) : S1x1024x6176.Idx → EReal) (ix3 0 k x)) (Fin.ext ?_)
    show 6144 + (j.val - 6144) = j.val
    omega

/-- The slab entry that holds an index of the result. -/
theorem slabs_at (c : Dev nD) (b : Fin 4) (s : Fin 4096) (j : Fin 6176) :
    slabs m c (ix4 ⟨b.val * 32 + s.val / 128, by omega⟩ ⟨j.val / 128, by omega⟩
        ⟨s.val / 16 % 8 * 17 + s.val % 16, by omega⟩ ⟨j.val % 128, by omega⟩)
      = projected (m ((c : Thread nD τ).loc main_arg0)) (m ((c : Thread nD τ).loc main_arg1)) (m ((c : Thread nD τ).loc main_arg2))
        (ix3 b s j) := by
  unfold slabs projected
  have hg : ¬ (s.val / 16 % 8 * 17 + s.val % 16) % 17 = 16 := by omega
  rw [dif_neg (show ¬ ((ix4 (⟨b.val * 32 + s.val / 128, by omega⟩ : Fin 128) (⟨j.val / 128, by omega⟩ : Fin 49)
    (⟨s.val / 16 % 8 * 17 + s.val % 16, by omega⟩ : Fin 136) (⟨j.val % 128, by omega⟩ : Fin 128) : S128x49x136x128.Idx) 2).val % 17 = 16 from hg)]
  have hr : ∀ (r : Fin 16384), r.val = b.val * 4096 + s.val → ∀ k : Fin 1024,
      rowOf (m ((c : Thread nD τ).loc main_arg0)) r k = (m ((c : Thread nD τ).loc main_arg0) : S4x4096x1024.Idx → EReal) (ix3 b s k) := by
    intro r hr k
    have hs : s.val < 4096 := s.isLt
    have h0 : (⟨r.val / 4096, by omega⟩ : Fin 4) = b := Fin.ext (by show r.val / 4096 = b.val; omega)
    have h1 : (⟨r.val % 4096, by omega⟩ : Fin 4096) = s := Fin.ext (by show r.val % 4096 = s.val; omega)
    unfold rowOf
    rw [h0, h1]
  have hv : 128 * (b.val * 32 + s.val / 128) + (16 * ((s.val / 16 % 8 * 17 + s.val % 16) / 17) + (s.val / 16 % 8 * 17 + s.val % 16) % 17)
      = b.val * 4096 + s.val := by omega
  refine Finset.sum_congr rfl fun k _ => ?_
  refine congr_arg₂ (· * ·) (congr_arg₂ (· * ·) (congr_arg₂ (· * rmsScale ·) (hr _ hv k) (funext (hr _ hv))) rfl) ?_
  exact column_at m c k j _ _ (by show 128 * (j.val / 128) + j.val % 128 = j.val; omega)

/-- The kernel's result is the projection of its arguments. -/
theorem final (c : Dev nD) :
    (Pipeline.afterTail₀ cfgs (dats m) 0 (V0 m) [hostOps1] c main_v14 : S4x4096x6176.Idx → EReal)
      = projected (m ((c : Thread nD τ).loc main_arg0)) (m ((c : Thread nD τ).loc main_arg1)) (m ((c : Thread nD τ).loc main_arg2)) := by
  funext i
  obtain ⟨b, s, j, rfl⟩ : ∃ (b : Fin 4) (s : Fin 4096) (j : Fin 6176), i = ix3 b s j := ⟨i 0, i 1, i 2, eq_ix3 i⟩
  refine Eq.trans ?_ (slabs_at m c b s j)
  unfold Pipeline.afterTail₀
  refine (read_back _ b s j).trans ?_
  refine Eq.trans ?_ (congrFun (slabs_eq m c) _)
  exact congrFun (Pipeline.withArrays_arr (cfgs 0).spec (by decide) c (V0 m c) (fun w => (dats m 0 c).arrAt w (cfgs 0).N) 4) _

/-- The kernel's run: its result at the projection of its arguments, which it leaves unchanged. -/
theorem run (ρ : Dev nD → PrngReg) : θ_run defs (onTc (τ := τ) (main (F := Ideal))) ⟨m, fun _ => 0, ρ⟩ fun r => ∀ c : Dev nD,
      r.2.mem ((c.tc : Thread nD τ).loc main_v14) = projected (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v14 (Pipeline.mem_restRefs_of main_v14 (by decide) (by decide))).trans (final m c), h.2 c⟩)
    (θ_run_and (run_main m ρ) (unchanged m ρ))

end

end Cert.Proof.GdnIn

end
-- ==== Proof.GdnInRead.lean ====
/- The gated DeltaNet projection's reference: its operations in order, its run, and what its result holds at every index. -/
module

public import proofs.«01_k».proof.Proof.GdnInArrays
public import proofs.«01_k».proof.Proof.Gen.GdnInRefIdeal
public import Idealize.ShloMosaic.Lib.StableHlo.Run

@[expose] public section

noncomputable section

namespace Cert.Proof.GdnInRef

open Cert.GdnInRefIdeal Cert.GdnInRefIdeal.Gen Idealize.ShloMosaic Idealize.ShloMosaic.TcCoe Idealize.SL.Sem Idealize.ShloMosaic.StableHlo

section
variable {F : FTy → Type} [FloatOps F]

/-- The reference's operations, in order. -/
abbrev ops : List (HloOp τ sig (Elt F)) :=
  [ unary main_arg1 main_v0 ((extractStridedSlice S1x1024 ![2, 0] · slices_S4x1024_S1x1024_2_0) : (⟨S4x1024, .f32⟩ : BufTy).Contents (Elt F) → (⟨S1x1024, .f32⟩ : BufTy).Contents (Elt F)),
    reshape main_v0 main_v1 (rfl : (.f32 : EltTy) = .f32) shapeCasts_S1x1024_S1024,
    binary main_arg0 main_arg0 main_v2 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v2 main_cst main_v3 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v3 main_v4 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v5 (broadcastInDim S4x4096x1 ![] bcast_S_S4x4096x1 : (⟨S_, .f32⟩ : BufTy).Contents (Elt F) → (⟨S4x4096x1, .f32⟩ : BufTy).Contents (Elt F)),
    binary main_v4 main_v5 main_v6 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x358637BD#32),
    unary main_cst_1 main_v7 (broadcastInDim S4x4096x1 ![] bcast_S_S4x4096x1 : (⟨S_, .f32⟩ : BufTy).Contents (Elt F) → (⟨S4x4096x1, .f32⟩ : BufTy).Contents (Elt F)),
    binary main_v6 main_v7 main_v8 (addf : (⟨S4x4096x1, .f32⟩ : BufTy).Contents (Elt F) → (⟨S4x4096x1, .f32⟩ : BufTy).Contents (Elt F) → (⟨S4x4096x1, .f32⟩ : BufTy).Contents (Elt F)),
    unary main_v8 main_v9 (Host.rsqrt : (⟨S4x4096x1, .f32⟩ : BufTy).Contents (Elt F) → (⟨S4x4096x1, .f32⟩ : BufTy).Contents (Elt F)),
    unary main_v9 main_v10 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_arg0 main_v10 main_v11 (mulf : (⟨S4x4096x1024, .f32⟩ : BufTy).Contents (Elt F) → (⟨S4x4096x1024, .f32⟩ : BufTy).Contents (Elt F) → (⟨S4x4096x1024, .f32⟩ : BufTy).Contents (Elt F)),
    unary main_v1 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v11 main_v13 main_v14 (mulf : (⟨S4x4096x1024, .f32⟩ : BufTy).Contents (Elt F) → (⟨S4x4096x1024, .f32⟩ : BufTy).Contents (Elt F) → (⟨S4x4096x1024, .f32⟩ : BufTy).Contents (Elt F)),
    reshape main_arg2 main_v15 (rfl : (.f32 : EltTy) = .f32) shapeCasts_S1x1024x6176_S1024x6176,
    binary main_v14 main_v15 main_v16 ((fun l r => Host.dotGeneral dot_S4x4096x1024_S1024x6176_S4x4096x6176_2_0_01_1_n_n none l r) : (⟨S4x4096x1024, .f32⟩ : BufTy).Contents (Elt F) → (⟨S1024x6176, .f32⟩ : BufTy).Contents (Elt F) → (⟨S4x4096x6176, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., binary_bufs_sub ..⟩

end

set_option maxRecDepth 16384 in
/-- The reference's result is the projection of its arguments. -/
theorem result_eq (W : Valuation τ sig (Elt Ideal)) : (after ops W (main_v16 : DevRef τ sig) : S4x4096x6176.Idx → EReal)
    = GdnIn.projected (W (main_arg0 : DevRef τ sig)) (W (main_arg1 : DevRef τ sig)) (W (main_arg2 : DevRef τ sig)) := by
  funext i
  obtain ⟨b, s, j, rfl⟩ : ∃ (b : Fin 4) (s : Fin 4096) (j : Fin 6176), i = ix3 b s j := ⟨i 0, i 1, i 2, eq_ix3 i⟩
  after_reads_at
  pointwise [GdnIn.projected, rmsScale]

/-- The reference's run: its result at the projection of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = GdnIn.projected (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v16).trans (result_eq _),
      (h c main_arg0).trans (by after_results <;> rfl),
      (h c main_arg1).trans (by after_results <;> rfl),
      (h c main_arg2).trans (by after_results <;> rfl)⟩)
    (run_seq scopedRefs_eq scopedSems_eq defs main (fun _ => ops) main_eq (fun _ => ops_sub) m ρ)

end Cert.Proof.GdnInRef

end
-- ==== Proof.InProjBlock.lean ====
/- The in-projection's kernel: what its blocks hold, and what its result array holds at every index. -/
module

public import proofs.«01_k».proof.Proof.Rms
public import proofs.«01_k».proof.Proof.Gen.InProjIdeal.Value
public import Idealize.ShloMosaic.Lib.StableHlo.ReadAt

@[expose] public section

noncomputable section

namespace Cert.Proof.InProj

open Cert.InProjIdeal Cert.InProjIdeal.Gen Cert.InProjIdeal.Value Idealize.ShloMosaic Idealize.ShloMosaic.TcCoe
open Idealize.SL.Sem

/-- The projection: each row divided by its root mean square, times the gain, times the weight matrix. -/
def projected (h : S4x4096x1024.Idx → EReal) (g : S4x1024.Idx → EReal) (w : S1x1024x6144.Idx → EReal) :
    S16384x6144.Idx → EReal := fun i =>
  ∑ k : Fin 1024, rowOf h (i 0) k * rmsScale (rowOf h (i 0)) * g (ix2 1 k) * w (ix3 0 k (i 1))

variable (m : (ℓ : Loc nD τ sig) → Buf (Elt Ideal) ℓ)

/-- The activations as the kernel reads them: 16384 rows. -/
theorem rows_at (c : Dev nD) (r : Fin 16384) (k : Fin 1024) :
    (V m c main_v0 : S16384x1024.Idx → EReal) (ix2 r k) = rowOf (m ((c : Thread nD τ).loc main_arg0)) r k := by
  unfold V
  after_reads_at

/-- The gain as the kernel reads it: row 1 of the gains. -/
theorem gain_at (c : Dev nD) (k : Fin 1024) :
    (V m c main_v5 : S1x1024.Idx → EReal) (ix2 0 k) = (m ((c : Thread nD τ).loc main_arg1) : S4x1024.Idx → EReal) (ix2 1 k) := by
  unfold V
  after_reads_at

/-- The weights as the kernel reads them. -/
theorem weight_at (c : Dev nD) (k : Fin 1024) (j : Fin 6144) :
    (V m c main_v4 : S1024x6144.Idx → EReal) (ix2 k j)
      = (m ((c : Thread nD τ).loc main_arg2) : S1x1024x6144.Idx → EReal) (ix3 0 k j) := by
  unfold V
  after_reads_at

/-- Point `t` works on rows `512 t` to `512 t + 511`, with the whole gain and weights. -/
theorem index_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem iblk0_at (c : Dev nD) (t : Fin cfg0.N) (a : Fin 512) (k : Fin 1024) (r : Fin 16384) (hr : r.val = t.val * 512 + a.val) :
    (iblk m c 0 t : S512x1024.Idx → EReal) (ix2 a k) = rowOf (m ((c : Thread nD τ).loc main_arg0)) r k := by
  refine Eq.trans ?_ (rows_at m c r k)
  show (V m c main_v0 : S16384x1024.Idx → EReal) (((cfg0.win 0).blk t).view.emb (ix2 a k)) = _
  congr 1
  have e := index_facts t
  funext x; apply Fin.ext
  match x with
  | ⟨0, _⟩ => show win0_0.index t (0 : Fin 2) * 512 + 1 * a.val = r.val; omega
  | ⟨1, _⟩ => show win0_0.index t (1 : Fin 2) * 1024 + 1 * k.val = k.val; omega

theorem iblk1_at (c : Dev nD) (t : Fin cfg0.N) (k : Fin 1024) :
    (iblk m c 1 t : S1x1024.Idx → EReal) (ix2 0 k) = (m ((c : Thread nD τ).loc main_arg1) : S4x1024.Idx → EReal) (ix2 1 k) := by
  refine Eq.trans ?_ (gain_at m c k)
  show (V m c main_v5 : S1x1024.Idx → EReal) (((cfg0.win 1).blk t).view.emb (ix2 0 k)) = _
  congr 1
  have e := index_facts t
  funext x; apply Fin.ext
  match x with
  | ⟨0, _⟩ => show win0_1.index t (0 : Fin 2) * 1 + 1 * 0 = 0; omega
  | ⟨1, _⟩ => show win0_1.index t (1 : Fin 2) * 1024 + 1 * k.val = k.val; omega

theorem iblk2_at (c : Dev nD) (t : Fin cfg0.N) (k : Fin 1024) (j : Fin 6144) :
    (iblk m c 2 t : S1024x6144.Idx → EReal) (ix2 k j)
      = (m ((c : Thread nD τ).loc main_arg2) : S1x1024x6144.Idx → EReal) (ix3 0 k j) := by
  refine Eq.trans ?_ (weight_at m c k j)
  show (V m c main_v4 : S1024x6144.Idx → EReal) (((cfg0.win 2).blk t).view.emb (ix2 k j)) = _
  congr 1
  have e := index_facts t
  funext x; apply Fin.ext
  match x with
  | ⟨0, _⟩ => show win0_2.index t (0 : Fin 2) * 1024 + 1 * k.val = k.val; omega
  | ⟨1, _⟩ => show win0_2.index t (1 : Fin 2) * 6144 + 1 * j.val = j.val; omega

/-- The block a point computes, element by element. -/
theorem block_at (x : Vec Ideal S512x1024 .f32) (g : Vec Ideal S1x1024 .f32) (w : Vec Ideal S1024x6144 .bf16)
    (a : Fin 512) (j : Fin 6144) :
    k0_pay1 x g w (ix2 a j)
      = ∑ k : Fin 1024, x (ix2 a k) * rmsScale (fun k => x (ix2 a k)) * g (ix2 0 k) * w (ix2 k j) := by
  pointwise [k0_pay1, rmsScale]

/-- The output block of a point is the stored payload. -/
theorem out_eq (x : Vec Ideal S512x1024 .f32) (g : Vec Ideal S1x1024 .f32) (w : Vec Ideal S1024x6144 .bf16) :
    out0_3 x g w = k0_pay1 x g w := by
  have hz : (![0, 0] : Fin 2 → Nat) = fun _ => 0 := funext fun a => by fin_cases a <;> rfl
  unfold out0_3
  rw [View.canon_unit_zero hz]
  simp only [View.ld_unit_zero (S := S512x1024) hz, View.ld_unit_zero (S := S1x1024) hz, View.ld_unit_zero (S := S1024x6144) hz]

/-- What point `t` writes back is block `t` of the projection. -/
theorem flushed_eq (c : Dev nD) (t : Fin cfg0.N) :
    (dats m 0 c).flushed 3 t = ((cfg0.win 3).blk t).view.read (Elt Ideal)
      (projected (m ((c : Thread nD τ).loc main_arg0)) (m ((c : Thread nD τ).loc main_arg1)) (m ((c : Thread nD τ).loc main_arg2))) := by
  rw [flushed3, out_eq]
  funext y
  obtain ⟨a, j, rfl⟩ : ∃ (a : Fin 512) (j : Fin 6144), y = ix2 a j := ⟨y 0, y 1, eq_ix2 y⟩
  have e := index_facts t
  have ht : t.val < 32 := lt_of_lt_of_eq t.isLt N_0
  have hemb : ((cfg0.win 3).blk t).view.emb (ix2 a j) = (ix2 ⟨t.val * 512 + a.val, by omega⟩ j : S16384x6144.Idx) := by
    funext x; apply Fin.ext
    match x with
    | ⟨0, _⟩ => show win0_3.index t (0 : Fin 2) * 512 + 1 * a.val = t.val * 512 + a.val; omega
    | ⟨1, _⟩ => show win0_3.index t (1 : Fin 2) * 6144 + 1 * j.val = j.val; omega
  show k0_pay1 (iblk m c 0 t) (iblk m c 1 t) (iblk m c 2 t) (ix2 a j)
    = projected _ _ _ (((cfg0.win 3).blk t).view.emb (ix2 a j))
  rw [hemb, block_at]
  unfold projected
  have hx : (fun k => (iblk m c 0 t : S512x1024.Idx → EReal) (ix2 a k))
      = rowOf (m ((c : Thread nD τ).loc main_arg0)) ⟨t.val * 512 + a.val, by omega⟩ :=
    funext fun k => iblk0_at m c t a k _ rfl
  refine Finset.sum_congr rfl fun k _ => ?_
  rw [hx, iblk1_at, iblk2_at, iblk0_at m c t a k ⟨t.val * 512 + a.val, by omega⟩ rfl]
  rfl

/-- An index lies in point `t`'s block when each coordinate is in the block's range. -/
theorem mem_block (t : Fin cfg0.N) (i : S16384x6144.Idx) : i ∈ ((cfg0.win 3).blk t).view.set
    ↔ ∀ a : Fin 2, win0_3.index t a * S512x6144.size a ≤ (i a).val ∧ (i a).val < win0_3.index t a * S512x6144.size a + S512x6144.size a := by
  show i ∈ ((View.whole main_v6).slice (win0_3.rect t)).set ↔ _
  rw [View.set_slice_whole, Rect.mem_set_unit]
  exact Iff.rfl

/-- Every index of the result lies in some point's block. -/
theorem covered (i : S16384x6144.Idx) :
    ∃ t : Fin cfg0.N, (cfg0.win 3).flush t = true ∧ i ∈ ((cfg0.win 3).blk t).view.set := by
  have hi0 : (i 0).val < 16384 := (i 0).isLt
  have hi1 : (i 1).val < 6144 := (i 1).isLt
  obtain ⟨t, ht⟩ : ∃ t : Fin cfg0.N, t.val = (i 0).val / 512 := ⟨⟨(i 0).val / 512, lt_of_lt_of_eq (by omega) N_0.symm⟩, rfl⟩
  refine ⟨t, (by decide +kernel : ∀ t : Fin grid0.N, win0_3.flush t = true) t, (mem_block t i).2 fun a => ?_⟩
  have e := (index_facts t).2.2.2
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 6144 ≤ (i 1).val ∧ (i 1).val < win0_3.index t (1 : Fin 2) * 6144 + 6144; omega

/-- The kernel's result array is the projection of its arguments. -/
theorem final (c : Dev nD) : (dats m 0 c).arrAt 3 cfg0.N
    = projected (m ((c : Thread nD τ).loc main_arg0)) (m ((c : Thread nD τ).loc main_arg1)) (m ((c : Thread nD τ).loc main_arg2)) :=
  (dats m 0 c).arrAt_eq_of_cover 3 _ (fun t _ => flushed_eq m c t) covered

end Cert.Proof.InProj

end
-- ==== Proof.InProjRead.lean ====
/- What the in-projection's reference computes, element by element: the same projection. -/
module

public import proofs.«01_k».proof.Proof.InProjBlock
public import proofs.«01_k».proof.Proof.Gen.InProjRefIdeal.Read

@[expose] public section

noncomputable section

namespace Cert.Proof.InProj

open Cert.InProjRefIdeal Cert.InProjRefIdeal.Read Idealize.ShloMosaic

set_option maxRecDepth 16384 in
/-- The reference's result is the projection of its arguments. -/
theorem reference_eq (h : S4x4096x1024.Idx → EReal) (g : S4x1024.Idx → EReal) (w : S1x1024x6144.Idx → EReal) :
    val_main_v17 (F := Ideal) h g w = projected h g w := by
  funext i
  obtain ⟨r, j, rfl⟩ : ∃ (r : Fin 16384) (j : Fin 6144), i = ix2 r j := ⟨i 0, i 1, eq_ix2 i⟩
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_cst, val_main_cst_0,val_main_cst_1,
    projected, rmsScale]

end Cert.Proof.InProj

end
-- ==== Proof.MlpCases.lean ====
/- What one grid point of the feed-forward kernel computes, in each of its three cases: the first block of the hidden
   width, a middle block, and the last block. -/
module

public import proofs.«01_k».proof.Proof.Rms
public import proofs.«01_k».proof.Proof.Gen.MlpIdeal.Value

@[expose] public section

noncomputable section

namespace Cert.Proof.Mlp

open Cert.MlpIdeal Cert.MlpIdeal.Gen Cert.MlpIdeal.Value Idealize.ShloMosaic Idealize.ShloMosaic.TcCoe

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- First block: the rows are normalized, and the block's contribution is added to the rows themselves. -/
theorem first_out (c : Dev nD) (i : grid0.Coords) (a2 : Memref sig .tc .vmem S1024x1024 .f32) (h2 : a2.IsWhole)
    (a3 : Memref sig .tc .vmem S1x1024 .f32) (h3 : a3.IsWhole)
    (a4 : Memref sig .tc .vmem S1x1024x1024 .f32) (h4 : a4.IsWhole)
    (a5 : Memref sig .tc .vmem S1x1024x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S1024x1024 .bf16) (h8 : a8.IsWhole)
    (hc0 : cond0_0 i) (hc1 : ¬cond0_1 i) (x0 : Vec F S1024x1024 .f32) (x1 : Vec F S1x1024 .f32) (x2 x3 : Vec F S1x1024x1024 .f32) (x4 : Vec F S1x1024 .f32) :
    out0_A_5 c i a2 h2 a3 h3 a4 h4 a5 h5 a6 h6 a7 h7 a8 h8 hc0 hc1 x0 x1 x2 x3 x4 = k0_pay3 (k0_pay2 x0 x1) x2 (k0_pay1 x0) x3 := by
  unfold out0_A_5
  rw [View.read_writes_eq_canon _ _ _ (cover0_A_5 c i a2 h2 a3 h3 a4 h4 a5 h5 a6 h6 a7 h7 a8 h8 hc0 hc1 x0 x1 x2 x3 x4)]
  unfold kernelRun0_A
  dsimp only
  sl_unfold_words
  rw [View.canon_cons_unit_zero (S := S1024x1024) hz]
  simp only [View.readAt_eq_ld, h2.read_unread, h3.read_unread, h4.read_unread, h5.read_unread, h6.read_unread, h7.read_unread,
    h8.read_unread, View.ld_unit_zero (S := S1024x1024) hz, View.ld_unit_zero (S := S1x1024) hz,
    View.ld_unit_zero (S := S1x1024x1024) hz3, View.readCov_unit_zero (S := S1024x1024) _ hz]

/-- First block: the normalized rows are kept for the later blocks. -/
theorem first_scratch (c : Dev nD) (i : grid0.Coords) (a2 : Memref sig .tc .vmem S1024x1024 .f32) (h2 : a2.IsWhole)
    (a3 : Memref sig .tc .vmem S1x1024 .f32) (h3 : a3.IsWhole)
    (a4 : Memref sig .tc .vmem S1x1024x1024 .f32) (h4 : a4.IsWhole)
    (a5 : Memref sig .tc .vmem S1x1024x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S1024x1024 .bf16) (h8 : a8.IsWhole)
    (hc0 : cond0_0 i) (hc1 : ¬cond0_1 i) (x0 : Vec F S1024x1024 .f32) (x1 : Vec F S1x1024 .f32) (x2 x3 : Vec F S1x1024x1024 .f32) (x4 : Vec F S1x1024 .f32) :
    sout0_A_0 c i a2 h2 a3 h3 a4 h4 a5 h5 a6 h6 a7 h7 a8 h8 hc0 hc1 x0 x1 x2 x3 x4 = k0_pay2 x0 x1 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_unit_zero (S := S1024x1024) hz]
  simp only [View.readAt_eq_ld, h2.read_unread, h3.read_unread, h4.read_unread, h5.read_unread, h6.read_unread, h7.read_unread,
    h8.read_unread, View.ld_unit_zero (S := S1024x1024) hz, View.ld_unit_zero (S := S1x1024) hz,
    View.ld_unit_zero (S := S1x1024x1024) hz3, View.readCov_unit_zero (S := S1024x1024) _ hz]

/-- A middle block: its contribution is added to what the block before left. -/
theorem middle_out (c : Dev nD) (i : grid0.Coords) (a2 : Memref sig .tc .vmem S1024x1024 .f32) (h2 : a2.IsWhole)
    (a3 : Memref sig .tc .vmem S1x1024 .f32) (h3 : a3.IsWhole)
    (a4 : Memref sig .tc .vmem S1x1024x1024 .f32) (h4 : a4.IsWhole)
    (a5 : Memref sig .tc .vmem S1x1024x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S1024x1024 .bf16) (h8 : a8.IsWhole)
    (hc0 : ¬cond0_0 i) (hc1 : ¬cond0_1 i) (x0 : Vec F S1024x1024 .f32) (x1 : Vec F S1x1024 .f32) (x2 x3 : Vec F S1x1024x1024 .f32) (x4 : Vec F S1x1024 .f32) (xo : Vec F S1024x1024 .f32) (xs : Vec F S1024x1024 .bf16) :
    out0_B_5 c i a2 h2 a3 h3 a4 h4 a5 h5 a6 h6 a7 h7 a8 h8 hc0 hc1 x0 x1 x2 x3 x4 xo xs = k0_pay3 xs x2 xo x3 := by
  unfold out0_B_5
  rw [View.read_writes_eq_canon _ _ _ (cover0_B_5 c i a2 h2 a3 h3 a4 h4 a5 h5 a6 h6 a7 h7 a8 h8 hc0 hc1 x0 x1 x2 x3 x4 xo xs)]
  unfold kernelRun0_B
  dsimp only
  sl_unfold_words
  rw [View.canon_unit_zero (S := S1024x1024) hz]
  simp only [View.readAt_eq_ld, h2.read_unread, h3.read_unread, h4.read_unread, h5.read_unread, h6.read_unread, h7.read_unread,
    h8.read_unread, View.ld_unit_zero (S := S1024x1024) hz, View.ld_unit_zero (S := S1x1024) hz,
    View.ld_unit_zero (S := S1x1024x1024) hz3, View.readCov_unit_zero (S := S1024x1024) _ hz]

/-- The last block: its contribution is added, and the rows are normalized once more. -/
theorem last_out (c : Dev nD) (i : grid0.Coords) (a2 : Memref sig .tc .vmem S1024x1024 .f32) (h2 : a2.IsWhole)
    (a3 : Memref sig .tc .vmem S1x1024 .f32) (h3 : a3.IsWhole)
    (a4 : Memref sig .tc .vmem S1x1024x1024 .f32) (h4 : a4.IsWhole)
    (a5 : Memref sig .tc .vmem S1x1024x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S1024x1024 .bf16) (h8 : a8.IsWhole)
    (hc0 : ¬cond0_0 i) (hc1 : cond0_1 i) (x0 : Vec F S1024x1024 .f32) (x1 : Vec F S1x1024 .f32) (x2 x3 : Vec F S1x1024x1024 .f32) (x4 : Vec F S1x1024 .f32) (xo : Vec F S1024x1024 .f32) (xs : Vec F S1024x1024 .bf16) :
    out0_C_5 c i a2 h2 a3 h3 a4 h4 a5 h5 a6 h6 a7 h7 a8 h8 hc0 hc1 x0 x1 x2 x3 x4 xo xs = k0_pay4 (k0_pay3 xs x2 xo x3) x4 := by
  unfold out0_C_5
  rw [View.read_writes_eq_canon _ _ _ (cover0_C_5 c i a2 h2 a3 h3 a4 h4 a5 h5 a6 h6 a7 h7 a8 h8 hc0 hc1 x0 x1 x2 x3 x4 xo xs)]
  unfold kernelRun0_C
  dsimp only
  sl_unfold_words
  rw [View.canon_cons_unit_zero (S := S1024x1024) hz]
  simp only [View.readAt_eq_ld, h2.read_unread, h3.read_unread, h4.read_unread, h5.read_unread, h6.read_unread, h7.read_unread,
    h8.read_unread, View.ld_unit_zero (S := S1024x1024) hz, View.ld_unit_zero (S := S1x1024) hz,
    View.ld_unit_zero (S := S1x1024x1024) hz3, View.readCov_unit_zero (S := S1024x1024) _ hz]

end Cert.Proof.Mlp

end
-- ==== Proof.MlpMath.lean ====
/- The feed-forward layer as mathematics: a row, its norm, and the sum of the hidden units' contributions, for each of the
   four stacked layers. -/
module

public import proofs.«01_k».proof.Proof.Rms

@[expose] public section

noncomputable section

namespace Cert.Proof.Mlp

open Idealize.ShloMosaic

/-- 4 sequences of 4096 rows; also the shape of the stacked down-projections. -/
abbrev Rows : Shape := ⟨3, ![4, 4096, 1024]⟩
/-- The stacked up-projections. -/
abbrev Ups : Shape := ⟨3, ![4, 1024, 4096]⟩
/-- The stacked gains. -/
abbrev Gains : Shape := ⟨2, ![4, 1024]⟩
/-- One gain. -/
abbrev Row : Shape := ⟨1, ![1024]⟩
/-- The result's rows. -/
abbrev Out : Shape := ⟨2, ![16384, 1024]⟩

variable (l : Fin 4)

/-- Hidden unit `f`'s contribution to output column `d`: the squared positive part of its activation, times its weight. -/
def unit (x : Fin 1024 → EReal) (wu : Ups.Idx → EReal) (wd : Rows.Idx → EReal) (d : Fin 1024) (f : Fin 4096) : EReal :=
  max (∑ k : Fin 1024, x k * wu (ix3 l k f)) 0 * max (∑ k : Fin 1024, x k * wu (ix3 l k f)) 0 * wd (ix3 l f d)

/-- Row `r` normalized by gain row `l`. -/
def normed (h : Rows.Idx → EReal) (g : Gains.Idx → EReal) (r : Fin 16384) : Fin 1024 → EReal :=
  normRow (rowOf h r) fun k => g (ix2 l k)

/-- Row `r` after the first `n` hidden units' contributions are added. -/
def added (h : Rows.Idx → EReal) (g : Gains.Idx → EReal) (wu : Ups.Idx → EReal) (wd : Rows.Idx → EReal)
    (n : ℕ) (r : Fin 16384) (d : Fin 1024) : EReal :=
  rowOf h r d + ∑ f ∈ Finset.range n, unit l (normed l h g r) wu wd d (Fin.ofNat 4096 f)

/-- The layer with the final norm: each row plus all contributions, normalized by the final gain. -/
def layer (h : Rows.Idx → EReal) (g : Gains.Idx → EReal) (wu : Ups.Idx → EReal) (wd : Rows.Idx → EReal)
    (fg : Row.Idx → EReal) : Out.Idx → EReal := fun i =>
  normRow (added l h g wu wd 4096 (i 0)) (fun d => fg (ix1 d)) (i 1)

/-- The layer without a final norm: each row plus all contributions. -/
def plain (h : Rows.Idx → EReal) (g : Gains.Idx → EReal) (wu : Ups.Idx → EReal) (wd : Rows.Idx → EReal) : Out.Idx → EReal := fun i =>
  added l h g wu wd 4096 (i 0) (i 1)

/-- Adding the next block of 1024 hidden units. -/
theorem added_next (h : Rows.Idx → EReal) (g : Gains.Idx → EReal) (wu : Ups.Idx → EReal) (wd : Rows.Idx → EReal)
    (j : ℕ) (hj : j < 4) (r : Fin 16384) (d : Fin 1024) :
    added l h g wu wd (1024 * j) r d + ∑ f : Fin 1024, unit l (normed l h g r) wu wd d ⟨1024 * j + f.val, by omega⟩
      = added l h g wu wd (1024 * (j + 1)) r d := by
  unfold added
  rw [show 1024 * (j + 1) = 1024 * j + 1024 from by ring, Finset.sum_range_add, ← add_assoc,
    Finset.sum_range (fun x => unit l (normed l h g r) wu wd d (Fin.ofNat 4096 (1024 * j + x)))]
  congr 1
  refine Finset.sum_congr rfl fun f _ => ?_
  congr 1
  apply Fin.ext
  show _ = (1024 * j + f.val) % 4096
  rw [Nat.mod_eq_of_lt (by omega)]

theorem added_zero (h : Rows.Idx → EReal) (g : Gains.Idx → EReal) (wu : Ups.Idx → EReal) (wd : Rows.Idx → EReal)
    (r : Fin 16384) (d : Fin 1024) : added l h g wu wd (1024 * 0) r d = rowOf h r d := by
  simp [added]

/-- A sum over the first `n` naturals, read as indices below `n`, is the sum over those indices. -/
theorem sum_ofNat (n : ℕ) [NeZero n] (F : Fin n → EReal) : ∑ f ∈ Finset.range n, F (Fin.ofNat n f) = ∑ f : Fin n, F f := by
  rw [Finset.sum_range]
  exact Finset.sum_congr rfl fun f _ => congrArg F (Fin.ext (Nat.mod_eq_of_lt f.isLt))

/-- All 4096 contributions, as one sum. -/
theorem added_all (h : Rows.Idx → EReal) (g : Gains.Idx → EReal) (wu : Ups.Idx → EReal) (wd : Rows.Idx → EReal)
    (r : Fin 16384) (d : Fin 1024) :
    added l h g wu wd 4096 r d = rowOf h r d + ∑ f : Fin 4096, unit l (normed l h g r) wu wd d f :=
  congrArg (rowOf h r d + ·) (sum_ofNat 4096 (unit l (normed l h g r) wu wd d))

end Cert.Proof.Mlp

end
-- ==== Proof.MlpBlock.lean ====
/- The feed-forward kernel: what its blocks hold, what each grid point adds, and what its result array holds. -/
module

public import proofs.«01_k».proof.Proof.MlpCases
public import proofs.«01_k».proof.Proof.MlpMath
public import Idealize.ShloMosaic.Lib.StableHlo.ReadAt

@[expose] public section

noncomputable section

namespace Cert.Proof.Mlp

open Cert.MlpIdeal Cert.MlpIdeal.Gen Cert.MlpIdeal.Value Idealize.ShloMosaic Idealize.ShloMosaic.TcCoe
open Idealize.SL.Sem

/-! ## The blocks -/

variable (m : (ℓ : Loc nD τ sig) → Buf (Elt Ideal) ℓ)

theorem rows_at (c : Dev nD) (r : Fin 16384) (k : Fin 1024) :
    (V m c main_v0 : S16384x1024.Idx → EReal) (ix2 r k) = rowOf (m ((c : Thread nD τ).loc main_arg0)) r k := by
  unfold V
  after_reads_at

theorem gain_at (c : Dev nD) (k : Fin 1024) :
    (V m c main_v3 : S1x1024.Idx → EReal) (ix2 0 k) = (m ((c : Thread nD τ).loc main_arg1) : S4x1024.Idx → EReal) (ix2 3 k) := by
  unfold V
  after_reads_at

theorem final_gain_at (c : Dev nD) (k : Fin 1024) :
    (V m c main_v4 : S1x1024.Idx → EReal) (ix2 0 k) = (m ((c : Thread nD τ).loc main_arg4) : S1024.Idx → EReal) (ix1 k) := by
  unfold V
  after_reads_at

/-- Point `t` works on rows `1024 (t / 4)` onwards and on hidden units `1024 (t % 4)` onwards. -/
theorem index_facts : ∀ t : Fin cfg0.N, (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 3) = 3 ∧ win0_2.index t (1 : Fin 3) = 0 ∧ win0_2.index t (2 : Fin 3) = t.val % 4)
    ∧ (win0_3.index t (0 : Fin 3) = 3 ∧ win0_3.index t (1 : Fin 3) = t.val % 4 ∧ win0_3.index t (2 : Fin 3) = 0)
    ∧ (win0_4.index t (0 : Fin 2) = 0 ∧ win0_4.index t (1 : Fin 2) = 0)
    ∧ (win0_5.index t (0 : Fin 2) = t.val / 4 ∧ win0_5.index t (1 : Fin 2) = 0) :=
  (by decide +kernel : ∀ t : Fin grid0.N, _)

theorem iblk0_at (c : Dev nD) (t : Fin cfg0.N) (a : Fin 1024) (k : Fin 1024) (r : Fin 16384) (hr : r.val = t.val / 4 * 1024 + a.val) :
    (iblk m c 0 t : S1024x1024.Idx → EReal) (ix2 a k) = rowOf (m ((c : Thread nD τ).loc main_arg0)) r k := by
  refine Eq.trans ?_ (rows_at m c r k)
  show (V m c main_v0 : S16384x1024.Idx → EReal) (((cfg0.win 0).blk t).view.emb (ix2 a k)) = _
  congr 1
  have e := index_facts t
  funext x; apply Fin.ext
  match x with
  | ⟨0, _⟩ => show win0_0.index t (0 : Fin 2) * 1024 + 1 * a.val = r.val; omega
  | ⟨1, _⟩ => show win0_0.index t (1 : Fin 2) * 1024 + 1 * k.val = k.val; omega

theorem iblk1_at (c : Dev nD) (t : Fin cfg0.N) (k : Fin 1024) :
    (iblk m c 1 t : S1x1024.Idx → EReal) (ix2 0 k) = (m ((c : Thread nD τ).loc main_arg1) : S4x1024.Idx → EReal) (ix2 3 k) := by
  refine Eq.trans ?_ (gain_at m c k)
  show (V m c main_v3 : S1x1024.Idx → EReal) (((cfg0.win 1).blk t).view.emb (ix2 0 k)) = _
  congr 1
  have e := index_facts t
  funext x; apply Fin.ext
  match x with
  | ⟨0, _⟩ => show win0_1.index t (0 : Fin 2) * 1 + 1 * 0 = 0; omega
  | ⟨1, _⟩ => show win0_1.index t (1 : Fin 2) * 1024 + 1 * k.val = k.val; omega

theorem iblk2_at (c : Dev nD) (t : Fin cfg0.N) (k f : Fin 1024) :
    (iblk m c 2 t : S1x1024x1024.Idx → EReal) (ix3 0 k f)
      = (m ((c : Thread nD τ).loc main_arg2) : S4x1024x4096.Idx → EReal) (ix3 3 k ⟨1024 * (t.val % 4) + f.val, by omega⟩) := by
  rw [← V_main_arg2 m c]
  show (V m c main_arg2 : S4x1024x4096.Idx → EReal) (((cfg0.win 2).blk t).view.emb (ix3 0 k f)) = _
  congr 1
  have e := index_facts t
  funext x; apply Fin.ext
  match x with
  | ⟨0, _⟩ => show win0_2.index t (0 : Fin 3) * 1 + 1 * 0 = 3; omega
  | ⟨1, _⟩ => show win0_2.index t (1 : Fin 3) * 1024 + 1 * k.val = k.val; omega
  | ⟨2, _⟩ => show win0_2.index t (2 : Fin 3) * 1024 + 1 * f.val = 1024 * (t.val % 4) + f.val; omega

theorem iblk3_at (c : Dev nD) (t : Fin cfg0.N) (f d : Fin 1024) :
    (iblk m c 3 t : S1x1024x1024.Idx → EReal) (ix3 0 f d)
      = (m ((c : Thread nD τ).loc main_arg3) : S4x4096x1024.Idx → EReal) (ix3 3 ⟨1024 * (t.val % 4) + f.val, by omega⟩ d) := by
  rw [← V_main_arg3 m c]
  show (V m c main_arg3 : S4x4096x1024.Idx → EReal) (((cfg0.win 3).blk t).view.emb (ix3 0 f d)) = _
  congr 1
  have e := index_facts t
  funext x; apply Fin.ext
  match x with
  | ⟨0, _⟩ => show win0_3.index t (0 : Fin 3) * 1 + 1 * 0 = 3; omega
  | ⟨1, _⟩ => show win0_3.index t (1 : Fin 3) * 1024 + 1 * f.val = 1024 * (t.val % 4) + f.val; omega
  | ⟨2, _⟩ => show win0_3.index t (2 : Fin 3) * 1024 + 1 * d.val = d.val; omega

theorem iblk4_at (c : Dev nD) (t : Fin cfg0.N) (k : Fin 1024) :
    (iblk m c 4 t : S1x1024.Idx → EReal) (ix2 0 k) = (m ((c : Thread nD τ).loc main_arg4) : S1024.Idx → EReal) (ix1 k) := by
  refine Eq.trans ?_ (final_gain_at m c k)
  show (V m c main_v4 : S1x1024.Idx → EReal) (((cfg0.win 4).blk t).view.emb (ix2 0 k)) = _
  congr 1
  have e := index_facts t
  funext x; apply Fin.ext
  match x with
  | ⟨0, _⟩ => show win0_4.index t (0 : Fin 2) * 1 + 1 * 0 = 0; omega
  | ⟨1, _⟩ => show win0_4.index t (1 : Fin 2) * 1024 + 1 * k.val = k.val; omega

/-! ## The payloads at an index -/

theorem copied_at (x : Vec Ideal S1024x1024 .f32) (a d : Fin 1024) : k0_pay1 x (ix2 a d) = x (ix2 a d) := by
  pointwise [k0_pay1]

theorem normed_at (x : Vec Ideal S1024x1024 .f32) (g : Vec Ideal S1x1024 .f32) (a d : Fin 1024) :
    k0_pay2 x g (ix2 a d) = normRow (fun k => x (ix2 a k)) (fun k => g (ix2 0 k)) d := by
  pointwise [k0_pay2, k0_pay1, normRow, rmsScale]

theorem final_at (x : Vec Ideal S1024x1024 .f32) (g : Vec Ideal S1x1024 .f32) (a d : Fin 1024) :
    k0_pay4 x g (ix2 a d) = normRow (fun k => x (ix2 a k)) (fun k => g (ix2 0 k)) d := by
  pointwise [k0_pay4, normRow, rmsScale]

theorem step_at (x : Vec Ideal S1024x1024 .bf16) (wu : Vec Ideal S1x1024x1024 .f32) (o : Vec Ideal S1024x1024 .f32)
    (wd : Vec Ideal S1x1024x1024 .f32) (a d : Fin 1024) :
    k0_pay3 x wu o wd (ix2 a d) = o (ix2 a d) + ∑ f : Fin 1024,
      max (∑ k : Fin 1024, x (ix2 a k) * wu (ix3 0 k f)) 0 * max (∑ k : Fin 1024, x (ix2 a k) * wu (ix3 0 k f)) 0
        * wd (ix3 0 f d) := by
  pointwise [k0_pay3]

/-! ## The state after each point -/

/-- The arguments, by name. -/
abbrev argH (c : Dev nD) : S4x4096x1024.Idx → EReal := m ((c : Thread nD τ).loc main_arg0)
abbrev argG (c : Dev nD) : S4x1024.Idx → EReal := m ((c : Thread nD τ).loc main_arg1)
abbrev argU (c : Dev nD) : S4x1024x4096.Idx → EReal := m ((c : Thread nD τ).loc main_arg2)
abbrev argD (c : Dev nD) : S4x4096x1024.Idx → EReal := m ((c : Thread nD τ).loc main_arg3)
abbrev argF (c : Dev nD) : S1024.Idx → EReal := m ((c : Thread nD τ).loc main_arg4)

/-- One step at point `t` over a block that holds the sums so far. -/
theorem step_added (c : Dev nD) (t : Fin cfg0.N) (a d : Fin 1024) (r : Fin 16384) (x : Vec Ideal S1024x1024 .bf16)
    (o : Vec Ideal S1024x1024 .f32)
    (hx : ∀ k, x (ix2 a k) = normed 3 (argH m c) (argG m c) r k)
    (ho : o (ix2 a d) = added 3 (argH m c) (argG m c) (argU m c) (argD m c) (1024 * (t.val % 4)) r d) :
    k0_pay3 x (iblk m c 2 t) o (iblk m c 3 t) (ix2 a d)
      = added 3 (argH m c) (argG m c) (argU m c) (argD m c) (1024 * (t.val % 4 + 1)) r d := by
  rw [step_at, ho, ← added_next 3 _ _ _ _ _ (Nat.mod_lt _ (by decide))]
  congr 1
  refine Finset.sum_congr rfl fun f _ => ?_
  unfold unit
  simp only [hx, iblk2_at, iblk3_at]

/-- After point `n` the scratch holds the normalized rows, and before the last block of a row group the output holds the
    rows with the contributions so far. -/
theorem state (c : Dev nD) : ∀ (n : ℕ) (hn : n < cfg0.N) (a : Fin 1024) (r : Fin 16384), r.val = n / 4 * 1024 + a.val →
    (∀ k, ((outsAt0 m c n hn).2 : S1024x1024.Idx → EReal) (ix2 a k) = normed 3 (argH m c) (argG m c) r k)
    ∧ (n % 4 ≠ 3 → ∀ d, ((outsAt0 m c n hn).1 : S1024x1024.Idx → EReal) (ix2 a d)
        = added 3 (argH m c) (argG m c) (argU m c) (argD m c) (1024 * (n % 4 + 1)) r d) := by
  intro n
  induction n with
  | zero =>
    intro hn a r hr
    have hx : ∀ k, k0_pay2 (iblk m c 0 ⟨0, hn⟩) (iblk m c 1 ⟨0, hn⟩) (ix2 a k) = normed 3 (argH m c) (argG m c) r k := fun k => by
      rw [normed_at]
      unfold normed
      congr 1
      · exact funext fun k => iblk0_at m c ⟨0, hn⟩ a k r hr
      · exact funext fun k => iblk1_at m c ⟨0, hn⟩ k
    rw [outsAt0_A m c ⟨0, hn⟩ rfl (fun h => absurd h (by show ¬0 % 4 = 3; decide))]
    refine ⟨fun k => ?_, fun _ d => ?_⟩
    · dsimp only; rw [first_scratch]; exact hx k
    · dsimp only; rw [first_out]
      exact step_added m c ⟨0, hn⟩ a d r _ _ hx (by rw [copied_at, iblk0_at m c ⟨0, hn⟩ a d r hr]; exact (added_zero ..).symm)
  | succ n ih =>
    intro hn a r hr
    have hN : n + 1 < 64 := lt_of_lt_of_eq hn N_0
    by_cases h0 : (n + 1) % 4 = 0
    · have h1 : ¬(n + 1) % 4 = 3 := by omega
      have hx : ∀ k, k0_pay2 (iblk m c 0 ⟨n + 1, hn⟩) (iblk m c 1 ⟨n + 1, hn⟩) (ix2 a k) = normed 3 (argH m c) (argG m c) r k := fun k => by
        rw [normed_at]
        unfold normed
        congr 1
        · exact funext fun k => iblk0_at m c ⟨n + 1, hn⟩ a k r hr
        · exact funext fun k => iblk1_at m c ⟨n + 1, hn⟩ k
      rw [outsAt0_A m c ⟨n + 1, hn⟩ h0 h1]
      refine ⟨fun k => ?_, fun _ d => ?_⟩
      · dsimp only; rw [first_scratch]; exact hx k
      · dsimp only; rw [first_out]
        exact step_added m c ⟨n + 1, hn⟩ a d r _ _ hx (by
          rw [copied_at, iblk0_at m c ⟨n + 1, hn⟩ a d r hr]; show _ = added 3 _ _ _ _ (1024 * ((n + 1) % 4)) r d
          rw [h0]; exact (added_zero ..).symm)
    · obtain ⟨ihx, iho⟩ := ih (Nat.lt_of_succ_lt hn) a r (by omega)
      by_cases h1 : (n + 1) % 4 = 3
      · rw [outsAt0_C m c ⟨n + 1, hn⟩ h0 h1]
        refine ⟨ihx, fun h => absurd h1 h⟩
      · rw [outsAt0_B m c ⟨n + 1, hn⟩ h0 h1]
        refine ⟨ihx, fun _ d => ?_⟩
        dsimp only; rw [middle_out]
        exact step_added m c ⟨n + 1, hn⟩ a d r _ _ ihx (by
          show ((outsAt0 m c n _).1 : S1024x1024.Idx → EReal) (ix2 a d) = _
          rw [iho (by omega) d, show n % 4 + 1 = (n + 1) % 4 from by omega])

/-- The last block of a row group leaves the layer's result. -/
theorem last_at (c : Dev nD) (t : Fin cfg0.N) (ht : t.val % 4 = 3) (a d : Fin 1024) (r : Fin 16384) (hr : r.val = t.val / 4 * 1024 + a.val) :
    ((outsAt0 m c t.val t.isLt).1 : S1024x1024.Idx → EReal) (ix2 a d)
      = layer 3 (argH m c) (argG m c) (argU m c) (argD m c) (argF m c) (ix2 r d) := by
  obtain ⟨n, hn⟩ : ∃ n, t.val = n + 1 := ⟨t.val - 1, by omega⟩
  have hlt : n < cfg0.N := by have := t.isLt; omega
  obtain ⟨ihx, iho⟩ := state m c n hlt a r (by omega)
  rw [outsAt0_C m c t (by omega) ht]
  dsimp only
  rw [last_out, final_at]
  unfold layer
  show normRow _ _ d = normRow _ _ d
  congr 1
  · funext k
    refine (step_added m c t a k r _ _ (fun k => ?_) ?_).trans ?_
    · have := ihx k
      simpa only [hn, Nat.add_sub_cancel] using this
    · have := iho (by omega) k
      rw [show n % 4 + 1 = t.val % 4 from by omega] at this
      simpa only [hn, Nat.add_sub_cancel] using this
    · rw [ht]; rfl
  · exact funext fun k => iblk4_at m c t k

/-- What a point that writes back writes is its block of the layer's result. -/
theorem flushed_eq (c : Dev nD) (t : Fin cfg0.N) (hf : (cfg0.win 5).flush t = true) :
    (dats m 0 c).flushed 5 t = ((cfg0.win 5).blk t).view.read (Elt Ideal)
      (layer 3 (argH m c) (argG m c) (argU m c) (argD m c) (argF m c)) := by
  rw [flushed5]
  funext y
  obtain ⟨a, d, rfl⟩ : ∃ (a : Fin 1024) (d : Fin 1024), y = ix2 a d := ⟨y 0, y 1, eq_ix2 y⟩
  have e := index_facts t
  have hN : t.val < 64 := lt_of_lt_of_eq t.isLt N_0
  have hemb : ((cfg0.win 5).blk t).view.emb (ix2 a d) = (ix2 ⟨t.val / 4 * 1024 + a.val, by omega⟩ d : S16384x1024.Idx) := by
    funext x; apply Fin.ext
    match x with
    | ⟨0, _⟩ => show win0_5.index t (0 : Fin 2) * 1024 + 1 * a.val = t.val / 4 * 1024 + a.val; omega
    | ⟨1, _⟩ => show win0_5.index t (1 : Fin 2) * 1024 + 1 * d.val = d.val; omega
  show ((outsAt0 m c t.val t.isLt).1 : S1024x1024.Idx → EReal) (ix2 a d) = layer 3 _ _ _ _ _ (((cfg0.win 5).blk t).view.emb (ix2 a d))
  rw [hemb]
  exact last_at m c t ((flush0_5 t).mp hf) a d _ rfl

/-- The kernel's result array is the layer of its arguments. -/
theorem final (c : Dev nD) : (dats m 0 c).arrAt 5 cfg0.N = layer 3 (argH m c) (argG m c) (argU m c) (argD m c) (argF m c) :=
  (dats m 0 c).arrAt_eq_of_cover 5 _ (fun t hf => flushed_eq m c t hf) (fun i => (covered_iff5 i).2 (by
    have h0 : (i 0).val < 16384 := (i 0).isLt; have h1 : (i 1).val < 1024 := (i 1).isLt; omega))

end Cert.Proof.Mlp

end
-- ==== Proof.MlpRead.lean ====
/- What the feed-forward layer's reference computes, element by element: the same layer. -/
module

public import proofs.«01_k».proof.Proof.MlpBlock
public import proofs.«01_k».proof.Proof.Gen.MlpRefIdeal.Read

@[expose] public section

noncomputable section

namespace Cert.Proof.Mlp

open Cert.MlpRefIdeal Cert.MlpRefIdeal.Read Idealize.ShloMosaic

set_option maxRecDepth 16384 in
/-- The reference's result is the layer of its arguments. -/
theorem reference_eq (h : S4x4096x1024.Idx → EReal) (g : S4x1024.Idx → EReal) (wu : S4x1024x4096.Idx → EReal) (wd : S4x4096x1024.Idx → EReal)
    (fg : S1024.Idx → EReal) : val_main_v37 (F := Ideal) h g wu wd fg = layer 3 h g wu wd fg := by
  have norm : ∀ (r : Fin 16384) (k : Fin 1024), val_main_v14 (F := Ideal) h g
      (ix3 ⟨r.val / 4096, by omega⟩ ⟨r.val % 4096, by omega⟩ k) = normed 3 h g r k := fun r k => by
    pointwise [val_main_v14, val_main_v13, val_main_v12, val_main_v11, val_main_v10, val_main_v9, val_main_v8, val_main_v7,
      val_main_v6, val_main_v5, val_main_v4, val_main_v3, val_main_v2, val_main_v1, val_main_v0, val_main_cst, val_main_cst_0,
      val_main_cst_1, normed, normRow, rmsScale]
  have sum : ∀ (r : Fin 16384) (d : Fin 1024), val_main_v23 (F := Ideal) h g wu wd
      (ix3 ⟨r.val / 4096, by omega⟩ ⟨r.val % 4096, by omega⟩ d) = added 3 h g wu wd 4096 r d := fun r d => by
    rw [added_all]
    unfold unit
    simp only [← norm]
    pointwise [val_main_v23, val_main_v22, val_main_v21, val_main_v20, val_main_call0_v0, val_main_call0_cst, val_main_v19,
      val_main_v18, val_main_v17, val_main_v16, val_main_v15]
  funext i
  obtain ⟨r, d, rfl⟩ : ∃ (r : Fin 16384) (d : Fin 1024), i = ix2 r d := ⟨i 0, i 1, eq_ix2 i⟩
  unfold layer normRow rmsScale
  simp only [← sum]
  pointwise [val_main_v37, val_main_v36, val_main_v35, val_main_v34, val_main_v33, val_main_v32, val_main_v31, val_main_v30,
    val_main_v29, val_main_v28, val_main_v27, val_main_v26, val_main_v25, val_main_v24, val_main_cst_2, val_main_cst_3, val_main_cst_4]
  simp only [sum]

end Cert.Proof.Mlp

end
-- ==== Proof.MlpFirstCases.lean ====
/- What one grid point of the feed-forward kernel without the final norm computes, in each of its two cases: the first
   block of the hidden width and a later one. -/
module

public import proofs.«01_k».proof.Proof.Rms
public import proofs.«01_k».proof.Proof.Gen.MlpFirstIdeal.Value

@[expose] public section

noncomputable section

namespace Cert.Proof.MlpFirst

open Cert.MlpFirstIdeal Cert.MlpFirstIdeal.Gen Cert.MlpFirstIdeal.Value Idealize.ShloMosaic Idealize.ShloMosaic.TcCoe

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- First block: the rows are normalized, and the block's contribution is added to the rows themselves. -/
theorem first_out (c : Dev nD) (i : grid0.Coords) (a2 : Memref sig .tc .vmem S1024x1024 .f32) (h2 : a2.IsWhole)
    (a3 : Memref sig .tc .vmem S1x1024 .f32) (h3 : a3.IsWhole)
    (a4 : Memref sig .tc .vmem S1x1024x1024 .f32) (h4 : a4.IsWhole)
    (a5 : Memref sig .tc .vmem S1x1024x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S1024x1024 .bf16) (h8 : a8.IsWhole)
    (hc0 : cond0_0 i) (x0 : Vec F S1024x1024 .f32) (x1 : Vec F S1x1024 .f32) (x2 x3 : Vec F S1x1024x1024 .f32) (x4 : Vec F S1x1024 .f32) :
    out0_A_5 c i a2 h2 a3 h3 a4 h4 a5 h5 a6 h6 a7 h7 a8 h8 hc0 x0 x1 x2 x3 x4 = k0_pay3 (k0_pay2 x0 x1) x2 (k0_pay1 x0) x3 := by
  unfold out0_A_5
  rw [View.read_writes_eq_canon _ _ _ (cover0_A_5 c i a2 h2 a3 h3 a4 h4 a5 h5 a6 h6 a7 h7 a8 h8 hc0 x0 x1 x2 x3 x4)]
  unfold kernelRun0_A
  dsimp only
  sl_unfold_words
  rw [View.canon_cons_unit_zero (S := S1024x1024) hz]
  simp only [View.readAt_eq_ld, h2.read_unread, h3.read_unread, h4.read_unread, h5.read_unread, h6.read_unread, h7.read_unread,
    h8.read_unread, View.ld_unit_zero (S := S1024x1024) hz, View.ld_unit_zero (S := S1x1024) hz,
    View.ld_unit_zero (S := S1x1024x1024) hz3, View.readCov_unit_zero (S := S1024x1024) _ hz]

/-- First block: the normalized rows are kept for the later blocks. -/
theorem first_scratch (c : Dev nD) (i : grid0.Coords) (a2 : Memref sig .tc .vmem S1024x1024 .f32) (h2 : a2.IsWhole)
    (a3 : Memref sig .tc .vmem S1x1024 .f32) (h3 : a3.IsWhole)
    (a4 : Memref sig .tc .vmem S1x1024x1024 .f32) (h4 : a4.IsWhole)
    (a5 : Memref sig .tc .vmem S1x1024x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S1024x1024 .bf16) (h8 : a8.IsWhole)
    (hc0 : cond0_0 i) (x0 : Vec F S1024x1024 .f32) (x1 : Vec F S1x1024 .f32) (x2 x3 : Vec F S1x1024x1024 .f32) (x4 : Vec F S1x1024 .f32) :
    sout0_A_0 c i a2 h2 a3 h3 a4 h4 a5 h5 a6 h6 a7 h7 a8 h8 hc0 x0 x1 x2 x3 x4 = k0_pay2 x0 x1 := by
  unfold sout0_A_0
  rw [View.read_writes_eq_canon _ _ _ (scover0_A_0 c i a2 h2 a3 h3 a4 h4 a5 h5 a6 h6 a7 h7 a8 h8 hc0 x0 x1 x2 x3 x4)]
  unfold kernelRun0_A
  dsimp only
  sl_unfold_words
  rw [View.canon_unit_zero (S := S1024x1024) hz]
  simp only [View.readAt_eq_ld, h2.read_unread, h3.read_unread, h4.read_unread, h5.read_unread, h6.read_unread, h7.read_unread,
    h8.read_unread, View.ld_unit_zero (S := S1024x1024) hz, View.ld_unit_zero (S := S1x1024) hz,
    View.ld_unit_zero (S := S1x1024x1024) hz3, View.readCov_unit_zero (S := S1024x1024) _ hz]

/-- A later block: its contribution is added to what the block before left. -/
theorem later_out (c : Dev nD) (i : grid0.Coords) (a2 : Memref sig .tc .vmem S1024x1024 .f32) (h2 : a2.IsWhole)
    (a3 : Memref sig .tc .vmem S1x1024 .f32) (h3 : a3.IsWhole)
    (a4 : Memref sig .tc .vmem S1x1024x1024 .f32) (h4 : a4.IsWhole)
    (a5 : Memref sig .tc .vmem S1x1024x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S1024x1024 .bf16) (h8 : a8.IsWhole)
    (hc0 : ¬cond0_0 i) (x0 : Vec F S1024x1024 .f32) (x1 : Vec F S1x1024 .f32) (x2 x3 : Vec F S1x1024x1024 .f32) (x4 : Vec F S1x1024 .f32) (xo : Vec F S1024x1024 .f32) (xs : Vec F S1024x1024 .bf16) :
    out0_B_5 c i a2 h2 a3 h3 a4 h4 a5 h5 a6 h6 a7 h7 a8 h8 hc0 x0 x1 x2 x3 x4 xo xs = k0_pay3 xs x2 xo x3 := by
  unfold out0_B_5
  rw [View.read_writes_eq_canon _ _ _ (cover0_B_5 c i a2 h2 a3 h3 a4 h4 a5 h5 a6 h6 a7 h7 a8 h8 hc0 x0 x1 x2 x3 x4 xo xs)]
  unfold kernelRun0_B
  dsimp only
  sl_unfold_words
  rw [View.canon_unit_zero (S := S1024x1024) hz]
  simp only [View.readAt_eq_ld, h2.read_unread, h3.read_unread, h4.read_unread, h5.read_unread, h6.read_unread, h7.read_unread,
    h8.read_unread, View.ld_unit_zero (S := S1024x1024) hz, View.ld_unit_zero (S := S1x1024) hz,
    View.ld_unit_zero (S := S1x1024x1024) hz3, View.readCov_unit_zero (S := S1024x1024) _ hz]

end Cert.Proof.MlpFirst

end
-- ==== Proof.MlpState.lean ====
/- The feed-forward calls without the final norm, whichever layer they serve: what one grid point adds, and what the
   output block and the scratch hold after each point, from what the input blocks hold. -/
module

public import proofs.«01_k».proof.Proof.MlpFirstCases
public import proofs.«01_k».proof.Proof.MlpMath

@[expose] public section

noncomputable section

namespace Cert.Proof.MlpFirst

open Cert.Proof.Mlp Cert.MlpFirstIdeal Cert.MlpFirstIdeal.Gen Idealize.ShloMosaic

/-! ## The payloads at an index -/

theorem copied_at (x : Vec Ideal S1024x1024 .f32) (a d : Fin 1024) : k0_pay1 x (ix2 a d) = x (ix2 a d) := by
  pointwise [k0_pay1]

theorem normed_at (x : Vec Ideal S1024x1024 .f32) (g : Vec Ideal S1x1024 .f32) (a d : Fin 1024) :
    k0_pay2 x g (ix2 a d) = normRow (fun k => x (ix2 a k)) (fun k => g (ix2 0 k)) d := by
  pointwise [k0_pay2, k0_pay1, normRow, rmsScale]

theorem step_at (x : Vec Ideal S1024x1024 .bf16) (wu : Vec Ideal S1x1024x1024 .f32) (o : Vec Ideal S1024x1024 .f32)
    (wd : Vec Ideal S1x1024x1024 .f32) (a d : Fin 1024) :
    k0_pay3 x wu o wd (ix2 a d) = o (ix2 a d) + ∑ f : Fin 1024,
      max (∑ k : Fin 1024, x (ix2 a k) * wu (ix3 0 k f)) 0 * max (∑ k : Fin 1024, x (ix2 a k) * wu (ix3 0 k f)) 0
        * wd (ix3 0 f d) := by
  pointwise [k0_pay3]

/-! ## The state after each point -/

variable {N : ℕ} (l : Fin 4) (h : Rows.Idx → EReal) (g : Gains.Idx → EReal) (wu : Ups.Idx → EReal) (wd : Rows.Idx → EReal)

/-- What the input blocks of the call for layer `l` hold: point `t` has rows `1024 (t / 4)` onwards, the layer's gain, and
    hidden units `1024 (t % 4)` onwards of the layer's two weights. -/
structure Blocks (rows : Fin N → Vec Ideal S1024x1024 .f32) (gain : Fin N → Vec Ideal S1x1024 .f32)
    (up down : Fin N → Vec Ideal S1x1024x1024 .f32) : Prop where
  rows : ∀ (t : Fin N) (a k : Fin 1024) (r : Fin 16384), r.val = t.val / 4 * 1024 + a.val → rows t (ix2 a k) = rowOf h r k
  gain : ∀ (t : Fin N) (k : Fin 1024), gain t (ix2 0 k) = g (ix2 l k)
  up : ∀ (t : Fin N) (k f : Fin 1024), up t (ix3 0 k f) = wu (ix3 l k ⟨1024 * (t.val % 4) + f.val, by omega⟩)
  down : ∀ (t : Fin N) (f d : Fin 1024), down t (ix3 0 f d) = wd (ix3 l ⟨1024 * (t.val % 4) + f.val, by omega⟩ d)

variable {l h g wu wd} {rows : Fin N → Vec Ideal S1024x1024 .f32} {gain : Fin N → Vec Ideal S1x1024 .f32}
  {up down : Fin N → Vec Ideal S1x1024x1024 .f32}

/-- One step at point `t` over a block that holds the sums so far. -/
theorem step_added (hb : Blocks l h g wu wd rows gain up down) (t : Fin N) (a d : Fin 1024) (r : Fin 16384)
    (x : Vec Ideal S1024x1024 .bf16) (o : Vec Ideal S1024x1024 .f32) (hx : ∀ k, x (ix2 a k) = normed l h g r k)
    (ho : o (ix2 a d) = added l h g wu wd (1024 * (t.val % 4)) r d) :
    k0_pay3 x (up t) o (down t) (ix2 a d) = added l h g wu wd (1024 * (t.val % 4 + 1)) r d := by
  rw [step_at, ho, ← added_next l _ _ _ _ _ (Nat.mod_lt _ (by decide))]
  congr 1
  refine Finset.sum_congr rfl fun f _ => ?_
  unfold unit
  simp only [hx, hb.up, hb.down]

/-- After point `n` the scratch holds the normalized rows, and the output holds the rows with the contributions so far. -/
theorem state_of (hb : Blocks l h g wu wd rows gain up down) (hN : N = 64)
    (left : ∀ n, n < N → Vec Ideal S1024x1024 .f32 × Vec Ideal S1024x1024 .bf16)
    (first : ∀ t : Fin N, t.val % 4 = 0 → left t.val t.isLt
      = (k0_pay3 (k0_pay2 (rows t) (gain t)) (up t) (k0_pay1 (rows t)) (down t), k0_pay2 (rows t) (gain t)))
    (later : ∀ (n : ℕ) (hn : n + 1 < N), ¬(n + 1) % 4 = 0 → left (n + 1) hn
      = (k0_pay3 (left n (Nat.lt_of_succ_lt hn)).2 (up ⟨n + 1, hn⟩) (left n (Nat.lt_of_succ_lt hn)).1 (down ⟨n + 1, hn⟩),
        (left n (Nat.lt_of_succ_lt hn)).2)) :
    ∀ (n : ℕ) (hn : n < N) (a : Fin 1024) (r : Fin 16384), r.val = n / 4 * 1024 + a.val →
      (∀ k, (left n hn).2 (ix2 a k) = normed l h g r k)
      ∧ ∀ d, (left n hn).1 (ix2 a d) = added l h g wu wd (1024 * (n % 4 + 1)) r d := by
  have start : ∀ (t : Fin N), t.val % 4 = 0 → ∀ (a : Fin 1024) (r : Fin 16384), r.val = t.val / 4 * 1024 + a.val →
      (∀ k, (left t.val t.isLt).2 (ix2 a k) = normed l h g r k)
      ∧ ∀ d, (left t.val t.isLt).1 (ix2 a d) = added l h g wu wd (1024 * (t.val % 4 + 1)) r d := fun t h0 a r hr => by
    have hx : ∀ k, k0_pay2 (rows t) (gain t) (ix2 a k) = normed l h g r k := fun k => by
      rw [normed_at]
      unfold normed
      congr 1
      · exact funext fun k => hb.rows t a k r hr
      · exact funext fun k => hb.gain t k
    rw [first t h0]
    exact ⟨hx, fun d => step_added hb t a d r _ _ hx
      (by rw [copied_at, hb.rows t a d r hr, h0]; exact (added_zero ..).symm)⟩
  intro n
  induction n with
  | zero => exact fun hn => start ⟨0, hn⟩ rfl
  | succ n ih =>
    intro hn a r hr
    by_cases h0 : (n + 1) % 4 = 0
    · exact start ⟨n + 1, hn⟩ h0 a r hr
    · obtain ⟨ihx, iho⟩ := ih (Nat.lt_of_succ_lt hn) a r (by omega)
      rw [later n hn h0]
      exact ⟨ihx, fun d => step_added hb ⟨n + 1, hn⟩ a d r _ _ ihx
        (by rw [iho d]; show added l h g wu wd (1024 * (n % 4 + 1)) r d = added l h g wu wd (1024 * ((n + 1) % 4)) r d
            rw [show n % 4 + 1 = (n + 1) % 4 from by omega])⟩

end Cert.Proof.MlpFirst

end
-- ==== Proof.MlpFirstBlock.lean ====
/- The feed-forward kernel without the final norm: what its blocks hold, what each grid point adds, and what its result array holds. -/
module

public import proofs.«01_k».proof.Proof.MlpState
public import Idealize.ShloMosaic.Lib.StableHlo.ReadAt

@[expose] public section

noncomputable section

namespace Cert.Proof.MlpFirst

open Cert.Proof.Mlp Cert.MlpFirstIdeal Cert.MlpFirstIdeal.Gen Cert.MlpFirstIdeal.Value Idealize.ShloMosaic Idealize.ShloMosaic.TcCoe
open Idealize.SL.Sem

/-! ## The blocks -/

variable (m : (ℓ : Loc nD τ sig) → Buf (Elt Ideal) ℓ)

theorem rows_at (c : Dev nD) (r : Fin 16384) (k : Fin 1024) :
    (V m c main_v0 : S16384x1024.Idx → EReal) (ix2 r k) = rowOf (m ((c : Thread nD τ).loc main_arg0)) r k := by
  unfold V
  after_reads_at

theorem gain_at (c : Dev nD) (k : Fin 1024) :
    (V m c main_v3 : S1x1024.Idx → EReal) (ix2 0 k) = (m ((c : Thread nD τ).loc main_arg1) : S4x1024.Idx → EReal) (ix2 0 k) := by
  unfold V
  after_reads_at

/-- Point `t` works on rows `1024 (t / 4)` onwards and on hidden units `1024 (t % 4)` onwards. -/
theorem index_facts : ∀ t : Fin cfg0.N, (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = t.val % 4)
    ∧ (win0_3.index t (0 : Fin 3) = 0 ∧ win0_3.index t (1 : Fin 3) = t.val % 4 ∧ win0_3.index t (2 : Fin 3) = 0)
    ∧ (win0_4.index t (0 : Fin 2) = 0 ∧ win0_4.index t (1 : Fin 2) = 0)
    ∧ (win0_5.index t (0 : Fin 2) = t.val / 4 ∧ win0_5.index t (1 : Fin 2) = 0) :=
  (by decide +kernel : ∀ t : Fin grid0.N, _)

/-- Where window 0's block at point `t` lies: rows `1024 (t / 4)` onwards. -/
theorem emb0 (t : Fin cfg0.N) (a k : Fin 1024) (r : Fin 16384) (hr : r.val = t.val / 4 * 1024 + a.val) :
    ((cfg0.win 0).blk t).view.emb (ix2 a k) = (ix2 r k : S16384x1024.Idx) := by
  have e := index_facts t
  funext x; apply Fin.ext
  match x with
  | ⟨0, _⟩ => show win0_0.index t (0 : Fin 2) * 1024 + 1 * a.val = r.val; omega
  | ⟨1, _⟩ => show win0_0.index t (1 : Fin 2) * 1024 + 1 * k.val = k.val; omega

/-- The gain's window is the whole gain. -/
theorem emb1 (t : Fin cfg0.N) (k : Fin 1024) : ((cfg0.win 1).blk t).view.emb (ix2 0 k) = (ix2 0 k : S1x1024.Idx) := by
  have e := index_facts t
  funext x; apply Fin.ext
  match x with
  | ⟨0, _⟩ => show win0_1.index t (0 : Fin 2) * 1 + 1 * 0 = 0; omega
  | ⟨1, _⟩ => show win0_1.index t (1 : Fin 2) * 1024 + 1 * k.val = k.val; omega

/-- The output's block at point `t`: rows `1024 (t / 4)` onwards. -/
theorem emb5 (t : Fin cfg0.N) (a d : Fin 1024) (r : Fin 16384) (hr : r.val = t.val / 4 * 1024 + a.val) :
    ((cfg0.win 5).blk t).view.emb (ix2 a d) = (ix2 r d : S16384x1024.Idx) := by
  have e := index_facts t
  funext x; apply Fin.ext
  match x with
  | ⟨0, _⟩ => show win0_5.index t (0 : Fin 2) * 1024 + 1 * a.val = r.val; omega
  | ⟨1, _⟩ => show win0_5.index t (1 : Fin 2) * 1024 + 1 * d.val = d.val; omega

theorem iblk0_at (c : Dev nD) (t : Fin cfg0.N) (a : Fin 1024) (k : Fin 1024) (r : Fin 16384) (hr : r.val = t.val / 4 * 1024 + a.val) :
    (iblk m c 0 t : S1024x1024.Idx → EReal) (ix2 a k) = rowOf (m ((c : Thread nD τ).loc main_arg0)) r k := by
  exact (congrArg (V m c main_v0 : S16384x1024.Idx → EReal) (emb0 t a k r hr)).trans (rows_at m c r k)

theorem iblk1_at (c : Dev nD) (t : Fin cfg0.N) (k : Fin 1024) :
    (iblk m c 1 t : S1x1024.Idx → EReal) (ix2 0 k) = (m ((c : Thread nD τ).loc main_arg1) : S4x1024.Idx → EReal) (ix2 0 k) := by
  exact (congrArg (V m c main_v3 : S1x1024.Idx → EReal) (emb1 t k)).trans (gain_at m c k)

theorem iblk2_at (c : Dev nD) (t : Fin cfg0.N) (k f : Fin 1024) :
    (iblk m c 2 t : S1x1024x1024.Idx → EReal) (ix3 0 k f)
      = (m ((c : Thread nD τ).loc main_arg2) : S4x1024x4096.Idx → EReal) (ix3 0 k ⟨1024 * (t.val % 4) + f.val, by omega⟩) := by
  rw [← V_main_arg2 m c]
  show (V m c main_arg2 : S4x1024x4096.Idx → EReal) (((cfg0.win 2).blk t).view.emb (ix3 0 k f)) = _
  congr 1
  have e := index_facts t
  funext x; apply Fin.ext
  match x with
  | ⟨0, _⟩ => show win0_2.index t (0 : Fin 3) * 1 + 1 * 0 = 0; omega
  | ⟨1, _⟩ => show win0_2.index t (1 : Fin 3) * 1024 + 1 * k.val = k.val; omega
  | ⟨2, _⟩ => show win0_2.index t (2 : Fin 3) * 1024 + 1 * f.val = 1024 * (t.val % 4) + f.val; omega

theorem iblk3_at (c : Dev nD) (t : Fin cfg0.N) (f d : Fin 1024) :
    (iblk m c 3 t : S1x1024x1024.Idx → EReal) (ix3 0 f d)
      = (m ((c : Thread nD τ).loc main_arg3) : S4x4096x1024.Idx → EReal) (ix3 0 ⟨1024 * (t.val % 4) + f.val, by omega⟩ d) := by
  rw [← V_main_arg3 m c]
  show (V m c main_arg3 : S4x4096x1024.Idx → EReal) (((cfg0.win 3).blk t).view.emb (ix3 0 f d)) = _
  congr 1
  have e := index_facts t
  funext x; apply Fin.ext
  match x with
  | ⟨0, _⟩ => show win0_3.index t (0 : Fin 3) * 1 + 1 * 0 = 0; omega
  | ⟨1, _⟩ => show win0_3.index t (1 : Fin 3) * 1024 + 1 * f.val = 1024 * (t.val % 4) + f.val; omega
  | ⟨2, _⟩ => show win0_3.index t (2 : Fin 3) * 1024 + 1 * d.val = d.val; omega

/-! ## The state after each point -/

/-- The arguments, by name. -/
abbrev argH (c : Dev nD) : S4x4096x1024.Idx → EReal := m ((c : Thread nD τ).loc main_arg0)
abbrev argG (c : Dev nD) : S4x1024.Idx → EReal := m ((c : Thread nD τ).loc main_arg1)
abbrev argU (c : Dev nD) : S4x1024x4096.Idx → EReal := m ((c : Thread nD τ).loc main_arg2)
abbrev argD (c : Dev nD) : S4x4096x1024.Idx → EReal := m ((c : Thread nD τ).loc main_arg3)

/-- What the input blocks hold. -/
theorem blocks (c : Dev nD) : Blocks 0 (argH m c) (argG m c) (argU m c) (argD m c) (N := cfg0.N) (iblk m c 0) (iblk m c 1)
    (iblk m c 2) (iblk m c 3) :=
  ⟨fun t a k r hr => iblk0_at m c t a k r hr, iblk1_at m c, iblk2_at m c, iblk3_at m c⟩

/-- After point `n` the scratch holds the normalized rows, and the output holds the rows with the contributions so far. -/
theorem state (c : Dev nD) (n : ℕ) (hn : n < cfg0.N) (a : Fin 1024) (r : Fin 16384) (hr : r.val = n / 4 * 1024 + a.val) :
    (∀ k, ((outsAt0 m c n hn).2 : S1024x1024.Idx → EReal) (ix2 a k) = normed 0 (argH m c) (argG m c) r k)
    ∧ ∀ d, ((outsAt0 m c n hn).1 : S1024x1024.Idx → EReal) (ix2 a d)
        = added 0 (argH m c) (argG m c) (argU m c) (argD m c) (1024 * (n % 4 + 1)) r d :=
  state_of (blocks m c) N_0 (outsAt0 m c)
    (fun t h0 => (outsAt0_A m c t h0).trans (congrArg₂ Prod.mk (first_out ..) (first_scratch ..)))
    (fun n hn h0 => (outsAt0_B m c ⟨n + 1, hn⟩ h0).trans (congrArg₂ Prod.mk (later_out ..) rfl)) n hn a r hr

/-- What a point that writes back writes is its block of the layer's result. -/
theorem flushed_eq (c : Dev nD) (t : Fin cfg0.N) (hf : (cfg0.win 5).flush t = true) :
    (dats m 0 c).flushed 5 t = ((cfg0.win 5).blk t).view.read (Elt Ideal)
      (plain 0 (argH m c) (argG m c) (argU m c) (argD m c)) := by
  rw [flushed5]
  funext y
  obtain ⟨a, d, rfl⟩ : ∃ (a : Fin 1024) (d : Fin 1024), y = ix2 a d := ⟨y 0, y 1, eq_ix2 y⟩
  have hN : t.val < 64 := lt_of_lt_of_eq t.isLt N_0
  show ((outsAt0 m c t.val t.isLt).1 : S1024x1024.Idx → EReal) (ix2 a d) = plain 0 _ _ _ _ (((cfg0.win 5).blk t).view.emb (ix2 a d))
  rw [emb5 t a d ⟨t.val / 4 * 1024 + a.val, by omega⟩ rfl]
  refine ((state m c t.val t.isLt a ⟨t.val / 4 * 1024 + a.val, by omega⟩ rfl).2 d).trans ?_
  rw [(flush0_5 t).mp hf]
  rfl

/-- The kernel's result array is the layer of its arguments. -/
theorem final (c : Dev nD) : (dats m 0 c).arrAt 5 cfg0.N = plain 0 (argH m c) (argG m c) (argU m c) (argD m c) :=
  (dats m 0 c).arrAt_eq_of_cover 5 _ (fun t hf => flushed_eq m c t hf) (fun i => (covered_iff5 i).2 (by
    have h0 : (i 0).val < 16384 := (i 0).isLt; have h1 : (i 1).val < 1024 := (i 1).isLt; omega))

end Cert.Proof.MlpFirst

end
-- ==== Proof.MlpFirstRead.lean ====
/- What the reference of the feed-forward layer without the final norm computes, element by element: the same layer. -/
module

public import proofs.«01_k».proof.Proof.MlpMath
public import proofs.«01_k».proof.Proof.Gen.MlpFirstRefIdeal.Read

@[expose] public section

noncomputable section

namespace Cert.Proof.MlpFirst

open Cert.Proof.Mlp Cert.MlpFirstRefIdeal Cert.MlpFirstRefIdeal.Read Idealize.ShloMosaic

set_option maxRecDepth 16384 in
/-- The reference's result is the layer of its arguments. -/
theorem reference_eq (h : S4x4096x1024.Idx → EReal) (g : S4x1024.Idx → EReal) (wu : S4x1024x4096.Idx → EReal) (wd : S4x4096x1024.Idx → EReal) :
    val_main_v24 (F := Ideal) h g wu wd = plain 0 h g wu wd := by
  have norm : ∀ (r : Fin 16384) (k : Fin 1024), val_main_v14 (F := Ideal) h g
      (ix3 ⟨r.val / 4096, by omega⟩ ⟨r.val % 4096, by omega⟩ k) = normed 0 h g r k := fun r k => by
    pointwise [val_main_v14, val_main_v13, val_main_v12, val_main_v11, val_main_v10, val_main_v9, val_main_v8, val_main_v7,
      val_main_v6, val_main_v5, val_main_v4, val_main_v3, val_main_v2, val_main_v1, val_main_v0, val_main_cst, val_main_cst_0,
      val_main_cst_1, normed, normRow, rmsScale]
  have sum : ∀ (r : Fin 16384) (d : Fin 1024), val_main_v23 (F := Ideal) h g wu wd
      (ix3 ⟨r.val / 4096, by omega⟩ ⟨r.val % 4096, by omega⟩ d) = added 0 h g wu wd 4096 r d := fun r d => by
    rw [added_all]
    unfold unit
    simp only [← norm]
    pointwise [val_main_v23, val_main_v22, val_main_v21, val_main_v20, val_main_call0_v0, val_main_call0_cst, val_main_v19,
      val_main_v18, val_main_v17, val_main_v16, val_main_v15]
  funext i
  obtain ⟨r, d, rfl⟩ : ∃ (r : Fin 16384) (d : Fin 1024), i = ix2 r d := ⟨i 0, i 1, eq_ix2 i⟩
  unfold plain
  refine Eq.trans ?_ (sum r d)
  pointwise [val_main_v24]

end Cert.Proof.MlpFirst

end
-- ==== Proof.MlpSecondBlock.lean ====
/- The feed-forward call of layer 1. Its kernel is layer 0's text over layer 1's gain and weights, so only what its blocks
   hold is computed here; the state after each point is the general one. -/
module

public import proofs.«01_k».proof.Proof.MlpFirstBlock
public import proofs.«01_k».proof.Proof.Gen.MlpSecondIdeal.Value

@[expose] public section

noncomputable section

namespace Cert.Proof.MlpSecond

open Cert.Proof.Mlp Cert.MlpSecondIdeal Cert.MlpSecondIdeal.Gen Cert.MlpSecondIdeal.Value Idealize.ShloMosaic Idealize.ShloMosaic.TcCoe
open Idealize.SL.Sem

variable (m : (ℓ : Loc nD τ sig) → Buf (Elt Ideal) ℓ)

/-- The arguments, by name. -/
abbrev argH (c : Dev nD) : S4x4096x1024.Idx → EReal := m ((c : Thread nD τ).loc main_arg0)
abbrev argG (c : Dev nD) : S4x1024.Idx → EReal := m ((c : Thread nD τ).loc main_arg1)
abbrev argU (c : Dev nD) : S4x1024x4096.Idx → EReal := m ((c : Thread nD τ).loc main_arg2)
abbrev argD (c : Dev nD) : S4x4096x1024.Idx → EReal := m ((c : Thread nD τ).loc main_arg3)

theorem rows_at (c : Dev nD) (r : Fin 16384) (k : Fin 1024) :
    (V m c main_v0 : S16384x1024.Idx → EReal) (ix2 r k) = rowOf (argH m c) r k := by
  unfold V
  after_reads_at

theorem gain_at (c : Dev nD) (k : Fin 1024) : (V m c main_v3 : S1x1024.Idx → EReal) (ix2 0 k) = argG m c (ix2 1 k) := by
  unfold V
  after_reads_at

/-- The weights' blocks at point `t`: layer 1, hidden units `1024 (t % 4)` onwards. -/
theorem index_facts : ∀ t : Fin cfg0.N,
    (win0_2.index t (0 : Fin 3) = 1 ∧ win0_2.index t (1 : Fin 3) = 0 ∧ win0_2.index t (2 : Fin 3) = t.val % 4)
    ∧ (win0_3.index t (0 : Fin 3) = 1 ∧ win0_3.index t (1 : Fin 3) = t.val % 4 ∧ win0_3.index t (2 : Fin 3) = 0) :=
  (by decide +kernel : ∀ t : Fin grid0.N, _)

theorem up_at (c : Dev nD) (t : Fin cfg0.N) (k f : Fin 1024) : (iblk m c 2 t : S1x1024x1024.Idx → EReal) (ix3 0 k f)
    = argU m c (ix3 1 k ⟨1024 * (t.val % 4) + f.val, by omega⟩) := by
  refine Eq.trans ?_ (congrFun (V_main_arg2 m c) _)
  show (V m c main_arg2 : S4x1024x4096.Idx → EReal) (((cfg0.win 2).blk t).view.emb (ix3 0 k f)) = _
  congr 1
  have e := index_facts t
  funext x; apply Fin.ext
  match x with
  | ⟨0, _⟩ => show win0_2.index t (0 : Fin 3) * 1 + 1 * 0 = 1; omega
  | ⟨1, _⟩ => show win0_2.index t (1 : Fin 3) * 1024 + 1 * k.val = k.val; omega
  | ⟨2, _⟩ => show win0_2.index t (2 : Fin 3) * 1024 + 1 * f.val = 1024 * (t.val % 4) + f.val; omega

theorem down_at (c : Dev nD) (t : Fin cfg0.N) (f d : Fin 1024) : (iblk m c 3 t : S1x1024x1024.Idx → EReal) (ix3 0 f d)
    = argD m c (ix3 1 ⟨1024 * (t.val % 4) + f.val, by omega⟩ d) := by
  refine Eq.trans ?_ (congrFun (V_main_arg3 m c) _)
  show (V m c main_arg3 : S4x4096x1024.Idx → EReal) (((cfg0.win 3).blk t).view.emb (ix3 0 f d)) = _
  congr 1
  have e := index_facts t
  funext x; apply Fin.ext
  match x with
  | ⟨0, _⟩ => show win0_3.index t (0 : Fin 3) * 1 + 1 * 0 = 1; omega
  | ⟨1, _⟩ => show win0_3.index t (1 : Fin 3) * 1024 + 1 * f.val = 1024 * (t.val % 4) + f.val; omega
  | ⟨2, _⟩ => show win0_3.index t (2 : Fin 3) * 1024 + 1 * d.val = d.val; omega

/-- What the input blocks hold. The rows' and the gain's windows are layer 0's. -/
theorem blocks (c : Dev nD) : MlpFirst.Blocks 1 (argH m c) (argG m c) (argU m c) (argD m c) (N := cfg0.N) (iblk m c 0) (iblk m c 1)
    (iblk m c 2) (iblk m c 3) :=
  ⟨fun t a k r hr => (congrArg (V m c main_v0 : S16384x1024.Idx → EReal) (MlpFirst.emb0 t a k r hr)).trans (rows_at m c r k),
    fun t k => (congrArg (V m c main_v3 : S1x1024.Idx → EReal) (MlpFirst.emb1 t k)).trans (gain_at m c k), up_at m c, down_at m c⟩

/-- A first block of hidden units leaves what layer 0's kernel would leave. -/
theorem after_first (c : Dev nD) (t : Fin cfg0.N) (h0 : t.val % 4 = 0) : outsAt0 m c t.val t.isLt
    = (MlpFirstIdeal.Gen.k0_pay3 (MlpFirstIdeal.Gen.k0_pay2 (iblk m c 0 t) (iblk m c 1 t)) (iblk m c 2 t)
        (MlpFirstIdeal.Gen.k0_pay1 (iblk m c 0 t)) (iblk m c 3 t), MlpFirstIdeal.Gen.k0_pay2 (iblk m c 0 t) (iblk m c 1 t)) :=
  (outsAt0_A m c t h0).trans (congrArg₂ Prod.mk
    (MlpFirst.first_out (F := Ideal) c (grid0.coords t) (ms0_0 t) (hs0_0 t) (ms0_1 t) (hs0_1 t) (ms0_2 t) (hs0_2 t) (ms0_3 t)
      (hs0_3 t) (ms0_4 t) (hs0_4 t) (ms0_5 t) (hs0_5 t) scM0_0 (Memref.isWhole_whole _) ((hcond0_0 t).mpr h0)
      (iblk m c 0 t) (iblk m c 1 t) (iblk m c 2 t) (iblk m c 3 t) (iblk m c 4 t))
    (MlpFirst.first_scratch (F := Ideal) c (grid0.coords t) (ms0_0 t) (hs0_0 t) (ms0_1 t) (hs0_1 t) (ms0_2 t) (hs0_2 t) (ms0_3 t)
      (hs0_3 t) (ms0_4 t) (hs0_4 t) (ms0_5 t) (hs0_5 t) scM0_0 (Memref.isWhole_whole _) ((hcond0_0 t).mpr h0)
      (iblk m c 0 t) (iblk m c 1 t) (iblk m c 2 t) (iblk m c 3 t) (iblk m c 4 t)))

/-- So does a later one, from what the point before left. -/
theorem after_later (c : Dev nD) (t : Fin cfg0.N) (h0 : ¬t.val % 4 = 0) (hp : t.val - 1 < cfg0.N) : outsAt0 m c t.val t.isLt
    = (MlpFirstIdeal.Gen.k0_pay3 (outsAt0 m c (t.val - 1) hp).2 (iblk m c 2 t) (outsAt0 m c (t.val - 1) hp).1 (iblk m c 3 t),
        (outsAt0 m c (t.val - 1) hp).2) :=
  (outsAt0_B m c t h0).trans (congrArg (fun x => (x, (outsAt0 m c (t.val - 1) hp).2))
    (MlpFirst.later_out (F := Ideal) c (grid0.coords t) (ms0_0 t) (hs0_0 t) (ms0_1 t) (hs0_1 t) (ms0_2 t) (hs0_2 t) (ms0_3 t)
      (hs0_3 t) (ms0_4 t) (hs0_4 t) (ms0_5 t) (hs0_5 t) scM0_0 (Memref.isWhole_whole _) (fun h => h0 ((hcond0_0 t).mp h))
      (iblk m c 0 t) (iblk m c 1 t) (iblk m c 2 t) (iblk m c 3 t) (iblk m c 4 t) (outsAt0 m c (t.val - 1) hp).1 (outsAt0 m c (t.val - 1) hp).2))

/-- After point `n` the output holds the rows with the contributions so far. -/
theorem state (c : Dev nD) (n : ℕ) (hn : n < cfg0.N) (a : Fin 1024) (r : Fin 16384) (hr : r.val = n / 4 * 1024 + a.val)
    (d : Fin 1024) : ((outsAt0 m c n hn).1 : S1024x1024.Idx → EReal) (ix2 a d)
      = added 1 (argH m c) (argG m c) (argU m c) (argD m c) (1024 * (n % 4 + 1)) r d :=
  (MlpFirst.state_of (blocks m c) N_0 (outsAt0 m c) (after_first m c)
    (fun n hn h0 => after_later m c ⟨n + 1, hn⟩ h0 (Nat.lt_of_succ_lt hn)) n hn a r hr).2 d

/-- What a point that writes back writes is its block of the layer's result. -/
theorem flushed_eq (c : Dev nD) (t : Fin cfg0.N) (hf : (cfg0.win 5).flush t = true) :
    (dats m 0 c).flushed 5 t = ((cfg0.win 5).blk t).view.read (Elt Ideal)
      (plain 1 (argH m c) (argG m c) (argU m c) (argD m c)) := by
  rw [flushed5]
  funext y
  obtain ⟨a, d, rfl⟩ : ∃ (a : Fin 1024) (d : Fin 1024), y = ix2 a d := ⟨y 0, y 1, eq_ix2 y⟩
  have hN : t.val < 64 := lt_of_lt_of_eq t.isLt N_0
  refine Eq.trans ?_ (congrArg (plain 1 (argH m c) (argG m c) (argU m c) (argD m c))
    (MlpFirst.emb5 t a d ⟨t.val / 4 * 1024 + a.val, by omega⟩ rfl)).symm
  refine (state m c t.val t.isLt a ⟨t.val / 4 * 1024 + a.val, by omega⟩ rfl d).trans ?_
  rw [(flush0_5 t).mp hf]
  rfl

/-- The kernel's result array is the layer of its arguments. -/
theorem final (c : Dev nD) : (dats m 0 c).arrAt 5 cfg0.N = plain 1 (argH m c) (argG m c) (argU m c) (argD m c) :=
  (dats m 0 c).arrAt_eq_of_cover 5 _ (fun t hf => flushed_eq m c t hf) (fun i => (covered_iff5 i).2 (by
    have h0 : (i 0).val < 16384 := (i 0).isLt; have h1 : (i 1).val < 1024 := (i 1).isLt; omega))

end Cert.Proof.MlpSecond

end
-- ==== Proof.MlpSecondRead.lean ====
/- The reference of layer 1: it is layer 0's reference over stacks whose every layer is layer 1. -/
module

public import proofs.«01_k».proof.Proof.MlpFirstRead
public import proofs.«01_k».proof.Proof.Gen.MlpSecondRefIdeal.Read

@[expose] public section

noncomputable section

namespace Cert.Proof.Mlp

open Idealize.ShloMosaic

variable (l : Fin 4) (h : Rows.Idx → EReal) (g : Gains.Idx → EReal) (wu : Ups.Idx → EReal) (wd : Rows.Idx → EReal)

/-- Stacks whose every layer is layer `l`. -/
def onlyG : Gains.Idx → EReal := fun i => g (ix2 l (i 1))
def onlyU : Ups.Idx → EReal := fun i => wu (ix3 l (i 1) (i 2))
def onlyD : Rows.Idx → EReal := fun i => wd (ix3 l (i 1) (i 2))

/-- Layer 0 of those stacks is layer `l`. -/
theorem plain_only : plain 0 h (onlyG l g) (onlyU l wu) (onlyD l wd) = plain l h g wu wd := rfl

end Cert.Proof.Mlp

namespace Cert.Proof.MlpSecond

open Cert.Proof.Mlp Cert.MlpSecondRefIdeal Cert.MlpSecondRefIdeal.Read Idealize.ShloMosaic

theorem gain_eq (g : S4x1024.Idx → EReal) :
    val_main_v0 (F := Ideal) g = MlpFirstRefIdeal.Read.val_main_v0 (F := Ideal) (onlyG 1 g) := by
  funext i
  obtain ⟨a, k, rfl⟩ : ∃ (a : Fin 1) (k : Fin 1024), i = ix2 a k := ⟨i 0, i 1, eq_ix2 i⟩
  obtain rfl : a = 0 := Subsingleton.elim _ _
  pointwise [val_main_v0, MlpFirstRefIdeal.Read.val_main_v0, onlyG]

theorem up_eq (wu : S4x1024x4096.Idx → EReal) :
    val_main_v15 (F := Ideal) wu = MlpFirstRefIdeal.Read.val_main_v15 (F := Ideal) (onlyU 1 wu) := by
  funext i
  obtain ⟨a, k, f, rfl⟩ : ∃ (a : Fin 1) (k : Fin 1024) (f : Fin 4096), i = ix3 a k f := ⟨i 0, i 1, i 2, eq_ix3 i⟩
  obtain rfl : a = 0 := Subsingleton.elim _ _
  pointwise [val_main_v15, MlpFirstRefIdeal.Read.val_main_v15, onlyU]

theorem down_eq (wd : S4x4096x1024.Idx → EReal) :
    val_main_v17 (F := Ideal) wd = MlpFirstRefIdeal.Read.val_main_v17 (F := Ideal) (onlyD 1 wd) := by
  funext i
  obtain ⟨a, f, d, rfl⟩ : ∃ (a : Fin 1) (f : Fin 4096) (d : Fin 1024), i = ix3 a f d := ⟨i 0, i 1, i 2, eq_ix3 i⟩
  obtain rfl : a = 0 := Subsingleton.elim _ _
  pointwise [val_main_v17, MlpFirstRefIdeal.Read.val_main_v17, onlyD]

/-- The reference's result is the layer of its arguments. -/
theorem reference_eq (h : S4x4096x1024.Idx → EReal) (g : S4x1024.Idx → EReal) (wu : S4x1024x4096.Idx → EReal) (wd : S4x4096x1024.Idx → EReal) :
    val_main_v24 (F := Ideal) h g wu wd = plain 1 h g wu wd := by
  refine Eq.trans ?_ ((MlpFirst.reference_eq h (onlyG 1 g) (onlyU 1 wu) (onlyD 1 wd)).trans (plain_only 1 h g wu wd))
  unfold val_main_v24 val_main_v23 val_main_v22 val_main_v21 val_main_v20 val_main_v19 val_main_v18 val_main_v16 val_main_v14
    val_main_v13 val_main_v12 val_main_v11 val_main_v1
  rw [gain_eq, up_eq, down_eq]
  rfl

end Cert.Proof.MlpSecond

end
-- ==== Proof.MlpThirdBlock.lean ====
/- The feed-forward call of layer 2. Its kernel is layer 0's text over layer 2's gain and weights, so only what its blocks
   hold is computed here; the state after each point is the general one. -/
module

public import proofs.«01_k».proof.Proof.MlpFirstBlock
public import proofs.«01_k».proof.Proof.Gen.MlpThirdIdeal.Value

@[expose] public section

noncomputable section

namespace Cert.Proof.MlpThird

open Cert.Proof.Mlp Cert.MlpThirdIdeal Cert.MlpThirdIdeal.Gen Cert.MlpThirdIdeal.Value Idealize.ShloMosaic Idealize.ShloMosaic.TcCoe
open Idealize.SL.Sem

variable (m : (ℓ : Loc nD τ sig) → Buf (Elt Ideal) ℓ)

/-- The arguments, by name. -/
abbrev argH (c : Dev nD) : S4x4096x1024.Idx → EReal := m ((c : Thread nD τ).loc main_arg0)
abbrev argG (c : Dev nD) : S4x1024.Idx → EReal := m ((c : Thread nD τ).loc main_arg1)
abbrev argU (c : Dev nD) : S4x1024x4096.Idx → EReal := m ((c : Thread nD τ).loc main_arg2)
abbrev argD (c : Dev nD) : S4x4096x1024.Idx → EReal := m ((c : Thread nD τ).loc main_arg3)

theorem rows_at (c : Dev nD) (r : Fin 16384) (k : Fin 1024) :
    (V m c main_v0 : S16384x1024.Idx → EReal) (ix2 r k) = rowOf (argH m c) r k := by
  unfold V
  after_reads_at

theorem gain_at (c : Dev nD) (k : Fin 1024) : (V m c main_v3 : S1x1024.Idx → EReal) (ix2 0 k) = argG m c (ix2 2 k) := by
  unfold V
  after_reads_at

/-- The weights' blocks at point `t`: layer 2, hidden units `1024 (t % 4)` onwards. -/
theorem index_facts : ∀ t : Fin cfg0.N,
    (win0_2.index t (0 : Fin 3) = 2 ∧ win0_2.index t (1 : Fin 3) = 0 ∧ win0_2.index t (2 : Fin 3) = t.val % 4)
    ∧ (win0_3.index t (0 : Fin 3) = 2 ∧ win0_3.index t (1 : Fin 3) = t.val % 4 ∧ win0_3.index t (2 : Fin 3) = 0) :=
  (by decide +kernel : ∀ t : Fin grid0.N, _)

theorem up_at (c : Dev nD) (t : Fin cfg0.N) (k f : Fin 1024) : (iblk m c 2 t : S1x1024x1024.Idx → EReal) (ix3 0 k f)
    = argU m c (ix3 2 k ⟨1024 * (t.val % 4) + f.val, by omega⟩) := by
  refine Eq.trans ?_ (congrFun (V_main_arg2 m c) _)
  show (V m c main_arg2 : S4x1024x4096.Idx → EReal) (((cfg0.win 2).blk t).view.emb (ix3 0 k f)) = _
  congr 1
  have e := index_facts t
  funext x; apply Fin.ext
  match x with
  | ⟨0, _⟩ => show win0_2.index t (0 : Fin 3) * 1 + 1 * 0 = 2; omega
  | ⟨1, _⟩ => show win0_2.index t (1 : Fin 3) * 1024 + 1 * k.val = k.val; omega
  | ⟨2, _⟩ => show win0_2.index t (2 : Fin 3) * 1024 + 1 * f.val = 1024 * (t.val % 4) + f.val; omega

theorem down_at (c : Dev nD) (t : Fin cfg0.N) (f d : Fin 1024) : (iblk m c 3 t : S1x1024x1024.Idx → EReal) (ix3 0 f d)
    = argD m c (ix3 2 ⟨1024 * (t.val % 4) + f.val, by omega⟩ d) := by
  refine Eq.trans ?_ (congrFun (V_main_arg3 m c) _)
  show (V m c main_arg3 : S4x4096x1024.Idx → EReal) (((cfg0.win 3).blk t).view.emb (ix3 0 f d)) = _
  congr 1
  have e := index_facts t
  funext x; apply Fin.ext
  match x with
  | ⟨0, _⟩ => show win0_3.index t (0 : Fin 3) * 1 + 1 * 0 = 2; omega
  | ⟨1, _⟩ => show win0_3.index t (1 : Fin 3) * 1024 + 1 * f.val = 1024 * (t.val % 4) + f.val; omega
  | ⟨2, _⟩ => show win0_3.index t (2 : Fin 3) * 1024 + 1 * d.val = d.val; omega

/-- What the input blocks hold. The rows' and the gain's windows are layer 0's. -/
theorem blocks (c : Dev nD) : MlpFirst.Blocks 2 (argH m c) (argG m c) (argU m c) (argD m c) (N := cfg0.N) (iblk m c 0) (iblk m c 1)
    (iblk m c 2) (iblk m c 3) :=
  ⟨fun t a k r hr => (congrArg (V m c main_v0 : S16384x1024.Idx → EReal) (MlpFirst.emb0 t a k r hr)).trans (rows_at m c r k),
    fun t k => (congrArg (V m c main_v3 : S1x1024.Idx → EReal) (MlpFirst.emb1 t k)).trans (gain_at m c k), up_at m c, down_at m c⟩

/-- A first block of hidden units leaves what layer 0's kernel would leave. -/
theorem after_first (c : Dev nD) (t : Fin cfg0.N) (h0 : t.val % 4 = 0) : outsAt0 m c t.val t.isLt
    = (MlpFirstIdeal.Gen.k0_pay3 (MlpFirstIdeal.Gen.k0_pay2 (iblk m c 0 t) (iblk m c 1 t)) (iblk m c 2 t)
        (MlpFirstIdeal.Gen.k0_pay1 (iblk m c 0 t)) (iblk m c 3 t), MlpFirstIdeal.Gen.k0_pay2 (iblk m c 0 t) (iblk m c 1 t)) :=
  (outsAt0_A m c t h0).trans (congrArg₂ Prod.mk
    (MlpFirst.first_out (F := Ideal) c (grid0.coords t) (ms0_0 t) (hs0_0 t) (ms0_1 t) (hs0_1 t) (ms0_2 t) (hs0_2 t) (ms0_3 t)
      (hs0_3 t) (ms0_4 t) (hs0_4 t) (ms0_5 t) (hs0_5 t) scM0_0 (Memref.isWhole_whole _) ((hcond0_0 t).mpr h0)
      (iblk m c 0 t) (iblk m c 1 t) (iblk m c 2 t) (iblk m c 3 t) (iblk m c 4 t))
    (MlpFirst.first_scratch (F := Ideal) c (grid0.coords t) (ms0_0 t) (hs0_0 t) (ms0_1 t) (hs0_1 t) (ms0_2 t) (hs0_2 t) (ms0_3 t)
      (hs0_3 t) (ms0_4 t) (hs0_4 t) (ms0_5 t) (hs0_5 t) scM0_0 (Memref.isWhole_whole _) ((hcond0_0 t).mpr h0)
      (iblk m c 0 t) (iblk m c 1 t) (iblk m c 2 t) (iblk m c 3 t) (iblk m c 4 t)))

/-- So does a later one, from what the point before left. -/
theorem after_later (c : Dev nD) (t : Fin cfg0.N) (h0 : ¬t.val % 4 = 0) (hp : t.val - 1 < cfg0.N) : outsAt0 m c t.val t.isLt
    = (MlpFirstIdeal.Gen.k0_pay3 (outsAt0 m c (t.val - 1) hp).2 (iblk m c 2 t) (outsAt0 m c (t.val - 1) hp).1 (iblk m c 3 t),
        (outsAt0 m c (t.val - 1) hp).2) :=
  (outsAt0_B m c t h0).trans (congrArg (fun x => (x, (outsAt0 m c (t.val - 1) hp).2))
    (MlpFirst.later_out (F := Ideal) c (grid0.coords t) (ms0_0 t) (hs0_0 t) (ms0_1 t) (hs0_1 t) (ms0_2 t) (hs0_2 t) (ms0_3 t)
      (hs0_3 t) (ms0_4 t) (hs0_4 t) (ms0_5 t) (hs0_5 t) scM0_0 (Memref.isWhole_whole _) (fun h => h0 ((hcond0_0 t).mp h))
      (iblk m c 0 t) (iblk m c 1 t) (iblk m c 2 t) (iblk m c 3 t) (iblk m c 4 t) (outsAt0 m c (t.val - 1) hp).1 (outsAt0 m c (t.val - 1) hp).2))

/-- After point `n` the output holds the rows with the contributions so far. -/
theorem state (c : Dev nD) (n : ℕ) (hn : n < cfg0.N) (a : Fin 1024) (r : Fin 16384) (hr : r.val = n / 4 * 1024 + a.val)
    (d : Fin 1024) : ((outsAt0 m c n hn).1 : S1024x1024.Idx → EReal) (ix2 a d)
      = added 2 (argH m c) (argG m c) (argU m c) (argD m c) (1024 * (n % 4 + 1)) r d :=
  (MlpFirst.state_of (blocks m c) N_0 (outsAt0 m c) (after_first m c)
    (fun n hn h0 => after_later m c ⟨n + 1, hn⟩ h0 (Nat.lt_of_succ_lt hn)) n hn a r hr).2 d

/-- What a point that writes back writes is its block of the layer's result. -/
theorem flushed_eq (c : Dev nD) (t : Fin cfg0.N) (hf : (cfg0.win 5).flush t = true) :
    (dats m 0 c).flushed 5 t = ((cfg0.win 5).blk t).view.read (Elt Ideal)
      (plain 2 (argH m c) (argG m c) (argU m c) (argD m c)) := by
  rw [flushed5]
  funext y
  obtain ⟨a, d, rfl⟩ : ∃ (a : Fin 1024) (d : Fin 1024), y = ix2 a d := ⟨y 0, y 1, eq_ix2 y⟩
  have hN : t.val < 64 := lt_of_lt_of_eq t.isLt N_0
  refine Eq.trans ?_ (congrArg (plain 2 (argH m c) (argG m c) (argU m c) (argD m c))
    (MlpFirst.emb5 t a d ⟨t.val / 4 * 1024 + a.val, by omega⟩ rfl)).symm
  refine (state m c t.val t.isLt a ⟨t.val / 4 * 1024 + a.val, by omega⟩ rfl d).trans ?_
  rw [(flush0_5 t).mp hf]
  rfl

/-- The kernel's result array is the layer of its arguments. -/
theorem final (c : Dev nD) : (dats m 0 c).arrAt 5 cfg0.N = plain 2 (argH m c) (argG m c) (argU m c) (argD m c) :=
  (dats m 0 c).arrAt_eq_of_cover 5 _ (fun t hf => flushed_eq m c t hf) (fun i => (covered_iff5 i).2 (by
    have h0 : (i 0).val < 16384 := (i 0).isLt; have h1 : (i 1).val < 1024 := (i 1).isLt; omega))

end Cert.Proof.MlpThird

end
-- ==== Proof.MlpThirdRead.lean ====
/- The reference of layer 2: it is layer 0's reference over stacks whose every layer is layer 2. -/
module

public import proofs.«01_k».proof.Proof.MlpSecondRead
public import proofs.«01_k».proof.Proof.Gen.MlpThirdRefIdeal.Read

@[expose] public section

noncomputable section

namespace Cert.Proof.MlpThird

open Cert.Proof.Mlp Cert.MlpThirdRefIdeal Cert.MlpThirdRefIdeal.Read Idealize.ShloMosaic

theorem gain_eq (g : S4x1024.Idx → EReal) :
    val_main_v0 (F := Ideal) g = MlpFirstRefIdeal.Read.val_main_v0 (F := Ideal) (onlyG 2 g) := by
  funext i
  obtain ⟨a, k, rfl⟩ : ∃ (a : Fin 1) (k : Fin 1024), i = ix2 a k := ⟨i 0, i 1, eq_ix2 i⟩
  obtain rfl : a = 0 := Subsingleton.elim _ _
  pointwise [val_main_v0, MlpFirstRefIdeal.Read.val_main_v0, onlyG]

theorem up_eq (wu : S4x1024x4096.Idx → EReal) :
    val_main_v15 (F := Ideal) wu = MlpFirstRefIdeal.Read.val_main_v15 (F := Ideal) (onlyU 2 wu) := by
  funext i
  obtain ⟨a, k, f, rfl⟩ : ∃ (a : Fin 1) (k : Fin 1024) (f : Fin 4096), i = ix3 a k f := ⟨i 0, i 1, i 2, eq_ix3 i⟩
  obtain rfl : a = 0 := Subsingleton.elim _ _
  pointwise [val_main_v15, MlpFirstRefIdeal.Read.val_main_v15, onlyU]

theorem down_eq (wd : S4x4096x1024.Idx → EReal) :
    val_main_v17 (F := Ideal) wd = MlpFirstRefIdeal.Read.val_main_v17 (F := Ideal) (onlyD 2 wd) := by
  funext i
  obtain ⟨a, f, d, rfl⟩ : ∃ (a : Fin 1) (f : Fin 4096) (d : Fin 1024), i = ix3 a f d := ⟨i 0, i 1, i 2, eq_ix3 i⟩
  obtain rfl : a = 0 := Subsingleton.elim _ _
  pointwise [val_main_v17, MlpFirstRefIdeal.Read.val_main_v17, onlyD]

/-- The reference's result is the layer of its arguments. -/
theorem reference_eq (h : S4x4096x1024.Idx → EReal) (g : S4x1024.Idx → EReal) (wu : S4x1024x4096.Idx → EReal) (wd : S4x4096x1024.Idx → EReal) :
    val_main_v24 (F := Ideal) h g wu wd = plain 2 h g wu wd := by
  refine Eq.trans ?_ ((MlpFirst.reference_eq h (onlyG 2 g) (onlyU 2 wu) (onlyD 2 wd)).trans (plain_only 2 h g wu wd))
  unfold val_main_v24 val_main_v23 val_main_v22 val_main_v21 val_main_v20 val_main_v19 val_main_v18 val_main_v16 val_main_v14
    val_main_v13 val_main_v12 val_main_v11 val_main_v1
  rw [gain_eq, up_eq, down_eq]
  rfl

end Cert.Proof.MlpThird

end
-- ==== Proof.RetPre.lean ====
/- The precondition: a projection whose absolute value is below infinity is a real number. -/
module

public import proofs.«01_k».proof.Pre_finite_projections
public import Idealize.ShloMosaic.PureOps.Ideal
public import Idealize.ShloMosaic.Lib.Pointwise

@[expose] public section

noncomputable section

namespace Cert.Proof.RetPre

open Cert.Pre_finite_projections Idealize.ShloMosaic

theorem facts : Cert.Pre_finite_projections.Facts where
  bcast_S_S4x4096x6144 := ⟨fun a => a.elim0, fun a => a.elim0⟩

theorem finite (z : S4x4096x6144.Idx → EReal) (h : S4x4096x1024.Idx → EReal) (w : S2048x1024.Idx → EReal)
    (hp : @Cert.Pre_finite_projections.fn facts Ideal _ z h w = fun _ => 1#1) (i : S4x4096x6144.Idx) : z i ≠ ⊤ ∧ z i ≠ ⊥ := by
  have e := congrFun hp i
  unfold Cert.Pre_finite_projections.fn at e
  obtain ⟨a, b, c, rfl⟩ : ∃ (a : Fin 4) (b : Fin 4096) (c : Fin 6144), i = ix3 a b c := ⟨i 0, i 1, i 2, by
    funext k
    match k with
    | 0 => rfl
    | 1 => rfl
    | 2 => rfl⟩
  pointwise [] at e
  rw [show Ideal.ofBits FTy.f32 2139095040#32 = (⊤ : EReal) by simp [Ideal.ofBits, Ideal.ieee]] at e
  have lt : FloatOps.absf (F := Ideal) (φ := .f32) (z (ix3 a b c)) < (⊤ : EReal) := by
    by_contra hn
    rw [decide_eq_false hn] at e
    exact absurd e (by decide)
  constructor
  · intro hz
    rw [hz] at lt
    exact absurd lt (by change ¬ max (⊤ : EReal) (-⊤) < ⊤; simp)
  · intro hz
    rw [hz] at lt
    exact absurd lt (by change ¬ max (⊥ : EReal) (-⊥) < ⊤; simp)

end Cert.Proof.RetPre

end
-- ==== Proof.RetUnit.lean ====
/- The retention kernel's unit of work, one chunk of 256 positions of one head, as the kernel's vector expressions:
   rotary embedding, the chunk's output, the state it leaves, and the gated, normalized output. -/
module

public import proofs.«01_k».proof.Proof.Gen.RetentionIdeal.Value

@[expose] public section

noncomputable section

namespace Cert.Proof.Retention

open Cert.RetentionIdeal Cert.RetentionIdeal.Gen Idealize.ShloMosaic

variable {F : FTy → Type} [FloatOps F] [Named F]

/-- The query block of a unit after the rotary embedding. -/
def rope (cs sn : Vec F S256x128 .f32) (x : Vec F S1x256x256 .f32) : FVec F S256x256 .f32 := k0_pay13 cs sn x

/-- The key block of a unit after the rotary embedding and the scale. -/
def key (cs sn : Vec F S256x128 .f32) (x : Vec F S1x256x256 .f32) : FVec F S256x256 .f32 := k0_pay14 cs sn x

/-- The positions within a chunk. -/
def pos : FVec F S256x1 .f32 := sitofp .f32 (iota .tc S256x1 32 [0] iota_S256x1_d0_w32)

/-- A unit's output before the gate: masked scores times values, plus the decayed contribution of the state. -/
def unitOut (lg : F .f32) (q k : FVec F S256x256 .f32) (v : Vec F S1x256x512 .f32) (dm : Vec F S1x256x256 .f32)
    (s : Vec F S1x256x512 .f32) : FVec F S256x512 .f32 :=
  addf
    (matmul dot_S256x256_S256x512_S256x512_1_0_0_1_n_n none
      (truncf .bf16 (mulf (matmul dot_S256x256_S256x256_S256x256_1_1_0_0_n_n none (truncf .bf16 q bitsLt_bf16_f32)
        (truncf .bf16 k bitsLt_bf16_f32) (constant S256x256 .f32 0x00000000#32)) (shapeCast S256x256 dm shapeCasts_S1x256x256_S256x256)) bitsLt_bf16_f32)
      (truncf .bf16 (shapeCast S256x512 v shapeCasts_S1x256x512_S256x512) bitsLt_bf16_f32) (constant S256x512 .f32 0x00000000#32))
    (mulf (matmul dot_S256x256_S256x512_S256x512_1_0_0_1_n_n none (truncf .bf16 q bitsLt_bf16_f32)
        (truncf .bf16 (shapeCast S256x512 s shapeCasts_S1x256x512_S256x512) bitsLt_bf16_f32) (constant S256x512 .f32 0x00000000#32))
      (broadcastTo S256x512 (exp (mulf (broadcast S256x1 lg) (addf pos (broadcast S256x1 (Scalar.ofBits .f32 0x3F800000#32)))))
        broadcasts_S256x1_S256x512))

/-- The state a unit leaves. -/
def unitState (lg cd : F .f32) (k : FVec F S256x256 .f32) (v s : Vec F S1x256x512 .f32) : FVec F S1x256x512 .f32 :=
  shapeCast S1x256x512
    (addf (mulf (shapeCast S256x512 s shapeCasts_S1x256x512_S256x512) (broadcast S256x512 cd))
      (matmul dot_S256x256_S256x512_S256x512_0_0_1_1_n_n none
        (truncf .bf16 (mulf k (broadcastTo S256x256 (exp (mulf (broadcast S256x1 lg) (subf (broadcast S256x1 (Scalar.ofBits .f32 0x437F0000#32)) pos)))
          broadcasts_S256x1_S256x256)) bitsLt_bf16_f32)
        (truncf .bf16 (shapeCast S256x512 v shapeCasts_S1x256x512_S256x512) bitsLt_bf16_f32) (constant S256x512 .f32 0x00000000#32)))
    shapeCasts_S256x512_S1x256x512

/-- A unit's output after the head's norm and the gate. -/
def gated (g : Vec F S1x256x512 .f32) (o : FVec F S256x512 .f32) : FVec F S256x512 .bf16 :=
  k0_pay21 o (k0_pay20 (shapeCast S256x512 g shapeCasts_S1x256x512_S256x512))

def lg0 : F .f32 := Named.named κ "log_gamma0" 0xBD020AEC#32
def lg1 : F .f32 := Named.named κ "log_gamma1" 0xBC8102B3#32
def lg2 : F .f32 := Named.named κ "log_gamma2" 0xBC0080AC#32
def lg3 : F .f32 := Named.named κ "log_gamma3" 0xBB80402B#32
def cd0 : F .f32 := Named.named κ "chunk_dec0" 0x399ACCA1#32
def cd1 : F .f32 := Named.named κ "chunk_dec1" 0x3C9160A5#32
def cd2 : F .f32 := Named.named κ "chunk_dec2" 0x3E097FCE#32
def cd3 : F .f32 := Named.named κ "chunk_dec3" 0x3EBBFC5D#32

variable (cs sn : Vec F S256x128 .f32) (zq zk : Vec F S1x256x256 .f32) (v g : Vec F S1x256x512 .f32)
  (dm : Vec F S1x256x256 .f32) (s : Vec F S1x256x512 .f32)

/-! The eight units' stored values are these expressions. First the states. -/

theorem state00 : k0_pay19 k0_pay10 (k0_pay14 cs sn zk) (k0_pay15 v) s = unitState lg0 cd0 (key cs sn zk) v s := rfl
theorem state01 : k0_pay27 k0_pay10 (k0_pay23 (k0_pay11 cs) (k0_pay12 sn) zk) (k0_pay24 v) s = unitState lg1 cd1 (key cs sn zk) v s := rfl
theorem state02 : k0_pay37 k0_pay10 (k0_pay31 (k0_pay11 cs) (k0_pay12 sn) zk) (k0_pay32 v) s = unitState lg2 cd2 (key cs sn zk) v s := rfl
theorem state03 : k0_pay46 (k0_pay45 k0_pay10 (k0_pay40 (k0_pay11 cs) (k0_pay12 sn) zk) v s) = unitState lg3 cd3 (key cs sn zk) v s := rfl
theorem state10 : k0_pay62 (k0_pay55 (k0_pay48 cs) (k0_pay49 sn) (k0_pay52 zk) (k0_pay53 zk) (k0_pay54 cs zk)) (k0_pay56 v) (k0_pay58 k0_pay10) (k0_pay59 s) k0_pay61
    = unitState lg0 cd0 (key cs sn zk) v s := rfl
theorem state11 : k0_pay74 (k0_pay66 (k0_pay48 cs) (k0_pay49 sn) (k0_pay65 zk)) (k0_pay67 v) (k0_pay69 k0_pay10) (k0_pay71 s)
    = unitState lg1 cd1 (key cs sn zk) v s := rfl
theorem state12 : k0_pay86 (k0_pay77 (k0_pay48 cs) (k0_pay49 sn) zk) (k0_pay78 v) (k0_pay81 k0_pay10) (k0_pay83 s)
    = unitState lg2 cd2 (key cs sn zk) v s := rfl
theorem state13 : k0_pay101 (k0_pay93 (k0_pay48 cs) (k0_pay49 sn) zk) (k0_pay94 v) (k0_pay97 k0_pay10) (k0_pay99 s)
    = unitState lg3 cd3 (key cs sn zk) v s := rfl

/-! Then what each unit stores of the gated output. -/

theorem gated00 : k0_pay21 (k0_pay18 k0_pay10 (k0_pay13 cs sn zq) (k0_pay14 cs sn zk) (k0_pay15 v) dm s) (k0_pay20 (k0_pay16 g))
    = gated g (unitOut lg0 (rope cs sn zq) (key cs sn zk) v dm s) := rfl
theorem gated01 : k0_pay29 (k0_pay26 k0_pay10 (k0_pay22 (k0_pay11 cs) (k0_pay12 sn) zq) (k0_pay23 (k0_pay11 cs) (k0_pay12 sn) zk) (k0_pay24 v) dm s)
    (k0_pay28 g) = gated g (unitOut lg1 (rope cs sn zq) (key cs sn zk) v dm s) := rfl
theorem gated02 : k0_pay38 (k0_pay34 g) (k0_pay36 k0_pay10 (k0_pay30 (k0_pay11 cs) (k0_pay12 sn) zq) (k0_pay31 (k0_pay11 cs) (k0_pay12 sn) zk)
    (k0_pay32 v) dm s) = gated g (unitOut lg2 (rope cs sn zq) (key cs sn zk) v dm s) := rfl
theorem gated03 : k0_pay47 (k0_pay42 g) (k0_pay44 k0_pay10 (k0_pay39 (k0_pay11 cs) (k0_pay12 sn) zq) (k0_pay40 (k0_pay11 cs) (k0_pay12 sn) zk)
    v dm s) = gated g (unitOut lg3 (rope cs sn zq) (key cs sn zk) v dm s) := rfl
theorem gated10 : k0_pay63 (k0_pay57 g) (k0_pay60 k0_pay10 (k0_pay48 cs) (k0_pay49 sn) (k0_pay50 cs sn zq) (k0_pay52 zk) (k0_pay53 zk)
    (k0_pay54 cs zk) v dm s) = gated g (unitOut lg0 (rope cs sn zq) (key cs sn zk) v dm s) := rfl
theorem gated11 : k0_pay75 (k0_pay68 g) (k0_pay72 (k0_pay48 cs) (k0_pay49 sn) (k0_pay64 (k0_pay48 cs) (k0_pay49 sn) zq) (k0_pay65 zk) v dm)
    (k0_pay73 k0_pay10 (k0_pay64 (k0_pay48 cs) (k0_pay49 sn) zq) s) = gated g (unitOut lg1 (rope cs sn zq) (key cs sn zk) v dm s) := rfl
theorem gated12 : k0_pay87 (k0_pay79 g) (k0_pay80 k0_pay10) (k0_pay82 (k0_pay76 (k0_pay48 cs) (k0_pay49 sn) zq))
    (k0_pay84 (k0_pay48 cs) (k0_pay49 sn) (k0_pay76 (k0_pay48 cs) (k0_pay49 sn) zq) zk v dm) (k0_pay85 s) (constant S256x512 .f32 0x00000000#32)
    = gated g (unitOut lg2 (rope cs sn zq) (key cs sn zk) v dm s) := rfl
theorem gated13 : k0_pay102 (k0_pay94 v) (k0_pay95 g) (k0_pay96 k0_pay10)
    (k0_pay98 (k0_pay91 (k0_pay48 cs) (k0_pay49 sn) zq) (k0_pay92 (k0_pay48 cs) (k0_pay49 sn) zq)) (k0_pay99 s)
    (k0_pay100 (k0_pay48 cs) (k0_pay49 sn) (k0_pay91 (k0_pay48 cs) (k0_pay49 sn) zq) (k0_pay92 (k0_pay48 cs) (k0_pay49 sn) zq) zk dm)
    (constant S256x512 .f32 0x00000000#32) = gated g (unitOut lg3 (rope cs sn zq) (key cs sn zk) v dm s) := rfl

end Cert.Proof.Retention

end
-- ==== Proof.RetPoint.lean ====
/- What one grid point of the retention kernel leaves: two chunks of four heads each, over the blocks it loads and the
   state it finds. -/
module

public import proofs.«01_k».proof.Proof.RetUnit
public import Idealize.ShloMosaic.Lib.Pointwise

@[expose] public section

noncomputable section

namespace Cert.Proof.Retention

open Cert.RetentionIdeal Cert.RetentionIdeal.Gen Idealize.ShloMosaic Idealize.ShloMosaic.TcCoe

variable {F : FTy → Type} [FloatOps F] [Named F]

/-! ## The blocks a unit loads: chunk `p` of the point's two, head `h` of four -/

theorem fits_tab (p : Fin 2) : ∀ a, (![256 * p.val, 0] : Fin 2 → ℕ) a + S256x128.size a ≤ S512x128.size a := by
  revert p; decide +kernel
theorem fits_q (p : Fin 2) (h : Fin 4) : ∀ a, (![0, 256 * p.val, 256 * h.val] : Fin 3 → ℕ) a + S1x256x256.size a ≤ S1x512x6144.size a := by
  revert p h; decide +kernel
theorem fits_k (p : Fin 2) (h : Fin 4) : ∀ a, (![0, 256 * p.val, 1024 + 256 * h.val] : Fin 3 → ℕ) a + S1x256x256.size a ≤ S1x512x6144.size a := by
  revert p h; decide +kernel
theorem fits_v (p : Fin 2) (h : Fin 4) : ∀ a, (![0, 256 * p.val, 2048 + 512 * h.val] : Fin 3 → ℕ) a + S1x256x512.size a ≤ S1x512x6144.size a := by
  revert p h; decide +kernel
theorem fits_g (p : Fin 2) (h : Fin 4) : ∀ a, (![0, 256 * p.val, 4096 + 512 * h.val] : Fin 3 → ℕ) a + S1x256x512.size a ≤ S1x512x6144.size a := by
  revert p h; decide +kernel
theorem fits_s (h : Fin 4) : ∀ a, (![h.val, 0, 0] : Fin 3 → ℕ) a + S1x256x512.size a ≤ S4x256x512.size a := by
  revert h; decide +kernel
theorem fits_m (h : Fin 4) : ∀ a, (![h.val, 0, 0] : Fin 3 → ℕ) a + S1x256x256.size a ≤ S4x256x256.size a := by
  revert h; decide +kernel

/-- The rows of a cosine or sine table. -/
def tabB (x : Vec F S512x128 .f32) (p : Fin 2) : Vec F S256x128 .f32 := View.ld (Val := Elt F) (e' := .f32) x (Rect.unit ![256 * p.val, 0] S256x128.size (fits_tab p))
/-- A head's queries. -/
def qB (x : Vec F S1x512x6144 .f32) (p : Fin 2) (h : Fin 4) : Vec F S1x256x256 .f32 :=
  View.ld (Val := Elt F) (e' := .f32) x (Rect.unit ![0, 256 * p.val, 256 * h.val] S1x256x256.size (fits_q p h))
/-- A head's keys. -/
def kB (x : Vec F S1x512x6144 .f32) (p : Fin 2) (h : Fin 4) : Vec F S1x256x256 .f32 :=
  View.ld (Val := Elt F) (e' := .f32) x (Rect.unit ![0, 256 * p.val, 1024 + 256 * h.val] S1x256x256.size (fits_k p h))
/-- A head's values. -/
def vB (x : Vec F S1x512x6144 .f32) (p : Fin 2) (h : Fin 4) : Vec F S1x256x512 .f32 :=
  View.ld (Val := Elt F) (e' := .f32) x (Rect.unit ![0, 256 * p.val, 2048 + 512 * h.val] S1x256x512.size (fits_v p h))
/-- A head's gates. -/
def gB (x : Vec F S1x512x6144 .f32) (p : Fin 2) (h : Fin 4) : Vec F S1x256x512 .f32 :=
  View.ld (Val := Elt F) (e' := .f32) x (Rect.unit ![0, 256 * p.val, 4096 + 512 * h.val] S1x256x512.size (fits_g p h))
/-- A head's state. -/
def sB (s : Vec F S4x256x512 .f32) (h : Fin 4) : Vec F S1x256x512 .f32 := View.ld (Val := Elt F) (e' := .f32) s (Rect.unit ![h.val, 0, 0] S1x256x512.size (fits_s h))
/-- A head's decay mask. -/
def mB (x : Vec F S4x256x256 .f32) (h : Fin 4) : Vec F S1x256x256 .f32 := View.ld (Val := Elt F) (e' := .f32) x (Rect.unit ![h.val, 0, 0] S1x256x256.size (fits_m h))

/-- A head's log decay. -/
def lgOf : Fin 4 → F .f32
  | 0 => lg0 | 1 => lg1 | 2 => lg2 | 3 => lg3
/-- A head's decay over one chunk. -/
def cdOf : Fin 4 → F .f32
  | 0 => cd0 | 1 => cd1 | 2 => cd2 | 3 => cd3

variable (x0 : Vec F S1x512x6144 .f32) (x1 : Vec F S1x512x1024 .f32) (x2 x3 : Vec F S512x128 .f32) (x4 : Vec F S2048x1024 .bf16)
  (xs0 : Vec F S4x256x512 .f32) (xs2 : Vec F S4x256x256 .f32)

/-- The state unit `(p, h)` leaves. -/
def stateAt (p : Fin 2) (h : Fin 4) (s : Vec F S1x256x512 .f32) : Vec F S1x256x512 .f32 :=
  unitState (lgOf h) (cdOf h) (key (tabB x2 p) (tabB x3 p) (kB x0 p h)) (vB x0 p h) s

/-- The gated output of unit `(p, h)`. -/
def gatedAt (dm : Vec F S1x256x256 .f32) (p : Fin 2) (h : Fin 4) (s : Vec F S1x256x512 .f32) : FVec F S256x512 .bf16 :=
  gated (gB x0 p h) (unitOut (lgOf h) (rope (tabB x2 p) (tabB x3 p) (qB x0 p h)) (key (tabB x2 p) (tabB x3 p) (kB x0 p h)) (vB x0 p h) dm s)

/-! ## Pieces read back -/

/-- A head's slab of the state, as written. -/
def slab (h : Fin 4) (w : Vec F S1x256x512 .f32) : View.Piece (Elt F) S4x256x512 .f32 :=
  ⟨Rect.unit (s := S4x256x512) ![h.val, 0, 0] S1x256x512.size (fits_s h), w⟩
/-- A head's slab of the decay masks, as written. -/
def mslab (h : Fin 4) (w : Vec F S1x256x256 .f32) : View.Piece (Elt F) S4x256x256 .f32 :=
  ⟨Rect.unit (s := S4x256x256) ![h.val, 0, 0] S1x256x256.size (fits_m h), w⟩
theorem fits_t (p : Fin 2) (h : Fin 4) : ∀ a, (![256 * p.val, 512 * h.val] : Fin 2 → ℕ) a + S256x512.size a ≤ S512x2048.size a := by
  revert p h; decide +kernel
/-- A unit's tile of the gated rows, as written. -/
def tile (p : Fin 2) (h : Fin 4) (w : Vec F S256x512 .bf16) : View.Piece (Elt F) S512x2048 .bf16 :=
  ⟨Rect.unit (s := S512x2048) ![256 * p.val, 512 * h.val] S256x512.size (fits_t p h), w⟩

/-- Row `i` of chunk `p` among a point's 512. -/
def rowIx (p : Fin 2) (i : Fin 256) : Fin 512 := ⟨256 * p.val + i.val, by omega⟩
/-- Column `e` of head `h` among 2048. -/
def colIx (h : Fin 4) (e : Fin 512) : Fin 2048 := ⟨512 * h.val + e.val, by omega⟩

theorem slab_emb (k : Fin 4) (d : Fin 256) (e : Fin 512) : (ix3 k d e : S4x256x512.Idx)
    = (Rect.unit (s := S4x256x512) ![k.val, 0, 0] S1x256x512.size (fits_s k)).emb (ix3 (0 : Fin 1) d e : S1x256x512.Idx) := by
  funext a
  apply Fin.ext
  match a with
  | ⟨0, _⟩ => show k.val = k.val + 1 * 0; omega
  | ⟨1, _⟩ => show d.val = 0 + 1 * d.val; omega
  | ⟨2, _⟩ => show e.val = 0 + 1 * e.val; omega

theorem mslab_emb (k : Fin 4) (d e : Fin 256) : (ix3 k d e : S4x256x256.Idx)
    = (Rect.unit (s := S4x256x256) ![k.val, 0, 0] S1x256x256.size (fits_m k)).emb (ix3 (0 : Fin 1) d e : S1x256x256.Idx) := by
  funext a
  apply Fin.ext
  match a with
  | ⟨0, _⟩ => show k.val = k.val + 1 * 0; omega
  | ⟨1, _⟩ => show d.val = 0 + 1 * d.val; omega
  | ⟨2, _⟩ => show e.val = 0 + 1 * e.val; omega

/-- A head's slab, last written, read at that head. -/
theorem slab_self (k : Fin 4) (w : Vec F S1x256x512 .f32) (L : List (View.Piece (Elt F) S4x256x512 .f32)) (d : Fin 256) (e : Fin 512) :
    View.canon (slab k w :: L) (ix3 k d e) = w (ix3 (0 : Fin 1) d e) := by
  rw [slab_emb]
  exact View.canon_cons_emb _ _ _ _

/-- A head's slab, last written, does not meet another head. -/
theorem slab_ne (k h : Fin 4) (hk : h ≠ k) (w : Vec F S1x256x512 .f32) (L : List (View.Piece (Elt F) S4x256x512 .f32)) (d : Fin 256) (e : Fin 512) :
    View.canon (slab k w :: L) (ix3 h d e) = View.canon L (ix3 h d e) := by
  refine View.canon_cons_of_not_mem _ _ fun hm => hk ?_
  have h0 := ((Rect.mem_set_unit (inb := fits_s k)).mp hm) 0
  have h1 : k.val ≤ h.val ∧ h.val < k.val + 1 := h0
  exact Fin.ext (by omega)

/-- A head's mask, last written, read at that head. -/
theorem mslab_self (k : Fin 4) (w : Vec F S1x256x256 .f32) (L : List (View.Piece (Elt F) S4x256x256 .f32)) (d e : Fin 256) :
    View.canon (mslab k w :: L) (ix3 k d e) = w (ix3 (0 : Fin 1) d e) := by
  rw [mslab_emb]
  exact View.canon_cons_emb _ _ _ _

/-- A head's mask, last written, does not meet another head. -/
theorem mslab_ne (k h : Fin 4) (hk : h ≠ k) (w : Vec F S1x256x256 .f32) (L : List (View.Piece (Elt F) S4x256x256 .f32)) (d e : Fin 256) :
    View.canon (mslab k w :: L) (ix3 h d e) = View.canon L (ix3 h d e) := by
  refine View.canon_cons_of_not_mem _ _ fun hm => hk ?_
  have h0 := ((Rect.mem_set_unit (inb := fits_m k)).mp hm) 0
  have h1 : k.val ≤ h.val ∧ h.val < k.val + 1 := h0
  exact Fin.ext (by omega)

/-- A unit's tile of the gated rows, last written, read inside it. -/
theorem tile_self (p : Fin 2) (h : Fin 4) (w : Vec F S256x512 .bf16) (L : List (View.Piece (Elt F) S512x2048 .bf16)) (i : Fin 256) (e : Fin 512) :
    View.canon (tile p h w :: L) (ix2 (rowIx p i) (colIx h e)) = w (ix2 i e) := by
  have hh : (ix2 (rowIx p i) (colIx h e) : S512x2048.Idx)
      = (Rect.unit (s := S512x2048) ![256 * p.val, 512 * h.val] S256x512.size (fits_t p h)).emb (ix2 i e : S256x512.Idx) := by
    funext a
    apply Fin.ext
    match a with
    | ⟨0, _⟩ => show 256 * p.val + i.val = 256 * p.val + 1 * i.val; omega
    | ⟨1, _⟩ => show 512 * h.val + e.val = 512 * h.val + 1 * e.val; omega
  rw [hh]
  exact View.canon_cons_emb _ _ _ _

/-- A unit's tile, last written, does not meet another's. -/
theorem tile_ne (p p' : Fin 2) (h h' : Fin 4) (hk : (p', h') ≠ (p, h)) (w : Vec F S256x512 .bf16) (L : List (View.Piece (Elt F) S512x2048 .bf16))
    (i : Fin 256) (e : Fin 512) :
    View.canon (tile p h w :: L) (ix2 (rowIx p' i) (colIx h' e)) = View.canon L (ix2 (rowIx p' i) (colIx h' e)) := by
  refine View.canon_cons_of_not_mem _ _ fun hm => hk ?_
  have e0 := ((Rect.mem_set_unit (inb := fits_t p h)).mp hm) 0
  have e1 := ((Rect.mem_set_unit (inb := fits_t p h)).mp hm) 1
  have f0 : 256 * p.val ≤ 256 * p'.val + i.val ∧ 256 * p'.val + i.val < 256 * p.val + 256 := e0
  have f1 : 512 * h.val ≤ 512 * h'.val + e.val ∧ 512 * h'.val + e.val < 512 * h.val + 512 := e1
  exact Prod.ext (Fin.ext (show p'.val = p.val by omega)) (Fin.ext (show h'.val = h.val by omega))

/-- A head's state, loaded from what the pieces leave. -/
theorem load_slab {sp : Space} (v : View sig .tc sp S4x256x512 .f32) (L : List (View.Piece (Elt F) S4x256x512 .f32)) (s : Vec F S4x256x512 .f32) (h : Fin 4)
    (hs : ∀ d e, View.canon L (ix3 h d e) = s (ix3 h d e)) :
    v.readCov L (Rect.unit (s := S4x256x512) ![h.val, 0, 0] S1x256x512.size (fits_s h)).toLoadRect = sB s h := by
  rw [View.readCov_eq_canon']
  funext j
  obtain ⟨a, d, e, rfl⟩ : ∃ (a : Fin 1) (d : Fin 256) (e : Fin 512), j = ix3 a d e := ⟨j 0, j 1, j 2, eq_ix3 j⟩
  obtain rfl : a = 0 := Subsingleton.elim _ _
  have := (slab_emb h d e).symm
  show View.canon L ((Rect.unit (s := S4x256x512) ![h.val, 0, 0] S1x256x512.size (fits_s h)).emb _) = s ((Rect.unit (s := S4x256x512) ![h.val, 0, 0] S1x256x512.size (fits_s h)).emb _)
  rw [this]
  exact hs d e

/-- A head's mask, loaded from what the pieces leave. -/
theorem load_mslab {sp : Space} (v : View sig .tc sp S4x256x256 .f32) (L : List (View.Piece (Elt F) S4x256x256 .f32)) (s : Vec F S4x256x256 .f32) (h : Fin 4)
    (hs : ∀ d e, View.canon L (ix3 h d e) = s (ix3 h d e)) :
    v.readCov L (Rect.unit (s := S4x256x256) ![h.val, 0, 0] S1x256x256.size (fits_m h)).toLoadRect = mB s h := by
  rw [View.readCov_eq_canon']
  funext j
  obtain ⟨a, d, e, rfl⟩ : ∃ (a : Fin 1) (d e : Fin 256), j = ix3 a d e := ⟨j 0, j 1, j 2, eq_ix3 j⟩
  obtain rfl : a = 0 := Subsingleton.elim _ _
  have := (mslab_emb h d e).symm
  show View.canon L ((Rect.unit (s := S4x256x256) ![h.val, 0, 0] S1x256x256.size (fits_m h)).emb _) = s ((Rect.unit (s := S4x256x256) ![h.val, 0, 0] S1x256x256.size (fits_m h)).emb _)
  rw [this]
  exact hs d e

/-! ## The point as a whole -/

/-- The states after chunk `p` of the point, from the states before it. -/
def after (p : Fin 2) (s : Vec F S4x256x512 .f32) : Vec F S4x256x512 .f32 :=
  fun y => stateAt x0 x2 x3 p (y 0) (sB s (y 0)) (ix3 (0 : Fin 1) (y 1 : Fin 256) (y 2 : Fin 512))

/-- The gated rows of the point. -/
def rows (dm : Vec F S4x256x256 .f32) (s : Vec F S4x256x512 .f32) : Vec F S512x2048 .bf16 :=
  View.canon [tile 1 3 (gatedAt x0 x2 x3 (mB dm 3) 1 3 (sB (after x0 x2 x3 0 s) 3)), tile 1 2 (gatedAt x0 x2 x3 (mB dm 2) 1 2 (sB (after x0 x2 x3 0 s) 2)),
    tile 1 1 (gatedAt x0 x2 x3 (mB dm 1) 1 1 (sB (after x0 x2 x3 0 s) 1)), tile 1 0 (gatedAt x0 x2 x3 (mB dm 0) 1 0 (sB (after x0 x2 x3 0 s) 0)),
    tile 0 3 (gatedAt x0 x2 x3 (mB dm 3) 0 3 (sB s 3)), tile 0 2 (gatedAt x0 x2 x3 (mB dm 2) 0 2 (sB s 2)),
    tile 0 1 (gatedAt x0 x2 x3 (mB dm 1) 0 1 (sB s 1)), tile 0 0 (gatedAt x0 x2 x3 (mB dm 0) 0 0 (sB s 0))]

theorem rows_zero (dm : Vec F S4x256x256 .f32) (s : Vec F S4x256x512 .f32) (h : Fin 4) (i : Fin 256) (e : Fin 512) :
    rows x0 x2 x3 dm s (ix2 (rowIx 0 i) (colIx h e)) = gatedAt x0 x2 x3 (mB dm h) 0 h (sB s h) (ix2 i e) := by
  unfold rows
  match h with
  | 0 => iterate 7 rw [tile_ne _ _ _ _ (by decide)]
         exact tile_self ..
  | 1 => iterate 6 rw [tile_ne _ _ _ _ (by decide)]
         exact tile_self ..
  | 2 => iterate 5 rw [tile_ne _ _ _ _ (by decide)]
         exact tile_self ..
  | 3 => iterate 4 rw [tile_ne _ _ _ _ (by decide)]
         exact tile_self ..

theorem rows_one (dm : Vec F S4x256x256 .f32) (s : Vec F S4x256x512 .f32) (h : Fin 4) (i : Fin 256) (e : Fin 512) :
    rows x0 x2 x3 dm s (ix2 (rowIx 1 i) (colIx h e)) = gatedAt x0 x2 x3 (mB dm h) 1 h (sB (after x0 x2 x3 0 s) h) (ix2 i e) := by
  unfold rows
  match h with
  | 0 => iterate 3 rw [tile_ne _ _ _ _ (by decide)]
         exact tile_self ..
  | 1 => iterate 2 rw [tile_ne _ _ _ _ (by decide)]
         exact tile_self ..
  | 2 => iterate 1 rw [tile_ne _ _ _ _ (by decide)]
         exact tile_self ..
  | 3 => exact tile_self ..

/-- Four slabs written over others: the first chunk's states. -/
theorem canon_after (p : Fin 2) (s : Vec F S4x256x512 .f32) (L : List (View.Piece (Elt F) S4x256x512 .f32)) (h : Fin 4) (d : Fin 256) (e : Fin 512) :
    View.canon (slab 3 (stateAt x0 x2 x3 p 3 (sB s 3)) :: slab 2 (stateAt x0 x2 x3 p 2 (sB s 2)) :: slab 1 (stateAt x0 x2 x3 p 1 (sB s 1)) ::
      slab 0 (stateAt x0 x2 x3 p 0 (sB s 0)) :: L) (ix3 h d e) = after x0 x2 x3 p s (ix3 h d e) := by
  match h with
  | 0 => iterate 3 rw [slab_ne _ _ (by decide)]
         exact slab_self ..
  | 1 => iterate 2 rw [slab_ne _ _ (by decide)]
         exact slab_self ..
  | 2 => iterate 1 rw [slab_ne _ _ (by decide)]
         exact slab_self ..
  | 3 => exact slab_self ..

end Cert.Proof.Retention

end
-- ==== Proof.RetCaseB.lean ====
/- The retention kernel's points that carry on a sequence: what it leaves in the state and in its output block. -/
module

public import proofs.«01_k».proof.Proof.RetPoint

@[expose] public section

noncomputable section

namespace Cert.Proof.Retention

open Cert.RetentionIdeal Cert.RetentionIdeal.Gen Idealize.ShloMosaic Idealize.ShloMosaic.TcCoe

variable {F : FTy → Type} [FloatOps F] [Named F]

theorem zero_off3 : (![0, 0, 0] : Fin 3 → ℕ) = fun _ => 0 := by decide
theorem zero_off2 : (![0, 0] : Fin 2 → ℕ) = fun _ => 0 := by decide

variable (c : Dev nD) (i : grid0.Coords) (a2 : Memref sig .tc .vmem S1x512x6144 .f32) (h2 : a2.IsWhole) (a3 : Memref sig .tc .vmem S1x512x1024 .f32) (h3 : a3.IsWhole)
  (a4 : Memref sig .tc .vmem S512x128 .f32) (h4 : a4.IsWhole) (a5 : Memref sig .tc .vmem S512x128 .f32) (h5 : a5.IsWhole)
  (a6 : Memref sig .tc .vmem S2048x1024 .bf16) (h6 : a6.IsWhole) (a7 : Memref sig .tc .vmem S1x512x1024 .f32) (h7 : a7.IsWhole)
  (a8 : Memref sig .tc .vmem S4x256x512 .f32) (h8 : a8.IsWhole) (a9 : Memref sig .tc .vmem S512x2048 .bf16) (h9 : a9.IsWhole)
  (a10 : Memref sig .tc .vmem S4x256x256 .f32) (h10 : a10.IsWhole) (hc0 : ¬ cond0_0 i)
  (x0 : Vec F S1x512x6144 .f32) (x1 : Vec F S1x512x1024 .f32) (x2 x3 : Vec F S512x128 .f32) (x4 : Vec F S2048x1024 .bf16)
  (xs0 : Vec F S4x256x512 .f32) (xs2 : Vec F S4x256x256 .f32)

/-- The first chunk's four states, as stored. -/
theorem first_B : kernelRun0_B.sl.HS0_4 c a2 h2 a4 h4 a5 h5 a8 h8 x0 x2 x3 xs0
    = [slab 3 (stateAt x0 x2 x3 0 3 (sB xs0 3)), slab 2 (stateAt x0 x2 x3 0 2 (sB xs0 2)), slab 1 (stateAt x0 x2 x3 0 1 (sB xs0 1)),
       slab 0 (stateAt x0 x2 x3 0 0 (sB xs0 0))] := by
  simp only [kernelRun0_B.sl.HS0_4, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.v138, kernelRun0_B.sl.v222, kernelRun0_B.sl.v306,
    View.readAt_eq_ld, h2.read_unread, h4.read_unread, h5.read_unread, h8.read_unread]
  rfl

theorem canon_first_B (h : Fin 4) (d : Fin 256) (e : Fin 512) :
    View.canon (kernelRun0_B.sl.HS0_4 c a2 h2 a4 h4 a5 h5 a8 h8 x0 x2 x3 xs0) (ix3 h d e) = after x0 x2 x3 0 xs0 (ix3 h d e) := by
  rw [first_B]
  exact canon_after x0 x2 x3 0 xs0 [] h d e

/-- The state the second chunk finds at head 0. -/
theorem load0_B : kernelRun0_B.sl.v394 c a2 h2 a4 h4 a5 h5 a8 h8 x0 x2 x3 xs0 = sB (after x0 x2 x3 0 xs0) 0 := by
  refine load_slab a8.view _ (after x0 x2 x3 0 xs0) 0 fun d e => ?_
  exact canon_first_B ..

/-- The state of head 0 stored by the second chunk. -/
theorem next0_B : kernelRun0_B.sl.HS0_5 c a2 h2 a4 h4 a5 h5 a8 h8 x0 x2 x3 xs0
    = slab 0 (stateAt x0 x2 x3 1 0 (sB (after x0 x2 x3 0 xs0) 0)) :: kernelRun0_B.sl.HS0_4 c a2 h2 a4 h4 a5 h5 a8 h8 x0 x2 x3 xs0 := by
  simp only [kernelRun0_B.sl.HS0_5, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64,
    load0_B, View.readAt_eq_ld, h2.read_unread, h4.read_unread, h5.read_unread, h8.read_unread]
  rfl

/-- The state the second chunk finds at head 1. -/
theorem load1_B : kernelRun0_B.sl.v478 c a2 h2 a4 h4 a5 h5 a8 h8 x0 x2 x3 xs0 = sB (after x0 x2 x3 0 xs0) 1 := by
  refine load_slab a8.view _ (after x0 x2 x3 0 xs0) 1 fun d e => ?_
  rw [next0_B, slab_ne _ _ (by decide)]
  exact canon_first_B ..

/-- The state of head 1 stored by the second chunk. -/
theorem next1_B : kernelRun0_B.sl.HS0_6 c a2 h2 a4 h4 a5 h5 a8 h8 x0 x2 x3 xs0
    = slab 1 (stateAt x0 x2 x3 1 1 (sB (after x0 x2 x3 0 xs0) 1)) :: kernelRun0_B.sl.HS0_5 c a2 h2 a4 h4 a5 h5 a8 h8 x0 x2 x3 xs0 := by
  simp only [kernelRun0_B.sl.HS0_6, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64,
    load1_B, View.readAt_eq_ld, h2.read_unread, h4.read_unread, h5.read_unread, h8.read_unread]
  rfl

/-- The state the second chunk finds at head 2. -/
theorem load2_B : kernelRun0_B.sl.v562 c a2 h2 a4 h4 a5 h5 a8 h8 x0 x2 x3 xs0 = sB (after x0 x2 x3 0 xs0) 2 := by
  refine load_slab a8.view _ (after x0 x2 x3 0 xs0) 2 fun d e => ?_
  rw [next1_B, slab_ne _ _ (by decide)]
  rw [next0_B, slab_ne _ _ (by decide)]
  exact canon_first_B ..

/-- The state of head 2 stored by the second chunk. -/
theorem next2_B : kernelRun0_B.sl.HS0_7 c a2 h2 a4 h4 a5 h5 a8 h8 x0 x2 x3 xs0
    = slab 2 (stateAt x0 x2 x3 1 2 (sB (after x0 x2 x3 0 xs0) 2)) :: kernelRun0_B.sl.HS0_6 c a2 h2 a4 h4 a5 h5 a8 h8 x0 x2 x3 xs0 := by
  simp only [kernelRun0_B.sl.HS0_7, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64,
    load2_B, View.readAt_eq_ld, h2.read_unread, h4.read_unread, h5.read_unread, h8.read_unread]
  rfl

/-- The state the second chunk finds at head 3. -/
theorem load3_B : kernelRun0_B.sl.v646 c a2 h2 a4 h4 a5 h5 a8 h8 x0 x2 x3 xs0 = sB (after x0 x2 x3 0 xs0) 3 := by
  refine load_slab a8.view _ (after x0 x2 x3 0 xs0) 3 fun d e => ?_
  rw [next2_B, slab_ne _ _ (by decide)]
  rw [next1_B, slab_ne _ _ (by decide)]
  rw [next0_B, slab_ne _ _ (by decide)]
  exact canon_first_B ..

/-- The states the point leaves. -/
theorem state_B : sout0_B_0 c i a2 h2 a3 h3 a4 h4 a5 h5 a6 h6 a7 h7 a8 h8 a9 h9 a10 h10 hc0 x0 x1 x2 x3 x4 xs0 xs2
    = after x0 x2 x3 1 (after x0 x2 x3 0 xs0) := by
  unfold sout0_B_0
  rw [View.read_writes_junk_eq_canon]
  funext y
  obtain ⟨h, d, e, rfl⟩ : ∃ (h : Fin 4) (d : Fin 256) (e : Fin 512), y = ix3 h d e := ⟨y 0, y 1, y 2, eq_ix3 y⟩
  refine Eq.trans (congrFun (congrArg View.canon ?_) _) (canon_after x0 x2 x3 1 (after x0 x2 x3 0 xs0)
    (kernelRun0_B.sl.HS0_4 c a2 h2 a4 h4 a5 h5 a8 h8 x0 x2 x3 xs0) h d e)
  unfold kernelRun0_B
  dsimp only
  rw [← next0_B c a2 h2 a4 h4 a5 h5 a8 h8 x0 x2 x3 xs0, ← next1_B c a2 h2 a4 h4 a5 h5 a8 h8 x0 x2 x3 xs0, ← next2_B c a2 h2 a4 h4 a5 h5 a8 h8 x0 x2 x3 xs0]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64,
    load3_B, View.readAt_eq_ld, h2.read_unread, h4.read_unread, h5.read_unread, h8.read_unread]
  rfl

/-- The gated rows of the point, as stored. -/
theorem rows_B : View.canon (kernelRun0_B.sl.HS1_8 c a2 h2 a4 h4 a5 h5 a8 h8 a10 h10 x0 x2 x3 xs0 xs2) = rows x0 x2 x3 xs2 xs0 := by
  unfold rows
  refine congrArg View.canon ?_
  simp only [kernelRun0_B.sl.HS1_8, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.v138, kernelRun0_B.sl.v222, kernelRun0_B.sl.v306,
    load0_B, load1_B, load2_B, load3_B, View.readAt_eq_ld, h2.read_unread, h4.read_unread, h5.read_unread, h8.read_unread, h10.read_unread]
  rfl

/-- The point's output block. -/
theorem out_B : out0_B_5 c i a2 h2 a3 h3 a4 h4 a5 h5 a6 h6 a7 h7 a8 h8 a9 h9 a10 h10 hc0 x0 x1 x2 x3 x4 xs0 xs2
    = k0_pay1 (k0_pay103 x1) (rows x0 x2 x3 xs2 xs0) x4 := by
  unfold out0_B_5
  rw [View.read_writes_junk_eq_canon]
  unfold kernelRun0_B
  dsimp only
  refine (View.canon_unit_zero (S := S1x512x1024) zero_off3 _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.v687,
    View.readAt_eq_ld, h3.read_unread, h6.read_unread, View.ld_unit_zero (S := S1x512x1024) zero_off3, View.ld_unit_zero (S := S2048x1024) zero_off2]
  rw [View.readCov_eq_canon', rows_B]
  exact congrArg (fun y => k0_pay1 (k0_pay103 x1) y x4) (View.ld_unit_zero (S := S512x2048) zero_off2 _ (rows x0 x2 x3 xs2 xs0))

end Cert.Proof.Retention

end
-- ==== Proof.RetCaseA.lean ====
/- The retention kernel's points that start a sequence: what it leaves in the state and in its output block. -/
module

public import proofs.«01_k».proof.Proof.RetCaseB

@[expose] public section

noncomputable section

namespace Cert.Proof.Retention

open Cert.RetentionIdeal Cert.RetentionIdeal.Gen Idealize.ShloMosaic Idealize.ShloMosaic.TcCoe

variable {F : FTy → Type} [FloatOps F] [Named F]

/-- A head's decay mask: its decay to the power of the distance, at and below the diagonal. -/
def maskUnit (lg : F .f32) : Vec F S1x256x256 .f32 := k0_pay8 (F := F) (k0_pay6 (F := F)) (k0_pay7 (F := F)) lg

/-- The four decay masks. -/
def masks : Vec F S4x256x256 .f32 := fun y => maskUnit (lgOf (y 0)) (ix3 (0 : Fin 1) (y 1 : Fin 256) (y 2 : Fin 256))

/-- The states a sequence starts from. -/
def start : Vec F S4x256x512 .f32 := k0_pay2 (F := F)

theorem canon_masks (h : Fin 4) (d e : Fin 256) : View.canon (kernelRun0_A.sl.HS2_4 (F := F)) (ix3 h d e) = masks (ix3 h d e) := by
  have hs : kernelRun0_A.sl.HS2_4 (F := F) = [mslab 3 (maskUnit lg3), mslab 2 (maskUnit lg2), mslab 1 (maskUnit lg1), mslab 0 (maskUnit lg0)] := rfl
  rw [hs]
  match h with
  | 0 => iterate 3 rw [mslab_ne _ _ (by decide)]
         exact mslab_self ..
  | 1 => iterate 2 rw [mslab_ne _ _ (by decide)]
         exact mslab_self ..
  | 2 => iterate 1 rw [mslab_ne _ _ (by decide)]
         exact mslab_self ..
  | 3 => exact mslab_self ..

theorem canon_start : View.canon (kernelRun0_A.sl.HS0_1 (F := F)) = start (F := F) := View.canon_unit_zero (S := S4x256x512) zero_off3 _ _

variable (c : Dev nD) (i : grid0.Coords) (a2 : Memref sig .tc .vmem S1x512x6144 .f32) (h2 : a2.IsWhole) (a3 : Memref sig .tc .vmem S1x512x1024 .f32) (h3 : a3.IsWhole)
  (a4 : Memref sig .tc .vmem S512x128 .f32) (h4 : a4.IsWhole) (a5 : Memref sig .tc .vmem S512x128 .f32) (h5 : a5.IsWhole)
  (a6 : Memref sig .tc .vmem S2048x1024 .bf16) (h6 : a6.IsWhole) (a7 : Memref sig .tc .vmem S1x512x1024 .f32) (h7 : a7.IsWhole)
  (a8 : Memref sig .tc .vmem S4x256x512 .f32) (h8 : a8.IsWhole) (a9 : Memref sig .tc .vmem S512x2048 .bf16) (h9 : a9.IsWhole)
  (a10 : Memref sig .tc .vmem S4x256x256 .f32) (h10 : a10.IsWhole) (hc0 : cond0_0 i)
  (x0 : Vec F S1x512x6144 .f32) (x1 : Vec F S1x512x1024 .f32) (x2 x3 : Vec F S512x128 .f32) (x4 : Vec F S2048x1024 .bf16)

theorem mask0_A : kernelRun0_A.sl.v51 (F := F) c a10 = mB masks 0 := load_mslab a10.view _ masks 0 fun d e => canon_masks 0 d e

theorem mask1_A : kernelRun0_A.sl.v135 (F := F) c a10 = mB masks 1 := load_mslab a10.view _ masks 1 fun d e => canon_masks 1 d e

theorem mask2_A : kernelRun0_A.sl.v219 (F := F) c a10 = mB masks 2 := load_mslab a10.view _ masks 2 fun d e => canon_masks 2 d e

theorem mask3_A : kernelRun0_A.sl.v303 (F := F) c a10 = mB masks 3 := load_mslab a10.view _ masks 3 fun d e => canon_masks 3 d e

/-- The state the first chunk finds at head 0. -/
theorem load00_A : kernelRun0_A.sl.v54 c a8 = sB (F := F) start 0 := by
  refine load_slab a8.view _ start 0 fun d e => ?_
  exact congrFun canon_start _

/-- Head 0's state, stored by the first chunk. -/
theorem store00_A : kernelRun0_A.sl.HS0_2 c a2 h2 a4 h4 a5 h5 a8 x0 x2 x3 = slab 0 (stateAt x0 x2 x3 0 0 (sB start 0)) :: kernelRun0_A.sl.HS0_1 := by
  simp only [kernelRun0_A.sl.HS0_2, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, load00_A, View.readAt_eq_ld, h2.read_unread, h4.read_unread, h5.read_unread]
  rfl

/-- The state the first chunk finds at head 1. -/
theorem load01_A : kernelRun0_A.sl.v138 c a2 h2 a4 h4 a5 h5 a8 x0 x2 x3 = sB start 1 := by
  refine load_slab a8.view _ start 1 fun d e => ?_
  rw [store00_A, slab_ne _ _ (by decide)]
  exact congrFun canon_start _

/-- Head 1's state, stored by the first chunk. -/
theorem store01_A : kernelRun0_A.sl.HS0_3 c a2 h2 a4 h4 a5 h5 a8 x0 x2 x3 = slab 1 (stateAt x0 x2 x3 0 1 (sB start 1)) :: kernelRun0_A.sl.HS0_2 c a2 h2 a4 h4 a5 h5 a8 x0 x2 x3 := by
  simp only [kernelRun0_A.sl.HS0_3, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, load01_A, View.readAt_eq_ld, h2.read_unread, h4.read_unread, h5.read_unread]
  rfl

/-- The state the first chunk finds at head 2. -/
theorem load02_A : kernelRun0_A.sl.v222 c a2 h2 a4 h4 a5 h5 a8 x0 x2 x3 = sB start 2 := by
  refine load_slab a8.view _ start 2 fun d e => ?_
  rw [store01_A, slab_ne _ _ (by decide)]
  rw [store00_A, slab_ne _ _ (by decide)]
  exact congrFun canon_start _

/-- Head 2's state, stored by the first chunk. -/
theorem store02_A : kernelRun0_A.sl.HS0_4 c a2 h2 a4 h4 a5 h5 a8 x0 x2 x3 = slab 2 (stateAt x0 x2 x3 0 2 (sB start 2)) :: kernelRun0_A.sl.HS0_3 c a2 h2 a4 h4 a5 h5 a8 x0 x2 x3 := by
  simp only [kernelRun0_A.sl.HS0_4, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, load02_A, View.readAt_eq_ld, h2.read_unread, h4.read_unread, h5.read_unread]
  rfl

/-- The state the first chunk finds at head 3. -/
theorem load03_A : kernelRun0_A.sl.v306 c a2 h2 a4 h4 a5 h5 a8 x0 x2 x3 = sB start 3 := by
  refine load_slab a8.view _ start 3 fun d e => ?_
  rw [store02_A, slab_ne _ _ (by decide)]
  rw [store01_A, slab_ne _ _ (by decide)]
  rw [store00_A, slab_ne _ _ (by decide)]
  exact congrFun canon_start _

/-- Head 3's state, stored by the first chunk. -/
theorem store03_A : kernelRun0_A.sl.HS0_5 c a2 h2 a4 h4 a5 h5 a8 x0 x2 x3 = slab 3 (stateAt x0 x2 x3 0 3 (sB start 3)) :: kernelRun0_A.sl.HS0_4 c a2 h2 a4 h4 a5 h5 a8 x0 x2 x3 := by
  simp only [kernelRun0_A.sl.HS0_5, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, load03_A, View.readAt_eq_ld, h2.read_unread, h4.read_unread, h5.read_unread]
  rfl

theorem canon_first_A (h : Fin 4) (d : Fin 256) (e : Fin 512) :
    View.canon (kernelRun0_A.sl.HS0_5 c a2 h2 a4 h4 a5 h5 a8 x0 x2 x3) (ix3 h d e) = after x0 x2 x3 0 start (ix3 h d e) := by
  rw [store03_A, store02_A, store01_A, store00_A]
  exact canon_after x0 x2 x3 0 start _ h d e

/-- The state the second chunk finds at head 0. -/
theorem load10_A : kernelRun0_A.sl.v394 c a2 h2 a4 h4 a5 h5 a8 x0 x2 x3 = sB (after x0 x2 x3 0 start) 0 := by
  refine load_slab a8.view _ (after x0 x2 x3 0 start) 0 fun d e => ?_
  exact canon_first_A ..

/-- Head 0's state, stored by the second chunk. -/
theorem store10_A : kernelRun0_A.sl.HS0_6 c a2 h2 a4 h4 a5 h5 a8 x0 x2 x3 = slab 0 (stateAt x0 x2 x3 1 0 (sB (after x0 x2 x3 0 start) 0)) :: kernelRun0_A.sl.HS0_5 c a2 h2 a4 h4 a5 h5 a8 x0 x2 x3 := by
  simp only [kernelRun0_A.sl.HS0_6, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, load10_A, View.readAt_eq_ld, h2.read_unread, h4.read_unread, h5.read_unread]
  rfl

/-- The state the second chunk finds at head 1. -/
theorem load11_A : kernelRun0_A.sl.v478 c a2 h2 a4 h4 a5 h5 a8 x0 x2 x3 = sB (after x0 x2 x3 0 start) 1 := by
  refine load_slab a8.view _ (after x0 x2 x3 0 start) 1 fun d e => ?_
  rw [store10_A, slab_ne _ _ (by decide)]
  exact canon_first_A ..

/-- Head 1's state, stored by the second chunk. -/
theorem store11_A : kernelRun0_A.sl.HS0_7 c a2 h2 a4 h4 a5 h5 a8 x0 x2 x3 = slab 1 (stateAt x0 x2 x3 1 1 (sB (after x0 x2 x3 0 start) 1)) :: kernelRun0_A.sl.HS0_6 c a2 h2 a4 h4 a5 h5 a8 x0 x2 x3 := by
  simp only [kernelRun0_A.sl.HS0_7, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, load11_A, View.readAt_eq_ld, h2.read_unread, h4.read_unread, h5.read_unread]
  rfl

/-- The state the second chunk finds at head 2. -/
theorem load12_A : kernelRun0_A.sl.v562 c a2 h2 a4 h4 a5 h5 a8 x0 x2 x3 = sB (after x0 x2 x3 0 start) 2 := by
  refine load_slab a8.view _ (after x0 x2 x3 0 start) 2 fun d e => ?_
  rw [store11_A, slab_ne _ _ (by decide)]
  rw [store10_A, slab_ne _ _ (by decide)]
  exact canon_first_A ..

/-- Head 2's state, stored by the second chunk. -/
theorem store12_A : kernelRun0_A.sl.HS0_8 c a2 h2 a4 h4 a5 h5 a8 x0 x2 x3 = slab 2 (stateAt x0 x2 x3 1 2 (sB (after x0 x2 x3 0 start) 2)) :: kernelRun0_A.sl.HS0_7 c a2 h2 a4 h4 a5 h5 a8 x0 x2 x3 := by
  simp only [kernelRun0_A.sl.HS0_8, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, load12_A, View.readAt_eq_ld, h2.read_unread, h4.read_unread, h5.read_unread]
  rfl

/-- The state the second chunk finds at head 3. -/
theorem load13_A : kernelRun0_A.sl.v646 c a2 h2 a4 h4 a5 h5 a8 x0 x2 x3 = sB (after x0 x2 x3 0 start) 3 := by
  refine load_slab a8.view _ (after x0 x2 x3 0 start) 3 fun d e => ?_
  rw [store12_A, slab_ne _ _ (by decide)]
  rw [store11_A, slab_ne _ _ (by decide)]
  rw [store10_A, slab_ne _ _ (by decide)]
  exact canon_first_A ..

/-- The states the point leaves. -/
theorem state_A : sout0_A_0 c i a2 h2 a3 h3 a4 h4 a5 h5 a6 h6 a7 h7 a8 h8 a9 h9 a10 h10 hc0 x0 x1 x2 x3 x4
    = after x0 x2 x3 1 (after x0 x2 x3 0 start) := by
  unfold sout0_A_0
  rw [View.read_writes_junk_eq_canon]
  funext y
  obtain ⟨h, d, e, rfl⟩ : ∃ (h : Fin 4) (d : Fin 256) (e : Fin 512), y = ix3 h d e := ⟨y 0, y 1, y 2, eq_ix3 y⟩
  refine Eq.trans (congrFun (congrArg View.canon ?_) _) (canon_after x0 x2 x3 1 (after x0 x2 x3 0 start)
    (kernelRun0_A.sl.HS0_5 c a2 h2 a4 h4 a5 h5 a8 x0 x2 x3) h d e)
  unfold kernelRun0_A
  dsimp only
  rw [← store10_A c a2 h2 a4 h4 a5 h5 a8 x0 x2 x3, ← store11_A c a2 h2 a4 h4 a5 h5 a8 x0 x2 x3, ← store12_A c a2 h2 a4 h4 a5 h5 a8 x0 x2 x3]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, load13_A, View.readAt_eq_ld, h2.read_unread, h4.read_unread, h5.read_unread]
  rfl

/-- The masks the point leaves. -/
theorem masks_A : sout0_A_2 c i a2 h2 a3 h3 a4 h4 a5 h5 a6 h6 a7 h7 a8 h8 a9 h9 a10 h10 hc0 x0 x1 x2 x3 x4 = masks := by
  unfold sout0_A_2
  rw [View.read_writes_junk_eq_canon]
  funext y
  obtain ⟨h, d, e, rfl⟩ : ∃ (h : Fin 4) (d e : Fin 256), y = ix3 h d e := ⟨y 0, y 1, y 2, eq_ix3 y⟩
  exact canon_masks h d e

/-- The gated rows of the point, as stored. -/
theorem rows_A : View.canon (kernelRun0_A.sl.HS1_8 c a2 h2 a4 h4 a5 h5 a8 a10 x0 x2 x3) = rows x0 x2 x3 masks start := by
  unfold rows
  refine congrArg View.canon ?_
  simp only [kernelRun0_A.sl.HS1_8, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, load00_A, load01_A, load02_A, load03_A, load10_A, load11_A, load12_A, load13_A, mask0_A, mask1_A, mask2_A, mask3_A, View.readAt_eq_ld, h2.read_unread, h4.read_unread, h5.read_unread]
  rfl

/-- The point's output block. -/
theorem out_A : out0_A_5 c i a2 h2 a3 h3 a4 h4 a5 h5 a6 h6 a7 h7 a8 h8 a9 h9 a10 h10 hc0 x0 x1 x2 x3 x4
    = k0_pay1 (k0_pay103 x1) (rows x0 x2 x3 masks start) x4 := by
  unfold out0_A_5
  rw [View.read_writes_junk_eq_canon]
  unfold kernelRun0_A
  dsimp only
  refine (View.canon_unit_zero (S := S1x512x1024) zero_off3 _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.v687,
    View.readAt_eq_ld, h3.read_unread, h6.read_unread, View.ld_unit_zero (S := S1x512x1024) zero_off3, View.ld_unit_zero (S := S2048x1024) zero_off2]
  rw [View.readCov_eq_canon', rows_A]
  exact congrArg (fun y => k0_pay1 (k0_pay103 x1) y x4) (View.ld_unit_zero (S := S512x2048) zero_off2 _ (rows x0 x2 x3 masks start))

end Cert.Proof.Retention

end
-- ==== Proof.RetSum.lean ====
/- Retention over the reals: the chunked form, at any chunk length, computes the direct sum
   `out n = ∑ m ≤ n, exp (lam · (n − m)) · ⟨q n, k m⟩ · v m`. -/
module

public import Idealize.ShloMosaic.Lib.Pointwise

@[expose] public section

noncomputable section

namespace Cert.Proof.RetSum

open Finset

variable {D E : Type} [Fintype D]
variable (lam : ℝ) (q k : ℕ → D → ℝ) (v : ℕ → E → ℝ)

/-- The direct form: every earlier position, weighted by its decay to position `n`. -/
def direct (n : ℕ) (e : E) : ℝ :=
  ∑ m ∈ range (n + 1), (∑ d, q n d * k m d) * Real.exp (lam * ((n : ℝ) - m)) * v m e

/-- One chunk's update of a state: the old one decayed by the chunk's length, plus the chunk's keys and values, each
    decayed to the chunk's end. -/
def stepState (C : ℕ) (kc : Fin C → D → ℝ) (vc : Fin C → E → ℝ) (s : D → E → ℝ) (d : D) (e : E) : ℝ :=
  s d e * Real.exp (lam * C) + ∑ j : Fin C, kc j d * Real.exp (lam * ((C : ℝ) - 1 - j)) * vc j e

/-- One chunk's output: the masked scores within the chunk, plus what the state entering it contributes. -/
def chunkOut (C : ℕ) (qc kc : Fin C → D → ℝ) (vc : Fin C → E → ℝ) (s : D → E → ℝ) (i : Fin C) (e : E) : ℝ :=
  (∑ j : Fin C, (∑ d, qc i d * kc j d) * (if j.val ≤ i.val then Real.exp (lam * ((i.val : ℝ) - j.val)) else 0) * vc j e)
    + (∑ d, qc i d * s d e) * Real.exp (lam * ((i.val : ℝ) + 1))

/-- Chunk `c` of a sequence cut into chunks of length `C`. -/
def chunk {α : Type} (C : ℕ) (x : ℕ → α → ℝ) (c : ℕ) (i : Fin C) (a : α) : ℝ := x (C * c + i.val) a

/-- The state after `c` chunks. -/
def state (C : ℕ) : ℕ → D → E → ℝ
  | 0 => fun _ _ => 0
  | c + 1 => stepState lam C (chunk C k c) (chunk C v c) (state C c)

/-- The state after `c` chunks is the sum over every position before, decayed to the last of them. -/
theorem state_eq (C c : ℕ) (d : D) (e : E) :
    state lam k v C c d e = ∑ m ∈ range (C * c), k m d * Real.exp (lam * (((C * c : ℕ) : ℝ) - 1 - m)) * v m e := by
  induction c with
  | zero => simp [state]
  | succ c ih =>
    rw [state, stepState, ih, Nat.mul_succ, sum_range_add, sum_mul]
    congr 1
    · refine sum_congr rfl fun m _ => ?_
      rw [show k m d * Real.exp (lam * (((C * c : ℕ) : ℝ) - 1 - m)) * v m e * Real.exp (lam * C)
        = k m d * (Real.exp (lam * (((C * c : ℕ) : ℝ) - 1 - m)) * Real.exp (lam * C)) * v m e by ring, ← Real.exp_add]
      congr 3
      push_cast
      ring
    · rw [← Fin.sum_univ_eq_sum_range (fun m => k (C * c + m) d * Real.exp (lam * (((C * c + C : ℕ) : ℝ) - 1 - ((C * c + m : ℕ) : ℝ))) * v (C * c + m) e)]
      refine sum_congr rfl fun j _ => ?_
      simp only [chunk]
      congr 3
      push_cast
      ring

/-- The chunked output at a position is the direct form there. -/
theorem chunkOut_eq (C c : ℕ) (i : Fin C) (e : E) :
    chunkOut lam C (chunk C q c) (chunk C k c) (chunk C v c) (state lam k v C c) i e = direct lam q k v (C * c + i.val) e := by
  rw [chunkOut, direct, show C * c + i.val + 1 = C * c + (i.val + 1) by ring, sum_range_add, add_comm]
  congr 1
  · simp only [state_eq, chunk, mul_sum, sum_mul]
    rw [sum_comm]
    refine sum_congr rfl fun m _ => sum_congr rfl fun d _ => ?_
    rw [show q (C * c + i.val) d * (k m d * Real.exp (lam * (((C * c : ℕ) : ℝ) - 1 - m)) * v m e) * Real.exp (lam * ((i.val : ℝ) + 1))
      = q (C * c + i.val) d * k m d * (Real.exp (lam * (((C * c : ℕ) : ℝ) - 1 - m)) * Real.exp (lam * ((i.val : ℝ) + 1))) * v m e by ring, ← Real.exp_add]
    congr 3
    push_cast
    ring
  · simp only [chunk]
    rw [Fin.sum_univ_eq_sum_range (fun j => (∑ d, q (C * c + i.val) d * k (C * c + j) d)
      * (if j ≤ i.val then Real.exp (lam * ((i.val : ℝ) - j)) else 0) * v (C * c + j) e) C]
    rw [← sum_subset (range_subset_range.2 (Nat.succ_le_of_lt i.isLt))]
    · refine sum_congr rfl fun j hj => ?_
      have : j ≤ i.val := Nat.lt_succ_iff.1 (mem_range.1 hj)
      rw [if_pos this]
      congr 3
      push_cast
      ring
    · intro j _ hj
      rw [if_neg (fun h => hj (mem_range.2 (Nat.lt_succ_of_le h)))]
      simp

end Cert.Proof.RetSum

end
-- ==== Proof.RetRead.lean ====
/- The retention kernel's unit of work read element by element over the extended reals and, where its operands are real
   numbers, as the real-valued chunk step of RetSum.lean. -/
module

public import proofs.«01_k».proof.Proof.RetCaseA
public import proofs.«01_k».proof.Proof.RetSum

@[expose] public section

noncomputable section

namespace Cert.Proof.Retention

open Cert.RetentionIdeal Cert.RetentionIdeal.Gen Idealize.ShloMosaic Idealize.ShloMosaic.TcCoe

/-! ## Constants -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem bits_255 : Ideal.ofBits .f32 0x437F0000#32 = ((255 : ℝ) : EReal) := by
  simp [Ideal.ofBits, Ideal.ieee]; norm_num [← EReal.coe_mul]
theorem bits_sixteenth : Ideal.ofBits .f32 0x3D800000#32 = ((1 / 16 : ℝ) : EReal) := by
  simp [Ideal.ofBits, Ideal.ieee]; norm_num [← EReal.coe_mul]
theorem bits_half : Ideal.ofBits .f32 0x3F000000#32 = ((1 / 2 : ℝ) : EReal) := by
  simp [Ideal.ofBits, Ideal.ieee]; norm_num [← EReal.coe_mul]
theorem bits_512 : Ideal.ofBits .f32 0x44000000#32 = ((512 : ℝ) : EReal) := by
  simp [Ideal.ofBits, Ideal.ieee]; norm_num [← EReal.coe_mul]

/-- The small constant of the head norm. -/
def eps : ℝ := 8796093 / 8796093022208
theorem bits_eps : Ideal.ofBits .f32 0x358637BD#32 = ((eps : ℝ) : EReal) := by
  unfold eps; simp [Ideal.ofBits, Ideal.ieee]; norm_num [← EReal.coe_mul]

/-- A head's decay. -/
def gam : Fin 4 → ℝ
  | 0 => 31 / 32 | 1 => 63 / 64 | 2 => 127 / 128 | 3 => 255 / 256
theorem gam_pos (h : Fin 4) : 0 < gam h := by
  match h with
  | 0 => norm_num [gam]
  | 1 => norm_num [gam]
  | 2 => norm_num [gam]
  | 3 => norm_num [gam]
/-- A head's log decay. -/
def lam (h : Fin 4) : ℝ := Real.log (gam h)

theorem lg_eq (h : Fin 4) : lgOf (F := Ideal) h = ((lam h : ℝ) : EReal) := by
  match h with
  | 0 => exact IdealRules.named_const.ideal_named_scalar _ _ _ _ rfl
  | 1 => exact IdealRules.named_const.ideal_named_scalar _ _ _ _ rfl
  | 2 => exact IdealRules.named_const.ideal_named_scalar _ _ _ _ rfl
  | 3 => exact IdealRules.named_const.ideal_named_scalar _ _ _ _ rfl

theorem exp_lam (h : Fin 4) (n : ℕ) : Real.exp (lam h * n) = gam h ^ n := by
  rw [lam, mul_comm, Real.exp_nat_mul, Real.exp_log (gam_pos h)]

theorem cd_eq (h : Fin 4) : cdOf (F := Ideal) h = ((Real.exp (lam h * (256 : ℕ)) : ℝ) : EReal) := by
  rw [exp_lam]
  match h with
  | 0 => refine (IdealRules.named_const.ideal_named_scalar _ _ _ _ rfl).trans (congrArg _ ?_)
         norm_num [gam]
  | 1 => refine (IdealRules.named_const.ideal_named_scalar _ _ _ _ rfl).trans (congrArg _ ?_)
         norm_num [gam]
  | 2 => refine (IdealRules.named_const.ideal_named_scalar _ _ _ _ rfl).trans (congrArg _ ?_)
         norm_num [gam]
  | 3 => refine (IdealRules.named_const.ideal_named_scalar _ _ _ _ rfl).trans (congrArg _ ?_)
         norm_num [gam]

theorem toInt_small (i : Fin 256) : (BitVec.ofNat 32 i.val).toInt = (i.val : ℤ) := by
  have h : i.val % 2 ^ 32 = i.val := Nat.mod_eq_of_lt (by omega)
  simp only [BitVec.toInt, BitVec.toNat_ofNat, h]
  rw [if_pos (by omega)]

/-- The integer an iota holds, as a real. -/
theorem iota_real (i : Fin 256) : FloatOps.sitofp (F := Ideal) .f32 (BitVec.ofNat 32 i.val) = (((i.val : ℝ)) : EReal) := by
  show (((BitVec.ofNat 32 i.val).toInt : ℝ) : EReal) = _
  rw [toInt_small]
  norm_num

theorem iota_sub_real (i j : Fin 256) :
    FloatOps.sitofp (F := Ideal) .f32 (IntOp.subi (BitVec.ofNat 32 i.val) (BitVec.ofNat 32 j.val)) = (((i.val : ℝ) - j.val : ℝ) : EReal) := by
  have h : (BitVec.ofNat 32 i.val - BitVec.ofNat 32 j.val).toInt = (i.val : ℤ) - j.val := by
    rw [BitVec.toInt_sub, toInt_small, toInt_small]
    exact Int.bmod_eq_of_le (by omega) (by omega)
  show (((BitVec.ofNat 32 i.val - BitVec.ofNat 32 j.val).toInt : ℝ) : EReal) = _
  rw [h]
  norm_num

/-! ## The expressions at an index -/

/-- A coordinate in the lower half of a head's 256. -/
abbrev lo (d : Fin 128) : Fin 256 := ⟨d.val, by omega⟩
/-- The coordinate paired with it by the rotary embedding. -/
abbrev hi (d : Fin 128) : Fin 256 := ⟨128 + d.val, by omega⟩

theorem half_cases (d : Fin 256) : (∃ e : Fin 128, d = lo e) ∨ ∃ e : Fin 128, d = hi e := by
  by_cases h : d.val < 128
  · exact .inl ⟨⟨d.val, h⟩, rfl⟩
  · exact .inr ⟨⟨d.val - 128, by omega⟩, Fin.ext (by simp only [hi]; omega)⟩

section
variable (cs sn : Vec Ideal S256x128 .f32) (x : Vec Ideal S1x256x256 .f32) (i : Fin 256) (d : Fin 128)

theorem rope_lo : rope cs sn x (ix2 i (lo d)) = x (ix3 0 i (lo d)) * cs (ix2 i d) - x (ix3 0 i (hi d)) * sn (ix2 i d) := by
  pointwise [rope, k0_pay13, k0_pay11, k0_pay12]
theorem rope_hi : rope cs sn x (ix2 i (hi d)) = x (ix3 0 i (hi d)) * cs (ix2 i d) + x (ix3 0 i (lo d)) * sn (ix2 i d) := by
  pointwise [rope, k0_pay13, k0_pay11, k0_pay12]
theorem key_lo : key cs sn x (ix2 i (lo d)) = (x (ix3 0 i (lo d)) * cs (ix2 i d) - x (ix3 0 i (hi d)) * sn (ix2 i d)) * Ideal.ofBits .f32 0x3D800000#32 := by
  pointwise [key, k0_pay14, k0_pay11, k0_pay12]
theorem key_hi : key cs sn x (ix2 i (hi d)) = (x (ix3 0 i (hi d)) * cs (ix2 i d) + x (ix3 0 i (lo d)) * sn (ix2 i d)) * Ideal.ofBits .f32 0x3D800000#32 := by
  pointwise [key, k0_pay14, k0_pay11, k0_pay12]
end

theorem unitState_at (lg cd : Ideal .f32) (k : FVec Ideal S256x256 .f32) (v s : Vec Ideal S1x256x512 .f32) (d : Fin 256) (e : Fin 512) :
    unitState lg cd k v s (ix3 0 d e) = s (ix3 0 d e) * cd + ∑ j : Fin 256,
      (k (ix2 j d) * Ideal.exp (lg * (Ideal.ofBits .f32 0x437F0000#32 - ((j.val : ℝ) : EReal)))) * v (ix3 0 j e) := by
  pointwise [unitState, pos]
  simp only [iota_real]

theorem unitOut_at (lg : Ideal .f32) (q k : FVec Ideal S256x256 .f32) (v : Vec Ideal S1x256x512 .f32) (dm : Vec Ideal S1x256x256 .f32)
    (s : Vec Ideal S1x256x512 .f32) (i : Fin 256) (e : Fin 512) :
    unitOut lg q k v dm s (ix2 i e) = (∑ j : Fin 256, ((∑ d : Fin 256, q (ix2 i d) * k (ix2 j d)) * dm (ix3 0 i j)) * v (ix3 0 j e))
      + (∑ d : Fin 256, q (ix2 i d) * s (ix3 0 d e)) * Ideal.exp (lg * (((i.val : ℝ) : EReal) + 1)) := by
  pointwise [unitOut, pos]
  simp only [iota_real]

theorem mask_at (lg : Ideal .f32) (i j : Fin 256) :
    maskUnit lg (ix3 0 i j) = if (0 : EReal) ≤ (((i.val : ℝ) - j.val : ℝ) : EReal) then Ideal.exp (lg * max (((i.val : ℝ) - j.val : ℝ) : EReal) 0) else 0 := by
  pointwise [maskUnit, k0_pay8, k0_pay7, k0_pay6, k0_pay3]
  simp only [iota_sub_real]

theorem gated_at (g : Vec Ideal S1x256x512 .f32) (o : FVec Ideal S256x512 .f32) (i : Fin 256) (e : Fin 512) :
    gated g o (ix2 i e) = (Ideal.ofBits .f32 0x3F000000#32 * g (ix3 0 i e) * Ideal.tanh (Ideal.ofBits .f32 0x3F000000#32 * g (ix3 0 i e))
        + Ideal.ofBits .f32 0x3F000000#32 * g (ix3 0 i e))
      * (o (ix2 i e) * Ideal.rsqrt (Ideal.div (∑ x : Fin 512, o (ix2 i x) * o (ix2 i x)) (Ideal.ofBits .f32 0x44000000#32) + Ideal.ofBits .f32 0x358637BD#32)) := by
  pointwise [gated, k0_pay21, k0_pay20]

theorem proj_at (x1 : Vec Ideal S1x512x1024 .f32) (y : Vec Ideal S512x2048 .bf16) (w : Vec Ideal S2048x1024 .bf16) (r : Fin 512) (n : Fin 1024) :
    k0_pay1 (k0_pay103 x1) y w (ix3 0 r n) = x1 (ix3 0 r n) + ∑ k : Fin 2048, y (ix2 r k) * w (ix2 k n) := by
  pointwise [k0_pay1, k0_pay103]

theorem start_at (h : Fin 4) (d : Fin 256) (e : Fin 512) : start (F := Ideal) (ix3 h d e) = ((0 : ℝ) : EReal) := by
  pointwise [start, k0_pay2]
  exact EReal.coe_zero.symm

/-! ## Over the reals -/

/-- The rotary embedding of one position of one head: `c`, `s` the cosines and sines there, `x` the head's 256 numbers. -/
def rot (c s : Fin 128 → ℝ) (x : Fin 256 → ℝ) (d : Fin 256) : ℝ :=
  if h : d.val < 128 then x d * c ⟨d.val, h⟩ - x (hi ⟨d.val, h⟩) * s ⟨d.val, h⟩
  else x d * c ⟨d.val - 128, by omega⟩ + x (lo ⟨d.val - 128, by omega⟩) * s ⟨d.val - 128, by omega⟩

theorem rot_lo (c s : Fin 128 → ℝ) (x : Fin 256 → ℝ) (d : Fin 128) : rot c s x (lo d) = x (lo d) * c d - x (hi d) * s d := by
  rw [rot, dif_pos d.isLt]
theorem rot_hi (c s : Fin 128 → ℝ) (x : Fin 256 → ℝ) (d : Fin 128) : rot c s x (hi d) = x (hi d) * c d + x (lo d) * s d := by
  have e : (⟨(hi d).val - 128, by omega⟩ : Fin 128) = d := Fin.ext (by simp only [hi]; omega)
  rw [rot, dif_neg (by simp only [hi]; omega), e]

/-- The gate's `x · sigmoid x`. -/
def silu (x : ℝ) : ℝ := x * (1 + Real.exp (-x))⁻¹

theorem silu_half (x : ℝ) : 1 / 2 * x * Real.tanh (1 / 2 * x) + 1 / 2 * x = silu x := by
  have h := Real.exp_pos (1 / 2 * x)
  have e : Real.exp (-x) = (Real.exp (1 / 2 * x))⁻¹ * (Real.exp (1 / 2 * x))⁻¹ := by
    rw [← Real.exp_neg, ← Real.exp_add]; congr 1; ring
  rw [silu, Real.tanh_eq_sinh_div_cosh, Real.sinh_eq, Real.cosh_eq, Real.exp_neg, e]
  field_simp
  ring

/-- One number of a normalized row of a head. -/
def headNorm (o : Fin 512 → ℝ) (e : Fin 512) : ℝ := o e * (Real.sqrt ((∑ x, o x * o x) * (1 / 512) + eps))⁻¹

theorem norm_pos (o : Fin 512 → ℝ) : 0 < (∑ x, o x * o x) * (1 / 512) + eps := by
  have h : 0 ≤ ∑ x, o x * o x := Finset.sum_nonneg fun x _ => mul_self_nonneg _
  have : (0 : ℝ) < eps := by norm_num [eps]
  positivity

theorem rsqrt_pos (r : ℝ) (h : 0 < r) : Ideal.rsqrt (r : EReal) = (((Real.sqrt r)⁻¹ : ℝ) : EReal) := by
  rw [Ideal.rsqrt_coe, if_neg (by linarith), if_neg h.ne']

section
variable (cs sn : Vec Ideal S256x128 .f32) (x : Vec Ideal S1x256x256 .f32) (C S : Fin 256 → Fin 128 → ℝ) (X : Fin 256 → Fin 256 → ℝ)
  (hc : ∀ i d, cs (ix2 i d) = ((C i d : ℝ) : EReal)) (hs : ∀ i d, sn (ix2 i d) = ((S i d : ℝ) : EReal))
  (hx : ∀ i d, x (ix3 0 i d) = ((X i d : ℝ) : EReal))

include hc hs hx in
theorem rope_real (i d : Fin 256) : rope cs sn x (ix2 i d) = ((rot (C i) (S i) (X i) d : ℝ) : EReal) := by
  rcases half_cases d with ⟨e, rfl⟩ | ⟨e, rfl⟩
  · rw [rope_lo, rot_lo, hc, hs, hx, hx, ← EReal.coe_mul, ← EReal.coe_mul, ← EReal.coe_sub]
  · rw [rope_hi, rot_hi, hc, hs, hx, hx, ← EReal.coe_mul, ← EReal.coe_mul, ← EReal.coe_add]

include hc hs hx in
theorem key_real (i d : Fin 256) : key cs sn x (ix2 i d) = ((rot (C i) (S i) (X i) d * (1 / 16) : ℝ) : EReal) := by
  rcases half_cases d with ⟨e, rfl⟩ | ⟨e, rfl⟩
  · rw [key_lo, rot_lo, hc, hs, hx, hx, bits_sixteenth, ← EReal.coe_mul, ← EReal.coe_mul, ← EReal.coe_sub, ← EReal.coe_mul]
  · rw [key_hi, rot_hi, hc, hs, hx, hx, bits_sixteenth, ← EReal.coe_mul, ← EReal.coe_mul, ← EReal.coe_add, ← EReal.coe_mul]
end

/-- A head's decay mask over the reals. -/
theorem mask_real (h : Fin 4) (i j : Fin 256) :
    maskUnit (lgOf (F := Ideal) h) (ix3 0 i j) = ((if j.val ≤ i.val then Real.exp (lam h * ((i.val : ℝ) - j.val)) else 0 : ℝ) : EReal) := by
  rw [mask_at, lg_eq]
  by_cases hij : j.val ≤ i.val
  · have h0 : (0 : ℝ) ≤ (i.val : ℝ) - j.val := by
      have : (j.val : ℝ) ≤ i.val := by exact_mod_cast hij
      linarith
    have h1 : (0 : EReal) ≤ (((i.val : ℝ) - j.val : ℝ) : EReal) := by exact_mod_cast h0
    rw [if_pos h1, if_pos hij, max_eq_left h1, ← EReal.coe_mul, Ideal.exp_coe]
  · have h0 : ¬ (0 : ℝ) ≤ (i.val : ℝ) - j.val := by
      have : (i.val : ℝ) < j.val := by exact_mod_cast Nat.lt_of_not_le hij
      linarith
    have h1 : ¬ (0 : EReal) ≤ (((i.val : ℝ) - j.val : ℝ) : EReal) := fun h => h0 (by exact_mod_cast h)
    rw [if_neg h1, if_neg hij, EReal.coe_zero]

section
variable (h : Fin 4) (k : FVec Ideal S256x256 .f32) (q : FVec Ideal S256x256 .f32) (v s : Vec Ideal S1x256x512 .f32)
  (Q K : Fin 256 → Fin 256 → ℝ) (V S : Fin 256 → Fin 512 → ℝ)
  (hq : ∀ i d, q (ix2 i d) = ((Q i d : ℝ) : EReal)) (hk : ∀ i d, k (ix2 i d) = ((K i d : ℝ) : EReal))
  (hv : ∀ i e, v (ix3 0 i e) = ((V i e : ℝ) : EReal)) (hs : ∀ d e, s (ix3 0 d e) = ((S d e : ℝ) : EReal))

include hk hv hs in
theorem unitState_real (d : Fin 256) (e : Fin 512) :
    unitState (lgOf h) (cdOf h) k v s (ix3 0 d e) = ((RetSum.stepState (lam h) 256 K V S d e : ℝ) : EReal) := by
  rw [unitState_at, lg_eq, cd_eq, hs, RetSum.stepState, EReal.coe_add, EReal.coe_mul, coe_sum]
  refine congrArg _ (Finset.sum_congr rfl fun j _ => ?_)
  rw [hk, hv, bits_255, ← EReal.coe_sub, ← EReal.coe_mul, Ideal.exp_coe, ← EReal.coe_mul, ← EReal.coe_mul]
  congr 4
  push_cast
  ring

include hq hk hv hs in
theorem unitOut_real (dm : Vec Ideal S1x256x256 .f32) (hdm : ∀ i j, dm (ix3 0 i j) = maskUnit (lgOf (F := Ideal) h) (ix3 0 i j)) (i : Fin 256) (e : Fin 512) :
    unitOut (lgOf h) q k v dm s (ix2 i e) = ((RetSum.chunkOut (lam h) 256 Q K V S i e : ℝ) : EReal) := by
  rw [unitOut_at, lg_eq, RetSum.chunkOut, EReal.coe_add, EReal.coe_mul, coe_sum, coe_sum]
  congr 1
  · refine Finset.sum_congr rfl fun j _ => ?_
    rw [hdm, mask_real, hv, EReal.coe_mul, EReal.coe_mul, coe_sum]
    simp only [hq, hk, EReal.coe_mul]
  · rw [← EReal.coe_one, ← EReal.coe_add, ← EReal.coe_mul, Ideal.exp_coe]
    simp only [hq, hs, EReal.coe_mul]
end

theorem gated_real (g : Vec Ideal S1x256x512 .f32) (o : FVec Ideal S256x512 .f32) (G : ℝ) (O : Fin 512 → ℝ) (i : Fin 256) (e : Fin 512)
    (hg : g (ix3 0 i e) = ((G : ℝ) : EReal)) (ho : ∀ e, o (ix2 i e) = ((O e : ℝ) : EReal)) :
    gated g o (ix2 i e) = ((silu G * headNorm O e : ℝ) : EReal) := by
  rw [gated_at, hg, bits_half, bits_512, bits_eps, ← EReal.coe_mul, Ideal.tanh_coe, ← EReal.coe_mul, ← EReal.coe_add, silu_half]
  simp only [ho, ← EReal.coe_mul, ← coe_sum]
  rw [Ideal.div_coe (by norm_num), ← EReal.coe_mul, ← EReal.coe_add, rsqrt_pos _ (norm_pos O), ← EReal.coe_mul, ← EReal.coe_mul, headNorm]

end Cert.Proof.Retention

end
-- ==== Proof.RetSpec.lean ====
/- The retention layer's core as one closed form: rotary queries and keys, every output the decayed sum over all positions
   before it, each head normalised, gated and projected, the residual added. Both programs are read as this function. -/
module

public import proofs.«01_k».proof.Proof.RetRead

@[expose] public section

noncomputable section

namespace Cert.Proof.Retention

open Cert.RetentionIdeal Cert.RetentionIdeal.Gen Idealize.ShloMosaic Idealize.ShloMosaic.TcCoe

/-- The rotary angle of position `n` at frequency `d`. -/
def angle (n : ℕ) (d : Fin 128) : ℝ := (n : ℝ) * (10000 : ℝ).rpow (-(2 * (d.val : ℝ)) * (1 / 256))
/-- Its cosine. -/
def cosT (n : ℕ) (d : Fin 128) : ℝ := Real.cos (angle n d)
/-- Its sine. -/
def sinT (n : ℕ) (d : Fin 128) : ℝ := Real.sin (angle n d)

theorem bits_2 : Ideal.ofBits .f32 0x40000000#32 = ((2 : ℝ) : EReal) := by
  simp [Ideal.ofBits, Ideal.ieee]; norm_num [← EReal.coe_mul]
theorem bits_256 : Ideal.ofBits .f32 0x43800000#32 = ((256 : ℝ) : EReal) := by
  simp [Ideal.ofBits, Ideal.ieee]; norm_num [← EReal.coe_mul]
theorem bits_10000 : Ideal.ofBits .f32 0x461C4000#32 = ((10000 : ℝ) : EReal) := by
  simp [Ideal.ofBits, Ideal.ieee]; norm_num [← EReal.coe_mul]

theorem sitofp_small (n : ℕ) (h : n < 4096) : FloatOps.sitofp (F := Ideal) .f32 (BitVec.ofNat 32 n) = ((n : ℝ) : EReal) := by
  show (((BitVec.ofNat 32 n).toInt : ℝ) : EReal) = _
  have e : (BitVec.ofNat 32 n).toInt = (n : ℤ) := by
    have h' : n % 2 ^ 32 = n := Nat.mod_eq_of_lt (by omega)
    simp only [BitVec.toInt, BitVec.toNat_ofNat, h']
    rw [if_pos (by omega)]
  rw [e]
  norm_num

/-- The angle as the tables compute it. -/
theorem angle_eq (r : Fin 4096) (d : Fin 128) : FloatOps.sitofp (F := Ideal) .f32 (BitVec.ofNat 32 r.val) *
        Ideal.pow (Ideal.ofBits FTy.f32 1176256512#32)
          (Ideal.div (-(Ideal.ofBits FTy.f32 1073741824#32 * FloatOps.sitofp (F := Ideal) .f32 (BitVec.ofNat 32 d.val)))
            (Ideal.ofBits FTy.f32 1132462080#32)) = ((angle r.val d : ℝ) : EReal) := by
  rw [sitofp_small r.val (by omega), sitofp_small d.val (by omega), bits_2, bits_256, bits_10000, ← EReal.coe_mul, ← EReal.coe_neg,
    Ideal.div_coe (by norm_num), ← EReal.coe_mul, Ideal.pow_coe_coe, ← EReal.coe_mul]
  rfl

section
variable (Z : ℕ → Fin 6144 → ℝ) (h : Fin 4)

/-- A head's rotated queries, from one sequence's projections. -/
def qR (n : ℕ) (d : Fin 256) : ℝ := rot (cosT n) (sinT n) (fun d => Z n ⟨256 * h.val + d.val, by omega⟩) d
/-- A head's rotated and scaled keys. -/
def kR (n : ℕ) (d : Fin 256) : ℝ := rot (cosT n) (sinT n) (fun d => Z n ⟨1024 + 256 * h.val + d.val, by omega⟩) d * (1 / 16)
/-- A head's values. -/
def vR (n : ℕ) (e : Fin 512) : ℝ := Z n ⟨2048 + 512 * h.val + e.val, by omega⟩
/-- A head's gates. -/
def gR (n : ℕ) (e : Fin 512) : ℝ := Z n ⟨4096 + 512 * h.val + e.val, by omega⟩
/-- A head's retention at position `n`. -/
def oR (n : ℕ) (e : Fin 512) : ℝ := RetSum.direct (lam h) (qR Z h) (kR Z h) (vR Z h) n e
/-- Normalised and gated. -/
def yR (n : ℕ) (e : Fin 512) : ℝ := silu (gR Z h n e) * headNorm (oR Z h n) e
end

/-- One sequence's projections as real numbers. -/
def seqOf (z : S4x4096x6144.Idx → EReal) (b : Fin 4) (n : ℕ) (j : Fin 6144) : ℝ := (z (ix3 b (Fin.ofNat 4096 n) j)).toReal

/-- The head a column of the gated rows belongs to. -/
def headOf (k : Fin 2048) : Fin 4 := ⟨k.val / 512, by omega⟩
/-- Its place in the head. -/
def restOf (k : Fin 2048) : Fin 512 := ⟨k.val % 512, by omega⟩

theorem col_of (k : Fin 2048) : colIx (headOf k) (restOf k) = k := Fin.ext (by simp only [colIx, headOf, restOf]; omega)

/-- The layer's core. -/
def layer (z : S4x4096x6144.Idx → EReal) (h : S4x4096x1024.Idx → EReal) (w : S2048x1024.Idx → EReal) : S4x4096x1024.Idx → EReal :=
  fun i => h i + ∑ k : Fin 2048, ((yR (seqOf z (i 0)) (headOf k) (i 1).val (restOf k) : ℝ) : EReal) * w (ix2 k (i 2))

theorem seq_eq (z : S4x4096x6144.Idx → EReal) (hz : ∀ i, z i ≠ ⊤ ∧ z i ≠ ⊥) (b : Fin 4) (n : Fin 4096) (j : Fin 6144) :
    z (ix3 b n j) = ((seqOf z b n.val j : ℝ) : EReal) := by
  have e : Fin.ofNat 4096 n.val = n := Fin.ext (Nat.mod_eq_of_lt n.isLt)
  rw [seqOf, e, EReal.coe_toReal (hz _).1 (hz _).2]

end Cert.Proof.Retention

end
-- ==== Proof.RetFold.lean ====
/- The state the retention kernel carries from one grid point to the next, and the rows a point gates, over real blocks. -/
module

public import proofs.«01_k».proof.Proof.RetSpec

@[expose] public section

noncomputable section

namespace Cert.Proof.Retention

open Cert.RetentionIdeal Cert.RetentionIdeal.Gen Idealize.ShloMosaic Idealize.ShloMosaic.TcCoe

section
variable {F : FTy → Type} [FloatOps F] [Named F]

theorem tabB_at (x : Vec F S512x128 .f32) (p : Fin 2) (i : Fin 256) (d : Fin 128) : tabB x p (ix2 i d) = x (ix2 (rowIx p i) d) := by
  refine congrArg x (funext fun a => Fin.ext ?_)
  match a with
  | ⟨0, _⟩ => show 256 * p.val + 1 * i.val = 256 * p.val + i.val; omega
  | ⟨1, _⟩ => show 0 + 1 * d.val = d.val; omega
theorem qB_at (x : Vec F S1x512x6144 .f32) (p : Fin 2) (h : Fin 4) (i d : Fin 256) :
    qB x p h (ix3 0 i d) = x (ix3 0 (rowIx p i) ⟨256 * h.val + d.val, by omega⟩) := by
  refine congrArg x (funext fun a => Fin.ext ?_)
  match a with
  | ⟨0, _⟩ => rfl
  | ⟨1, _⟩ => show 256 * p.val + 1 * i.val = 256 * p.val + i.val; omega
  | ⟨2, _⟩ => show 256 * h.val + 1 * d.val = 256 * h.val + d.val; omega
theorem kB_at (x : Vec F S1x512x6144 .f32) (p : Fin 2) (h : Fin 4) (i d : Fin 256) :
    kB x p h (ix3 0 i d) = x (ix3 0 (rowIx p i) ⟨1024 + 256 * h.val + d.val, by omega⟩) := by
  refine congrArg x (funext fun a => Fin.ext ?_)
  match a with
  | ⟨0, _⟩ => rfl
  | ⟨1, _⟩ => show 256 * p.val + 1 * i.val = 256 * p.val + i.val; omega
  | ⟨2, _⟩ => show 1024 + 256 * h.val + 1 * d.val = 1024 + 256 * h.val + d.val; omega
theorem vB_at (x : Vec F S1x512x6144 .f32) (p : Fin 2) (h : Fin 4) (i : Fin 256) (e : Fin 512) :
    vB x p h (ix3 0 i e) = x (ix3 0 (rowIx p i) ⟨2048 + 512 * h.val + e.val, by omega⟩) := by
  refine congrArg x (funext fun a => Fin.ext ?_)
  match a with
  | ⟨0, _⟩ => rfl
  | ⟨1, _⟩ => show 256 * p.val + 1 * i.val = 256 * p.val + i.val; omega
  | ⟨2, _⟩ => show 2048 + 512 * h.val + 1 * e.val = 2048 + 512 * h.val + e.val; omega
theorem gB_at (x : Vec F S1x512x6144 .f32) (p : Fin 2) (h : Fin 4) (i : Fin 256) (e : Fin 512) :
    gB x p h (ix3 0 i e) = x (ix3 0 (rowIx p i) ⟨4096 + 512 * h.val + e.val, by omega⟩) := by
  refine congrArg x (funext fun a => Fin.ext ?_)
  match a with
  | ⟨0, _⟩ => rfl
  | ⟨1, _⟩ => show 256 * p.val + 1 * i.val = 256 * p.val + i.val; omega
  | ⟨2, _⟩ => show 4096 + 512 * h.val + 1 * e.val = 4096 + 512 * h.val + e.val; omega
theorem sB_at (s : Vec F S4x256x512 .f32) (h : Fin 4) (d : Fin 256) (e : Fin 512) : sB s h (ix3 0 d e) = s (ix3 h d e) := by
  refine congrArg s (funext fun a => Fin.ext ?_)
  match a with
  | ⟨0, _⟩ => show h.val + 1 * 0 = h.val; omega
  | ⟨1, _⟩ => show 0 + 1 * d.val = d.val; omega
  | ⟨2, _⟩ => show 0 + 1 * e.val = e.val; omega
theorem mB_at (x : Vec F S4x256x256 .f32) (h : Fin 4) (i j : Fin 256) : mB x h (ix3 0 i j) = x (ix3 h i j) := by
  refine congrArg x (funext fun a => Fin.ext ?_)
  match a with
  | ⟨0, _⟩ => show h.val + 1 * 0 = h.val; omega
  | ⟨1, _⟩ => show 0 + 1 * i.val = i.val; omega
  | ⟨2, _⟩ => show 0 + 1 * j.val = j.val; omega
end

/-- What the carried state holds after `n` chunks of a sequence. -/
def Holds (Z : ℕ → Fin 6144 → ℝ) (n : ℕ) (s : Vec Ideal S4x256x512 .f32) : Prop :=
  ∀ (h : Fin 4) (d : Fin 256) (e : Fin 512), s (ix3 h d e) = ((RetSum.state (lam h) (kR Z h) (vR Z h) 256 n d e : ℝ) : EReal)

theorem holds_start (Z : ℕ → Fin 6144 → ℝ) : Holds Z 0 start := fun h d e => start_at h d e

section
variable (Z : ℕ → Fin 6144 → ℝ) (T : ℕ) (x0 : Vec Ideal S1x512x6144 .f32) (x2 x3 : Vec Ideal S512x128 .f32)
  (h0 : ∀ r j, x0 (ix3 0 r j) = ((Z (512 * T + r.val) j : ℝ) : EReal))
  (h2 : ∀ r d, x2 (ix2 r d) = ((cosT (512 * T + r.val) d : ℝ) : EReal))
  (h3 : ∀ r d, x3 (ix2 r d) = ((sinT (512 * T + r.val) d : ℝ) : EReal)) (p : Fin 2) (h : Fin 4)

theorem row_eq (i : Fin 256) : 512 * T + (rowIx p i).val = 256 * (2 * T + p.val) + i.val := by simp only [rowIx]; omega

include h0 h2 h3 in
theorem keys_real (i d : Fin 256) : key (tabB x2 p) (tabB x3 p) (kB x0 p h) (ix2 i d) = ((RetSum.chunk 256 (kR Z h) (2 * T + p.val) i d : ℝ) : EReal) :=
  key_real _ _ _ (fun i => cosT (256 * (2 * T + p.val) + i.val)) (fun i => sinT (256 * (2 * T + p.val) + i.val))
    (fun i d => Z (256 * (2 * T + p.val) + i.val) ⟨1024 + 256 * h.val + d.val, by omega⟩)
    (fun i d => by rw [tabB_at, h2, row_eq]) (fun i d => by rw [tabB_at, h3, row_eq]) (fun i d => by rw [kB_at, h0, row_eq]) i d

include h0 h2 h3 in
theorem queries_real (i d : Fin 256) : rope (tabB x2 p) (tabB x3 p) (qB x0 p h) (ix2 i d) = ((RetSum.chunk 256 (qR Z h) (2 * T + p.val) i d : ℝ) : EReal) :=
  rope_real _ _ _ (fun i => cosT (256 * (2 * T + p.val) + i.val)) (fun i => sinT (256 * (2 * T + p.val) + i.val))
    (fun i d => Z (256 * (2 * T + p.val) + i.val) ⟨256 * h.val + d.val, by omega⟩)
    (fun i d => by rw [tabB_at, h2, row_eq]) (fun i d => by rw [tabB_at, h3, row_eq]) (fun i d => by rw [qB_at, h0, row_eq]) i d

include h0 in
theorem values_real (i : Fin 256) (e : Fin 512) : vB x0 p h (ix3 0 i e) = ((RetSum.chunk 256 (vR Z h) (2 * T + p.val) i e : ℝ) : EReal) := by
  rw [vB_at, h0, row_eq]; rfl

include h0 h2 h3 in
/-- A chunk moves the state on. -/
theorem holds_after (s : Vec Ideal S4x256x512 .f32) (hs : Holds Z (2 * T + p.val) s) : Holds Z (2 * T + p.val + 1) (after x0 x2 x3 p s) := fun h d e =>
  unitState_real h _ _ _ _ _ _ (keys_real Z T x0 x2 x3 h0 h2 h3 p h) (values_real Z T x0 h0 p h) (fun d e => (sB_at s h d e).trans (hs h d e)) d e

include h0 h2 h3 in
/-- A unit's gated output over the reals. -/
theorem gatedAt_real (dm : Vec Ideal S4x256x256 .f32) (hdm : dm = masks) (s : Vec Ideal S4x256x512 .f32) (hs : Holds Z (2 * T + p.val) s)
    (i : Fin 256) (e : Fin 512) :
    gatedAt x0 x2 x3 (mB dm h) p h (sB s h) (ix2 i e) = ((yR Z h (256 * (2 * T + p.val) + i.val) e : ℝ) : EReal) := by
  refine gated_real _ _ (gR Z h (256 * (2 * T + p.val) + i.val) e) (oR Z h (256 * (2 * T + p.val) + i.val)) i e ?_ fun e => ?_
  · rw [gB_at, h0, row_eq]; rfl
  · rw [oR, ← RetSum.chunkOut_eq]
    exact unitOut_real h _ _ _ _ _ _ _ _ (queries_real Z T x0 x2 x3 h0 h2 h3 p h) (keys_real Z T x0 x2 x3 h0 h2 h3 p h) (values_real Z T x0 h0 p h)
      (fun d e => (sB_at s h d e).trans (hs h d e)) _ (fun i j => by rw [mB_at, hdm]; rfl) i e

include h0 h2 h3 in
/-- A point's gated rows over the reals. -/
theorem rows_real (s : Vec Ideal S4x256x512 .f32) (hs : Holds Z (2 * T) s) (r : Fin 512) (k : Fin 2048) :
    rows x0 x2 x3 masks s (ix2 r k) = ((yR Z (headOf k) (512 * T + r.val) (restOf k) : ℝ) : EReal) := by
  conv_lhs => rw [← col_of k]
  by_cases hr : r.val < 256
  · obtain ⟨i, rfl⟩ : ∃ i : Fin 256, r = rowIx 0 i := ⟨⟨r.val, hr⟩, Fin.ext (by simp [rowIx])⟩
    rw [rows_zero, gatedAt_real Z T x0 x2 x3 h0 h2 h3 0 _ _ rfl s hs, row_eq]
  · obtain ⟨i, rfl⟩ : ∃ i : Fin 256, r = rowIx 1 i := ⟨⟨r.val - 256, by omega⟩, Fin.ext (show r.val = 256 * 1 + (r.val - 256) by omega)⟩
    rw [rows_one, gatedAt_real Z T x0 x2 x3 h0 h2 h3 1 _ _ rfl _ (holds_after Z T x0 x2 x3 h0 h2 h3 0 s hs), row_eq]

end

end Cert.Proof.Retention

end
-- ==== Proof.RetBlock.lean ====
/- The retention kernel's blocks and its result array: every index of the array is the layer's closed form. -/
module

public import proofs.«01_k».proof.Proof.RetFold
public import proofs.«01_k».proof.Proof.RetCaseB
public import proofs.«01_k».proof.Proof.Gen.RetentionIdeal.Value
public import Idealize.ShloMosaic.Lib.StableHlo.ReadAt

@[expose] public section

noncomputable section

namespace Cert.Proof.Retention

open Cert.RetentionIdeal Cert.RetentionIdeal.Gen Cert.RetentionIdeal.Value Idealize.ShloMosaic Idealize.ShloMosaic.TcCoe
open Idealize.SL.Sem

variable (m : (ℓ : Loc nD τ sig) → Buf (Elt Ideal) ℓ)

/-! ## What the tables hold -/

theorem cos_at (c : Dev nD) (r : Fin 4096) (d : Fin 128) : (V m c main_v16 : S4096x128.Idx → EReal) (ix2 r d) = ((cosT r.val d : ℝ) : EReal) := by
  unfold V
  after_reads_at
  rw [angle_eq, Ideal.cos_coe]
  rfl

theorem sin_at (c : Dev nD) (r : Fin 4096) (d : Fin 128) : (V m c main_v17 : S4096x128.Idx → EReal) (ix2 r d) = ((sinT r.val d : ℝ) : EReal) := by
  unfold V
  after_reads_at
  rw [angle_eq, Ideal.sin_coe]
  rfl

theorem weight_at (c : Dev nD) (k : Fin 2048) (j : Fin 1024) :
    (V m c main_v18 : S2048x1024.Idx → EReal) (ix2 k j) = (m ((c : Thread nD τ).loc main_arg2) : S2048x1024.Idx → EReal) (ix2 k j) := by
  unfold V
  after_reads_at

/-! ## What a point's blocks hold -/

/-- Point `t` works on sequence `t / 8`, positions `512 (t % 8)` on. -/
theorem index_facts : ∀ t : Fin cfg0.N, (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 2) = t.val % 8 ∧ win0_2.index t (1 : Fin 2) = 0)
    ∧ (win0_3.index t (0 : Fin 2) = t.val % 8 ∧ win0_3.index t (1 : Fin 2) = 0)
    ∧ (win0_4.index t (0 : Fin 2) = 0 ∧ win0_4.index t (1 : Fin 2) = 0)
    ∧ (win0_5.index t (0 : Fin 3) = t.val / 8 ∧ win0_5.index t (1 : Fin 3) = t.val % 8 ∧ win0_5.index t (2 : Fin 3) = 0) :=
  (by decide +kernel : ∀ t : Fin grid0.N, _)

/-- The projections, the residual and the weights a program is given. -/
abbrev zOf (c : Dev nD) : S4x4096x6144.Idx → EReal := m ((c : Thread nD τ).loc main_arg0)
abbrev hOf (c : Dev nD) : S4x4096x1024.Idx → EReal := m ((c : Thread nD τ).loc main_arg1)
abbrev wOf (c : Dev nD) : S2048x1024.Idx → EReal := m ((c : Thread nD τ).loc main_arg2)

/-- The sequence a point works on. -/
def batchOf (t : Fin cfg0.N) : Fin 4 := ⟨t.val / 8, by have := lt_of_lt_of_eq t.isLt N_0; omega⟩

/-- Where row `a` of point `t`'s blocks lies in its sequence. -/
def rowOfPt (t : Fin cfg0.N) (a : Fin 512) : Fin 4096 := ⟨512 * (t.val % 8) + a.val, by omega⟩

theorem iblk0_at (c : Dev nD) (t : Fin cfg0.N) (a : Fin 512) (j : Fin 6144) :
    (iblk m c 0 t : S1x512x6144.Idx → EReal) (ix3 0 a j) = zOf m c (ix3 (batchOf t) (rowOfPt t a) j) := by
  unfold zOf
  rw [← V_main_arg0 m c]
  show (V m c main_arg0 : S4x4096x6144.Idx → EReal) (((cfg0.win 0).blk t).view.emb (ix3 0 a j)) = _
  congr 1
  have e := index_facts t
  funext x; apply Fin.ext
  match x with
  | ⟨0, _⟩ => show win0_0.index t (0 : Fin 3) * 1 + 1 * 0 = t.val / 8; omega
  | ⟨1, _⟩ => show win0_0.index t (1 : Fin 3) * 512 + 1 * a.val = 512 * (t.val % 8) + a.val; omega
  | ⟨2, _⟩ => show win0_0.index t (2 : Fin 3) * 6144 + 1 * j.val = j.val; omega

theorem iblk1_at (c : Dev nD) (t : Fin cfg0.N) (a : Fin 512) (j : Fin 1024) :
    (iblk m c 1 t : S1x512x1024.Idx → EReal) (ix3 0 a j) = hOf m c (ix3 (batchOf t) (rowOfPt t a) j) := by
  unfold hOf
  rw [← V_main_arg1 m c]
  show (V m c main_arg1 : S4x4096x1024.Idx → EReal) (((cfg0.win 1).blk t).view.emb (ix3 0 a j)) = _
  congr 1
  have e := index_facts t
  funext x; apply Fin.ext
  match x with
  | ⟨0, _⟩ => show win0_1.index t (0 : Fin 3) * 1 + 1 * 0 = t.val / 8; omega
  | ⟨1, _⟩ => show win0_1.index t (1 : Fin 3) * 512 + 1 * a.val = 512 * (t.val % 8) + a.val; omega
  | ⟨2, _⟩ => show win0_1.index t (2 : Fin 3) * 1024 + 1 * j.val = j.val; omega

theorem iblk2_at (c : Dev nD) (t : Fin cfg0.N) (a : Fin 512) (d : Fin 128) :
    (iblk m c 2 t : S512x128.Idx → EReal) (ix2 a d) = ((cosT (512 * (t.val % 8) + a.val) d : ℝ) : EReal) := by
  refine Eq.trans ?_ (cos_at m c (rowOfPt t a) d)
  show (V m c main_v16 : S4096x128.Idx → EReal) (((cfg0.win 2).blk t).view.emb (ix2 a d)) = _
  congr 1
  have e := index_facts t
  funext x; apply Fin.ext
  match x with
  | ⟨0, _⟩ => show win0_2.index t (0 : Fin 2) * 512 + 1 * a.val = 512 * (t.val % 8) + a.val; omega
  | ⟨1, _⟩ => show win0_2.index t (1 : Fin 2) * 128 + 1 * d.val = d.val; omega

theorem iblk3_at (c : Dev nD) (t : Fin cfg0.N) (a : Fin 512) (d : Fin 128) :
    (iblk m c 3 t : S512x128.Idx → EReal) (ix2 a d) = ((sinT (512 * (t.val % 8) + a.val) d : ℝ) : EReal) := by
  refine Eq.trans ?_ (sin_at m c (rowOfPt t a) d)
  show (V m c main_v17 : S4096x128.Idx → EReal) (((cfg0.win 3).blk t).view.emb (ix2 a d)) = _
  congr 1
  have e := index_facts t
  funext x; apply Fin.ext
  match x with
  | ⟨0, _⟩ => show win0_3.index t (0 : Fin 2) * 512 + 1 * a.val = 512 * (t.val % 8) + a.val; omega
  | ⟨1, _⟩ => show win0_3.index t (1 : Fin 2) * 128 + 1 * d.val = d.val; omega

theorem iblk4_at (c : Dev nD) (t : Fin cfg0.N) (k : Fin 2048) (j : Fin 1024) :
    (iblk m c 4 t : S2048x1024.Idx → EReal) (ix2 k j) = wOf m c (ix2 k j) := by
  refine Eq.trans ?_ (weight_at m c k j)
  show (V m c main_v18 : S2048x1024.Idx → EReal) (((cfg0.win 4).blk t).view.emb (ix2 k j)) = _
  congr 1
  have e := index_facts t
  funext x; apply Fin.ext
  match x with
  | ⟨0, _⟩ => show win0_4.index t (0 : Fin 2) * 2048 + 1 * k.val = k.val; omega
  | ⟨1, _⟩ => show win0_4.index t (1 : Fin 2) * 1024 + 1 * j.val = j.val; omega

/-! ## The state over the points -/

variable (hz : ∀ (c : Dev nD) i, zOf m c i ≠ ⊤ ∧ zOf m c i ≠ ⊥)

include hz in
theorem block_z (c : Dev nD) (t : Fin cfg0.N) (r : Fin 512) (j : Fin 6144) : (iblk m c 0 t : S1x512x6144.Idx → EReal) (ix3 0 r j)
    = ((seqOf (zOf m c) (batchOf t) (512 * (t.val % 8) + r.val) j : ℝ) : EReal) := by
  rw [iblk0_at, seq_eq _ (hz c)]; rfl

include hz in
/-- After a point: the state of its sequence after the chunks so far, and the decay masks. -/
theorem carried (c : Dev nD) : ∀ (n : ℕ) (hn : n < cfg0.N), Holds (seqOf (zOf m c) (batchOf ⟨n, hn⟩)) (2 * (n % 8) + 2) (outsAt0 m c n hn).2.1
    ∧ (outsAt0 m c n hn).2.2 = masks := by
  intro n
  induction n with
  | zero =>
    intro hn
    have ha : (⟨0, hn⟩ : Fin cfg0.N).val % 8 = 0 := rfl
    rw [outsAt0_A m c ⟨0, hn⟩ ha]
    dsimp only
    rw [state_A, masks_A]
    refine ⟨?_, rfl⟩
    have hb := block_z m hz c ⟨0, hn⟩
    exact holds_after _ 0 _ _ _ hb (iblk2_at m c ⟨0, hn⟩) (iblk3_at m c ⟨0, hn⟩) 1 _
      (holds_after _ 0 _ _ _ hb (iblk2_at m c ⟨0, hn⟩) (iblk3_at m c ⟨0, hn⟩) 0 _ (holds_start _))
  | succ n ih =>
    intro hn
    have hb := block_z m hz c ⟨n + 1, hn⟩
    have e2 := iblk2_at m c ⟨n + 1, hn⟩
    have e3 := iblk3_at m c ⟨n + 1, hn⟩
    by_cases h0 : (n + 1) % 8 = 0
    · rw [outsAt0_A m c ⟨n + 1, hn⟩ h0]
      dsimp only at hb e2 e3 ⊢
      rw [state_A, masks_A]
      refine ⟨?_, rfl⟩
      rw [h0] at hb e2 e3 ⊢
      exact holds_after _ 0 _ _ _ hb e2 e3 1 _ (holds_after _ 0 _ _ _ hb e2 e3 0 _ (holds_start _))
    · obtain ⟨i1, i2⟩ := ih (Nat.lt_of_succ_lt hn)
      rw [outsAt0_B m c ⟨n + 1, hn⟩ h0]
      refine ⟨?_, i2⟩
      dsimp only at hb e2 e3 ⊢
      rw [state_B]
      have hq : batchOf ⟨n, Nat.lt_of_succ_lt hn⟩ = batchOf ⟨n + 1, hn⟩ := Fin.ext (show n / 8 = (n + 1) / 8 by omega)
      have hm : 2 * (n % 8) + 2 = 2 * ((n + 1) % 8) + (0 : Fin 2).val := by show _ = 2 * ((n + 1) % 8) + 0; omega
      rw [hq, hm] at i1
      exact holds_after _ _ _ _ _ hb e2 e3 1 _ (holds_after _ _ _ _ _ hb e2 e3 0 _ i1)

include hz in
/-- The block a point writes back. -/
theorem out_at (c : Dev nD) (t : Fin cfg0.N) (r : Fin 512) (j : Fin 1024) :
    (outsAt0 m c t.val t.isLt).1 (ix3 0 r j) = layer (zOf m c) (hOf m c) (wOf m c) (ix3 (batchOf t) (rowOfPt t r) j) := by
  have hb := block_z m hz c t
  have e2 := iblk2_at m c t
  have e3 := iblk3_at m c t
  obtain ⟨s, hs, e⟩ : ∃ s, Holds (seqOf (zOf m c) (batchOf t)) (2 * (t.val % 8)) s
      ∧ (outsAt0 m c t.val t.isLt).1 = k0_pay1 (k0_pay103 (iblk m c 1 t)) (rows (iblk m c 0 t) (iblk m c 2 t) (iblk m c 3 t) masks s) (iblk m c 4 t) := by
    by_cases h0 : t.val % 8 = 0
    · refine ⟨start, ?_, ?_⟩
      · rw [h0]; exact holds_start _
      · rw [outsAt0_A m c t h0]
        dsimp only
        rw [out_A]
    · have hp : t.val - 1 < cfg0.N := Nat.lt_of_le_of_lt (Nat.sub_le _ _) t.isLt
      obtain ⟨i1, i2⟩ := carried m hz c (t.val - 1) hp
      refine ⟨(outsAt0 m c (t.val - 1) hp).2.1, ?_, ?_⟩
      · have hq : batchOf ⟨t.val - 1, hp⟩ = batchOf t := Fin.ext (show (t.val - 1) / 8 = t.val / 8 by omega)
        have hm : 2 * ((t.val - 1) % 8) + 2 = 2 * (t.val % 8) := by omega
        rwa [hq, hm] at i1
      · rw [outsAt0_B m c t h0]
        dsimp only
        rw [out_B, i2]
  rw [e, proj_at, iblk1_at]
  refine congrArg _ (Finset.sum_congr rfl fun k _ => ?_)
  rw [iblk4_at, rows_real _ _ _ _ _ hb e2 e3 s hs]
  rfl

include hz in
/-- The kernel's result array. -/
theorem result_at (c : Dev nD) : (dats m 0 c).arrAt 5 cfg0.N = layer (zOf m c) (hOf m c) (wOf m c) := by
  refine (dats m 0 c).arrAt_eq_of_cover 5 _ (fun t hf => ?_) (fun i => (covered_iff5 i).2 (by
    have h0 : (i 0).val < 4 := (i 0).isLt; have h1 : (i 1).val < 4096 := (i 1).isLt; have h2 : (i 2).val < 1024 := (i 2).isLt; omega))
  rw [flushed5]
  funext y
  obtain ⟨a, r, j, rfl⟩ : ∃ (a : Fin 1) (r : Fin 512) (j : Fin 1024), y = ix3 a r j := ⟨y 0, y 1, y 2, eq_ix3 y⟩
  obtain rfl : a = 0 := Subsingleton.elim _ _
  refine (out_at m hz c t r j).trans ?_
  have e := index_facts t
  show layer _ _ _ _ = layer _ _ _ (((cfg0.win 5).blk t).view.emb (ix3 0 r j))
  congr 1
  funext x; apply Fin.ext
  match x with
  | ⟨0, _⟩ => show t.val / 8 = win0_5.index t (0 : Fin 3) * 1 + 1 * 0; omega
  | ⟨1, _⟩ => show 512 * (t.val % 8) + r.val = win0_5.index t (1 : Fin 3) * 512 + 1 * r.val; omega
  | ⟨2, _⟩ => show j.val = win0_5.index t (2 : Fin 3) * 1024 + 1 * j.val; omega

end Cert.Proof.Retention

end
-- ==== Proof.RetRefLoop.lean ====
/- The retention reference's loop: one trip read element by element. -/
module

public import proofs.«01_k».proof.Proof.RetSpec
public import proofs.«01_k».proof.Proof.Gen.RetentionRefIdeal.Run
public import Idealize.ShloMosaic.Lib.DynamicIndex
public import Idealize.ShloMosaic.Lib.Pipeline.Value
public import Idealize.ShloMosaic.Lib.Pointwise

@[expose] public section

set_option maxRecDepth 8192

noncomputable section

namespace Cert.Proof.RetentionRef

open Cert.RetentionRefIdeal Cert.RetentionRefIdeal.Gen Cert.RetentionRefIdeal.Value Idealize.ShloMosaic Idealize.ShloMosaic.TcCoe
open Idealize.SL.Sem

variable (V0 : Valuation τ sig (Elt Ideal))

/-! ## The buffers a trip reads -/

/-- The queries, cut in chunks. -/
abbrev qC : S64x4x64x4x256.Idx → EReal := V0 (Proc.devRef .tc main_v113_0)
/-- The keys, cut in chunks. -/
abbrev kC : S64x4x64x4x256.Idx → EReal := V0 (Proc.devRef .tc main_v113_1)
/-- The values, cut in chunks. -/
abbrev vC : S64x4x64x4x512.Idx → EReal := V0 (Proc.devRef .tc main_v113_2)
/-- The decay mask. -/
abbrev mC : S4x64x64.Idx → EReal := V0 (Proc.devRef .tc main_v113_3)
/-- The decay of the entering state. -/
abbrev iC : S1x64x4x1.Idx → EReal := V0 (Proc.devRef .tc main_v113_4)
/-- The decay over a chunk. -/
abbrev cC : S1x4x1x1.Idx → EReal := V0 (Proc.devRef .tc main_v113_5)
/-- The decay to a chunk's end. -/
abbrev dC : S1x64x4x1.Idx → EReal := V0 (Proc.devRef .tc main_v113_6)
/-- The state. -/
abbrev sC : S4x4x256x512.Idx → EReal := V0 (Proc.devRef .tc main_v113_8)
/-- The outputs. -/
abbrev oC : S64x4x64x4x512.Idx → EReal := V0 (Proc.devRef .tc main_v113_9)

variable (n : ℕ) (hn : n < 64) (hc : V0 (Proc.devRef .tc main_v113_7) = fun _ => BitVec.ofNat 32 n)

/-- The start of a slice at the trip's chunk. -/
abbrev startAt : Fin 5 → ℤ := fun k => (((![V0 (Proc.devRef .tc main_v113_7), constantI S_ 32 0#32, constantI S_ 32 0#32, constantI S_ 32 0#32, constantI S_ 32 0#32] : Fin 5 → (⟨S_, .i32⟩ : BufTy).Contents (Elt Ideal))) k (Shape.Idx.first h_S_)).toInt

include hn hc in
theorem startAt_eq (a : Fin 5) : startAt V0 a = ((![n, 0, 0, 0, 0] : Fin 5 → ℕ) a : ℤ) := by
  match a with
  | 0 =>
    show (V0 (Proc.devRef .tc main_v113_7) (Shape.Idx.first h_S_) : BitVec 32).toInt = (n : ℤ)
    rw [hc]
    exact toInt_ofNat_of_lt (by omega)
  | 1 => rfl
  | 2 => rfl
  | 3 => rfl
  | 4 => rfl

theorem slice_fits (n : ℕ) (hn : n < 64) (w : ℕ) : (⟨5, ![64, 4, 64, 4, w]⟩ : Shape).Slices ![n, 0, 0, 0, 0] ⟨5, ![1, 4, 64, 4, w]⟩ :=
  ⟨rfl, fun a => by
    match a with
    | 0 => show n + 1 ≤ 64; omega
    | 1 => exact le_refl 4
    | 2 => exact le_refl 64
    | 3 => exact le_refl 4
    | 4 => show 0 + w ≤ w; omega⟩

/-- A chunk of queries or keys, sliced out. -/
theorem slice256 (hn : n < 64) (x : S64x4x64x4x256.Idx → EReal) (start : Fin 5 → ℤ) (hs : ∀ a, start a = ((![n, 0, 0, 0, 0] : Fin 5 → ℕ) a : ℤ))
    (b : Fin 4) (i : Fin 64) (h : Fin 4) (d : Fin 256) :
    shapeCast S4x64x4x256 (Host.dynamicSlice S1x4x64x4x256 x start sliceFits_S64x4x64x4x256_S1x4x64x4x256) shapeCasts_S1x4x64x4x256_S4x64x4x256 (ix4 b i h d)
      = x (ix5 ⟨n, hn⟩ b i h d) := by
  have e : Host.dynamicSlice S1x4x64x4x256 x start sliceFits_S64x4x64x4x256_S1x4x64x4x256 = extractStridedSlice S1x4x64x4x256 ![n, 0, 0, 0, 0] x (slice_fits n hn 256) :=
    Host.dynamicSlice_eq_extractStridedSlice (s := S64x4x64x4x256) _ x start ![n, 0, 0, 0, 0] _ (slice_fits n hn 256) hs
  rw [e]
  pointwise []

/-- A chunk of values, sliced out. -/
theorem slice512 (hn : n < 64) (x : S64x4x64x4x512.Idx → EReal) (start : Fin 5 → ℤ) (hs : ∀ a, start a = ((![n, 0, 0, 0, 0] : Fin 5 → ℕ) a : ℤ))
    (b : Fin 4) (i : Fin 64) (h : Fin 4) (d : Fin 512) :
    shapeCast S4x64x4x512 (Host.dynamicSlice S1x4x64x4x512 x start sliceFits_S64x4x64x4x512_S1x4x64x4x512) shapeCasts_S1x4x64x4x512_S4x64x4x512 (ix4 b i h d)
      = x (ix5 ⟨n, hn⟩ b i h d) := by
  have e : Host.dynamicSlice S1x4x64x4x512 x start sliceFits_S64x4x64x4x512_S1x4x64x4x512 = extractStridedSlice S1x4x64x4x512 ![n, 0, 0, 0, 0] x (slice_fits n hn 512) :=
    Host.dynamicSlice_eq_extractStridedSlice (s := S64x4x64x4x512) _ x start ![n, 0, 0, 0, 0] _ (slice_fits n hn 512) hs
  rw [e]
  pointwise []

include hc in
theorem q_at (b : Fin 4) (i : Fin 64) (h : Fin 4) (d : Fin 256) : (res_main_while0b_v132 V0 : S4x64x4x256.Idx → EReal) (ix4 b i h d) = qC V0 (ix5 ⟨n, hn⟩ b i h d) :=
  slice256 n hn (qC V0) (startAt V0) (startAt_eq V0 n hn hc) b i h d
include hc in
theorem k_at (b : Fin 4) (i : Fin 64) (h : Fin 4) (d : Fin 256) : (res_main_while0b_v133 V0 : S4x64x4x256.Idx → EReal) (ix4 b i h d) = kC V0 (ix5 ⟨n, hn⟩ b i h d) :=
  slice256 n hn (kC V0) (startAt V0) (startAt_eq V0 n hn hc) b i h d
include hc in
theorem v_at (b : Fin 4) (i : Fin 64) (h : Fin 4) (e : Fin 512) : (res_main_while0b_v134 V0 : S4x64x4x512.Idx → EReal) (ix4 b i h e) = vC V0 (ix5 ⟨n, hn⟩ b i h e) :=
  slice512 n hn (vC V0) (startAt V0) (startAt_eq V0 n hn hc) b i h e

/-- The state a trip leaves, of the vectors it is computed from. -/
def newState (s : FVec Ideal S4x4x256x512 .f32) (cd : FVec Ideal S1x4x1x1 .f32) (k : FVec Ideal S4x64x4x256 .f32) (kd : FVec Ideal S1x64x4x1 .f32)
    (v : FVec Ideal S4x64x4x512 .f32) : FVec Ideal S4x4x256x512 .f32 :=
  addf (mulf s (broadcastInDim S4x4x256x512 ![0, 1, 2, 3] bcast_S1x4x1x1_S4x4x256x512_0_1_2_3 cd))
    (Host.dotGeneral dot_S4x64x4x256_S4x64x4x512_S4x4x256x512_1_1_3_3_02_02 none
      (mulf k (broadcastInDim S4x64x4x256 ![0, 1, 2, 3] bcast_S1x64x4x1_S4x64x4x256_0_1_2_3 kd)) v)

theorem newState_at (s : FVec Ideal S4x4x256x512 .f32) (cd : FVec Ideal S1x4x1x1 .f32) (k : FVec Ideal S4x64x4x256 .f32) (kd : FVec Ideal S1x64x4x1 .f32)
    (v : FVec Ideal S4x64x4x512 .f32) (b h : Fin 4) (d : Fin 256) (e : Fin 512) :
    newState s cd k kd v (ix4 b h d e) = s (ix4 b h d e) * cd (ix4 0 h 0 0) + ∑ j : Fin 64, k (ix4 b j h d) * kd (ix4 0 j h 0) * v (ix4 b j h e) := by
  pointwise [newState]

/-- The output of a trip. -/
def newOut (q k : FVec Ideal S4x64x4x256 .f32) (v : FVec Ideal S4x64x4x512 .f32) (dm : FVec Ideal S4x64x64 .f32) (s : FVec Ideal S4x4x256x512 .f32) (id : FVec Ideal S1x64x4x1 .f32) :
    FVec Ideal S4x64x4x512 .f32 :=
  addf (transpose S4x64x4x512 [0, 3, 1, 2] (Host.dotGeneral dot_S4x64x4x512_S4x4x64x64_S4x4x512x64_1_3_3_2_02_01 none v
    (mulf (Host.dotGeneral dot_S4x64x4x256_S4x64x4x256_S4x4x64x64_3_3_1_1_02_02 none q k)
      (broadcastInDim S4x4x64x64 ![0, 1, 2, 3] bcast_S1x4x64x64_S4x4x64x64_0_1_2_3 (broadcastInDim S1x4x64x64 ![1, 2, 3] bcast_S4x64x64_S1x4x64x64_1_2_3 dm))))
    transposes_S4x4x512x64_S4x64x4x512_0_3_1_2)
  (mulf (transpose S4x64x4x512 [0, 3, 1, 2] (Host.dotGeneral dot_S4x4x256x512_S4x64x4x256_S4x4x512x64_2_3_3_1_01_02 none s q)
    transposes_S4x4x512x64_S4x64x4x512_0_3_1_2) (broadcastInDim S4x64x4x512 ![0, 1, 2, 3] bcast_S1x64x4x1_S4x64x4x512_0_1_2_3 id))

theorem newOut_at (q k : FVec Ideal S4x64x4x256 .f32) (v : FVec Ideal S4x64x4x512 .f32) (dm : FVec Ideal S4x64x64 .f32) (s : FVec Ideal S4x4x256x512 .f32) (id : FVec Ideal S1x64x4x1 .f32)
    (b : Fin 4) (i : Fin 64) (h : Fin 4) (e : Fin 512) :
    newOut q k v dm s id (ix4 b i h e) = (∑ j : Fin 64, v (ix4 b j h e) * ((∑ d : Fin 256, q (ix4 b i h d) * k (ix4 b j h d)) * dm (ix3 h i j)))
      + (∑ d : Fin 256, s (ix4 b h d e) * q (ix4 b i h d)) * id (ix4 0 i h 0) := by
  pointwise [newOut]

/-- An output written into its chunk. -/
theorem update_at (hn : n < 64) (x : FVec Ideal S64x4x64x4x512 .f32) (y : FVec Ideal S4x64x4x512 .f32) (start : Fin 5 → ℤ)
    (hs : ∀ a, start a = ((![n, 0, 0, 0, 0] : Fin 5 → ℕ) a : ℤ)) (c : Fin 64) (b : Fin 4) (i : Fin 64) (h : Fin 4) (e : Fin 512) :
    Host.dynamicUpdateSlice x (broadcastInDim S1x4x64x4x512 ![1, 2, 3, 4] bcast_S4x64x4x512_S1x4x64x4x512_1_2_3_4 y) start updateFits_S64x4x64x4x512_S1x4x64x4x512
      (ix5 c b i h e) = if c.val = n then y (ix4 b i h e) else x (ix5 c b i h e) := by
  have hf := slice_fits n hn 512
  rw [Host.dynamicUpdateSlice_eq_updateSlice (s := S64x4x64x4x512) (u := S1x4x64x4x512) x _ start _ ![n, 0, 0, 0, 0] (fun a => by
    rw [hs a]
    match a with
    | 0 => show (min (max (n : ℤ) 0) ((64 - 1 : ℕ) : ℤ)).toNat = n; omega
    | 1 => rfl
    | 2 => rfl
    | 3 => rfl
    | 4 => rfl) hf]
  have hlt : ∀ (a : Fin 5), (![n, 0, 0, 0, 0] : Fin 5 → ℕ) a ≤ ((ix5 c b i h e : S64x4x64x4x512.Idx) a).val
      ∧ ((ix5 c b i h e : S64x4x64x4x512.Idx) a).val < (![n, 0, 0, 0, 0] : Fin 5 → ℕ) a + S1x4x64x4x512.size a ↔ (a = 0 → c.val = n) := fun a => by
    match a with
    | 0 => show n ≤ c.val ∧ c.val < n + 1 ↔ _; exact ⟨fun h _ => by omega, fun h => by have := h rfl; omega⟩
    | 1 => show 0 ≤ b.val ∧ b.val < 0 + 4 ↔ _; exact ⟨fun _ h => absurd h (by decide), fun _ => by omega⟩
    | 2 => show 0 ≤ i.val ∧ i.val < 0 + 64 ↔ _; exact ⟨fun _ h => absurd h (by decide), fun _ => by omega⟩
    | 3 => show 0 ≤ h.val ∧ h.val < 0 + 4 ↔ _; exact ⟨fun _ h => absurd h (by decide), fun _ => by omega⟩
    | 4 => show 0 ≤ e.val ∧ e.val < 0 + 512 ↔ _; exact ⟨fun _ h => absurd h (by decide), fun _ => by omega⟩
  unfold updateSlice
  by_cases hcn : c.val = n
  · rw [if_pos hcn]
    refine (dif_pos fun a => (hlt a).2 fun _ => hcn).trans ?_
    refine Eq.trans (congrArg (broadcastInDim S1x4x64x4x512 ![1, 2, 3, 4] bcast_S4x64x4x512_S1x4x64x4x512_1_2_3_4 y)
      (show _ = (ix5 0 b i h e : S1x4x64x4x512.Idx) from funext fun a => Fin.ext ?_)) (by pointwise [])
    match a with
    | 0 => show c.val - n = 0; omega
    | 1 => rfl
    | 2 => rfl
    | 3 => rfl
    | 4 => rfl
  · rw [if_neg hcn]
    exact dif_neg fun hh => hcn ((hlt 0).1 (hh 0) rfl)

include hc in
/-- The state after a trip. -/
theorem state_step (b h : Fin 4) (d : Fin 256) (e : Fin 512) : (step_main_v113_8 V0 : S4x4x256x512.Idx → EReal) (ix4 b h d e)
    = sC V0 (ix4 b h d e) * cC V0 (ix4 0 h 0 0) + ∑ j : Fin 64, kC V0 (ix5 ⟨n, hn⟩ b j h d) * dC V0 (ix4 0 j h 0) * vC V0 (ix5 ⟨n, hn⟩ b j h e) := by
  refine (newState_at (sC V0) (cC V0) (res_main_while0b_v133 V0) (dC V0) (res_main_while0b_v134 V0) b h d e).trans ?_
  refine congrArg _ (Finset.sum_congr rfl fun j _ => ?_)
  rw [k_at V0 n hn hc, v_at V0 n hn hc]

include hc in
/-- The outputs after a trip. -/
theorem out_step (c : Fin 64) (b : Fin 4) (i : Fin 64) (h : Fin 4) (e : Fin 512) : (step_main_v113_9 V0 : S64x4x64x4x512.Idx → EReal) (ix5 c b i h e)
    = if c.val = n then (∑ j : Fin 64, vC V0 (ix5 ⟨n, hn⟩ b j h e) * ((∑ d : Fin 256, qC V0 (ix5 ⟨n, hn⟩ b i h d) * kC V0 (ix5 ⟨n, hn⟩ b j h d)) * mC V0 (ix3 h i j)))
      + (∑ d : Fin 256, sC V0 (ix4 b h d e) * qC V0 (ix5 ⟨n, hn⟩ b i h d)) * iC V0 (ix4 0 i h 0) else oC V0 (ix5 c b i h e) := by
  refine (update_at n hn (oC V0) (newOut (res_main_while0b_v132 V0) (res_main_while0b_v133 V0) (res_main_while0b_v134 V0) (mC V0) (sC V0) (iC V0))
    (startAt V0) (startAt_eq V0 n hn hc) c b i h e).trans ?_
  rw [newOut_at]
  simp only [q_at V0 n hn hc, k_at V0 n hn hc, v_at V0 n hn hc]

/-! ## The loop over real operands -/

/-- Real operands: the chunks and the decays as real numbers, by batch and head. -/
structure Reals (V0 : Valuation τ sig (Elt Ideal)) (Q K : Fin 4 → Fin 4 → ℕ → Fin 256 → ℝ) (V : Fin 4 → Fin 4 → ℕ → Fin 512 → ℝ) : Prop where
  q : ∀ (c : Fin 64) b (i : Fin 64) h d, qC V0 (ix5 c b i h d) = ((Q b h (64 * c.val + i.val) d : ℝ) : EReal)
  k : ∀ (c : Fin 64) b (i : Fin 64) h d, kC V0 (ix5 c b i h d) = ((K b h (64 * c.val + i.val) d : ℝ) : EReal)
  v : ∀ (c : Fin 64) b (i : Fin 64) h e, vC V0 (ix5 c b i h e) = ((V b h (64 * c.val + i.val) e : ℝ) : EReal)
  m : ∀ h (i j : Fin 64), mC V0 (ix3 h i j) = ((if j.val ≤ i.val then Real.exp (Retention.lam h * ((i.val : ℝ) - j.val)) else 0 : ℝ) : EReal)
  i : ∀ h (i : Fin 64), iC V0 (ix4 0 i h 0) = ((Real.exp (Retention.lam h * ((i.val : ℝ) + 1)) : ℝ) : EReal)
  c : ∀ h, cC V0 (ix4 0 h 0 0) = ((Real.exp (Retention.lam h * (64 : ℕ)) : ℝ) : EReal)
  d : ∀ h (j : Fin 64), dC V0 (ix4 0 j h 0) = ((Real.exp (Retention.lam h * (((64 : ℕ) : ℝ) - 1 - j.val)) : ℝ) : EReal)

/-- Before trip `n`: the counter, the state after `n` chunks, and the outputs of the chunks done. -/
structure Before (n : ℕ) (V0 : Valuation τ sig (Elt Ideal)) (Q K : Fin 4 → Fin 4 → ℕ → Fin 256 → ℝ) (V : Fin 4 → Fin 4 → ℕ → Fin 512 → ℝ) : Prop
    extends Reals V0 Q K V where
  ctr : V0 (Proc.devRef .tc main_v113_7) = fun _ => BitVec.ofNat 32 n
  s : ∀ b h d e, sC V0 (ix4 b h d e) = ((RetSum.state (Retention.lam h) (K b h) (V b h) 64 n d e : ℝ) : EReal)
  o : ∀ (c : Fin 64) b (i : Fin 64) h e, c.val < n →
    oC V0 (ix5 c b i h e) = ((RetSum.direct (Retention.lam h) (Q b h) (K b h) (V b h) (64 * c.val + i.val) e : ℝ) : EReal)

theorem before_step (Q K : Fin 4 → Fin 4 → ℕ → Fin 256 → ℝ) (V : Fin 4 → Fin 4 → ℕ → Fin 512 → ℝ) (hn : n < 64) (H : Before n V0 Q K V) : Before (n + 1) (STEP V0) Q K V where
  q := by unfold qC; rw [STEP_main_v113_0]; exact H.q
  k := by unfold kC; rw [STEP_main_v113_1]; exact H.k
  v := by unfold vC; rw [STEP_main_v113_2]; exact H.v
  m := by unfold mC; rw [STEP_main_v113_3]; exact H.m
  i := by unfold iC; rw [STEP_main_v113_4]; exact H.i
  c := by unfold cC; rw [STEP_main_v113_5]; exact H.c
  d := by unfold dC; rw [STEP_main_v113_6]; exact H.d
  ctr := by
    rw [STEP_main_v113_7]
    unfold step_main_v113_7
    rw [H.ctr]
    funext x
    show BitVec.ofNat 32 n + 1#32 = BitVec.ofNat 32 (n + 1)
    rw [BitVec.ofNat_add]
  s := fun b h d e => by
    unfold sC
    rw [STEP_main_v113_8]
    refine (state_step V0 n hn H.ctr b h d e).trans ?_
    rw [H.s, H.c, RetSum.state, RetSum.stepState, EReal.coe_add, EReal.coe_mul, Retention.coe_sum]
    refine congrArg _ (Finset.sum_congr rfl fun j _ => ?_)
    rw [H.k, H.d, H.v, ← EReal.coe_mul, ← EReal.coe_mul]
    rfl
  o := fun c b i h e hcn => by
    unfold oC
    rw [STEP_main_v113_9]
    refine (out_step V0 n hn H.ctr c b i h e).trans ?_
    by_cases hc : c.val = n
    · subst hc
      rw [if_pos rfl, ← RetSum.chunkOut_eq, RetSum.chunkOut, EReal.coe_add, EReal.coe_mul, Retention.coe_sum, Retention.coe_sum, H.i]
      congr 1
      · refine Finset.sum_congr rfl fun j _ => ?_
        rw [H.v, H.m, mul_comm, EReal.coe_mul, EReal.coe_mul, Retention.coe_sum]
        simp only [H.q, H.k, EReal.coe_mul]
        rfl
      · congr 1
        refine Finset.sum_congr rfl fun d _ => ?_
        rw [H.s, H.q, mul_comm, EReal.coe_mul]
        rfl
    · rw [if_neg hc]
      exact H.o c b i h e (by omega)

/-- After the loop every output is the direct sum. -/
theorem outputs (Q K : Fin 4 → Fin 4 → ℕ → Fin 256 → ℝ) (V : Fin 4 → Fin 4 → ℕ → Fin 512 → ℝ) (H : Before 0 V0 Q K V) : Before 64 (STEP^[64] V0) Q K V := by
  have h : ∀ n, n ≤ 64 → Before n (STEP^[n] V0) Q K V := by
    intro n
    induction n with
    | zero => exact fun _ => H
    | succ n ih =>
      intro hn
      rw [Function.iterate_succ_apply']
      exact before_step _ n Q K V (by omega) (ih (by omega))
  exact h 64 (le_refl _)

end Cert.Proof.RetentionRef

end
-- ==== Proof.RetRefRead.lean ====
/- The retention reference's loop entry and its result read element by element. -/
module

public import proofs.«01_k».proof.Proof.RetRefLoop
public import Idealize.ShloMosaic.Lib.StableHlo.ReadAt

@[expose] public section

set_option maxRecDepth 8192

noncomputable section

namespace Cert.Proof.RetentionRef

open Cert.RetentionRefIdeal Cert.RetentionRefIdeal.Gen Cert.RetentionRefIdeal.Value Idealize.ShloMosaic Idealize.ShloMosaic.TcCoe
open Idealize.ShloMosaic.StableHlo
open Idealize.SL.Sem

variable (m : (ℓ : Loc nD τ sig) → Buf (Elt Ideal) ℓ) (c : Dev nD)

/-- The buffers on entering the loop. -/
abbrev entry : Valuation τ sig (Elt Ideal) := entryContents preI m c

/-- The projections. -/
abbrev zOf : S4x4096x6144.Idx → EReal := m ((c : Thread nD τ).loc main_arg0)
/-- The residual. -/
abbrev hOf : S4x4096x1024.Idx → EReal := m ((c : Thread nD τ).loc main_arg1)
/-- The output projection. -/
abbrev wOf : S2048x1024.Idx → EReal := m ((c : Thread nD τ).loc main_arg2)

/-! ## Scalars -/

theorem bits_m5 : Ideal.ofBits .f32 3231711232#32 = ((-5 : ℝ) : EReal) := by
  simp [Ideal.ofBits, Ideal.ieee]; norm_num [← EReal.coe_mul, ← EReal.coe_neg]
theorem bits_64 : Ideal.ofBits .f32 1115684864#32 = ((64 : ℝ) : EReal) := by
  simp [Ideal.ofBits, Ideal.ieee]; norm_num [← EReal.coe_mul]
theorem bits_63 : Ideal.ofBits .f32 1115422720#32 = ((63 : ℝ) : EReal) := by
  simp [Ideal.ofBits, Ideal.ieee]; norm_num [← EReal.coe_mul]

/-- Two to a negative whole power. -/
theorem two_rpow (k : ℕ) (x : ℝ) (h : x = -(k : ℝ)) : (2 : ℝ).rpow x = ((2 : ℝ) ^ k)⁻¹ := by
  show (2 : ℝ) ^ x = _
  rw [h, Real.rpow_neg (by norm_num), Real.rpow_natCast]

/-- A head's decay, as the power of two it is computed from. -/
theorem gam_eq (h : Fin 4) : 1 + -((2 : ℝ).rpow (-5 - (h.val : ℝ))) = Retention.gam h := by
  rw [two_rpow (5 + h.val) _ (by push_cast; ring)]
  match h with
  | 0 => norm_num [Retention.gam]
  | 1 => norm_num [Retention.gam]
  | 2 => norm_num [Retention.gam]
  | 3 => norm_num [Retention.gam]

/-- A head's log decay. -/
theorem log_eq (h : Fin 4) : Ideal.log1p (-Ideal.pow (Ideal.ofBits FTy.f32 1073741824#32)
      (Ideal.ofBits FTy.f32 3231711232#32 - FloatOps.sitofp (F := Ideal) .f32 (BitVec.ofNat 32 h.val))) = ((Retention.lam h : ℝ) : EReal) := by
  rw [Retention.sitofp_small h.val (by omega), Retention.bits_2, bits_m5, ← EReal.coe_sub, Ideal.pow_coe_coe, Ideal.log1p, ← EReal.coe_neg,
    ← EReal.coe_one, ← EReal.coe_add, gam_eq, Ideal.log_coe, if_neg (not_le.2 (Retention.gam_pos h))]
  rfl

/-- The angle of a position, by its chunk and its place in it. -/
theorem angle_at (n i : Fin 64) (d : Fin 128) :
    (FloatOps.sitofp (F := Ideal) .f32 (BitVec.ofNat 32 (n.val * 64 + i.val)) *
        Ideal.pow (Ideal.ofBits FTy.f32 1176256512#32)
          (Ideal.div (-(Ideal.ofBits FTy.f32 1073741824#32 * FloatOps.sitofp (F := Ideal) .f32 (BitVec.ofNat 32 d.val)))
            (Ideal.ofBits FTy.f32 1132462080#32))) = ((Retention.angle (64 * n.val + i.val) d : ℝ) : EReal) := by
  rw [Nat.mul_comm n.val 64]
  exact Retention.angle_eq ⟨64 * n.val + i.val, by omega⟩ d

section Entry
variable (hz : ∀ i, zOf m c i ≠ ⊤ ∧ zOf m c i ≠ ⊥)

include hz in
theorem z_at (b : Fin 4) (r : ℕ) (hr : r < 4096) (r' : ℕ) (er : r = r') (j : ℕ) (hj : j < 6144) (j' : ℕ) (hj' : j' < 6144) (ej : j = j') :
    (launchContents m c (Proc.tc.devRef main_arg0) : S4x4096x6144.Idx → EReal) (ix3 b ⟨r, hr⟩ ⟨j, hj⟩)
      = ((Retention.seqOf (zOf m c) b r' ⟨j', hj'⟩ : ℝ) : EReal) := by
  subst er; subst ej
  exact Retention.seq_eq (zOf m c) hz b ⟨r, hr⟩ ⟨j, hj⟩

include hz in
theorem q_entry (n : Fin 64) (b : Fin 4) (i : Fin 64) (h : Fin 4) (d : Fin 256) :
    qC (entry m c) (ix5 n b i h d) = ((Retention.qR (Retention.seqOf (zOf m c) b) h (64 * n.val + i.val) d : ℝ) : EReal) := by
  unfold qC entry
  simp only [entryContents, afterL_cons, afterL_nil]
  rcases Retention.half_cases d with ⟨d, rfl⟩ | ⟨d, rfl⟩
  · after_reads_at
    rw [id]
    pointwise []
    after_reads_at
    refine (congrArg₂ (fun x y : EReal => x - y) (congrArg₂ (fun x y : EReal => x * y) (z_at m c hz b _ _ (64 * n.val + i.val) (by omega) _ _ (256 * h.val + (Retention.lo d).val) (by simp only [Retention.lo]; omega) (by simp only [Retention.lo]; omega)) (congrArg Ideal.cos (angle_at n i d)))
      (congrArg₂ (fun x y : EReal => x * y) (z_at m c hz b _ _ (64 * n.val + i.val) (by omega) _ _ (256 * h.val + (Retention.hi d).val) (by simp only [Retention.hi]; omega) (by simp only [Retention.hi]; omega)) (congrArg Ideal.sin (angle_at n i d)))).trans ?_
    rw [Ideal.cos_coe, Ideal.sin_coe, ← EReal.coe_mul, ← EReal.coe_mul, ← EReal.coe_sub, Retention.qR, Retention.rot_lo]
    rfl
  · after_reads_at
    rw [id]
    pointwise []
    after_reads_at
    refine (congrArg₂ (fun x y : EReal => x + y) (congrArg₂ (fun x y : EReal => x * y) (z_at m c hz b _ _ (64 * n.val + i.val) (by omega) _ _ (256 * h.val + (Retention.hi d).val) (by simp only [Retention.hi]; omega) (by simp only [Retention.hi]; omega)) (congrArg Ideal.cos (angle_at n i d)))
      (congrArg₂ (fun x y : EReal => x * y) (z_at m c hz b _ _ (64 * n.val + i.val) (by omega) _ _ (256 * h.val + (Retention.lo d).val) (by simp only [Retention.lo]; omega) (by simp only [Retention.lo]; omega)) (congrArg Ideal.sin (angle_at n i d)))).trans ?_
    rw [Ideal.cos_coe, Ideal.sin_coe, ← EReal.coe_mul, ← EReal.coe_mul, ← EReal.coe_add, Retention.qR, Retention.rot_hi]
    rfl

include hz in
theorem k_entry (n : Fin 64) (b : Fin 4) (i : Fin 64) (h : Fin 4) (d : Fin 256) :
    kC (entry m c) (ix5 n b i h d) = ((Retention.kR (Retention.seqOf (zOf m c) b) h (64 * n.val + i.val) d : ℝ) : EReal) := by
  unfold kC entry
  simp only [entryContents, afterL_cons, afterL_nil]
  rcases Retention.half_cases d with ⟨d, rfl⟩ | ⟨d, rfl⟩
  · after_reads_at
    rw [id]
    pointwise []
    after_reads_at
    refine (congrArg₂ (fun x y : EReal => x * y) (congrArg₂ (fun x y : EReal => x - y) (congrArg₂ (fun x y : EReal => x * y) (z_at m c hz b _ _ (64 * n.val + i.val) (by omega) _ _ (1024 + 256 * h.val + (Retention.lo d).val) (by simp only [Retention.lo]; omega) (by simp only [Retention.lo]; omega)) (congrArg Ideal.cos (angle_at n i d)))
      (congrArg₂ (fun x y : EReal => x * y) (z_at m c hz b _ _ (64 * n.val + i.val) (by omega) _ _ (1024 + 256 * h.val + (Retention.hi d).val) (by simp only [Retention.hi]; omega) (by simp only [Retention.hi]; omega)) (congrArg Ideal.sin (angle_at n i d)))) Retention.bits_sixteenth).trans ?_
    rw [Ideal.cos_coe, Ideal.sin_coe, ← EReal.coe_mul, ← EReal.coe_mul, ← EReal.coe_sub, ← EReal.coe_mul, Retention.kR, Retention.rot_lo]
    rfl
  · after_reads_at
    rw [id]
    pointwise []
    after_reads_at
    refine (congrArg₂ (fun x y : EReal => x * y) (congrArg₂ (fun x y : EReal => x + y) (congrArg₂ (fun x y : EReal => x * y) (z_at m c hz b _ _ (64 * n.val + i.val) (by omega) _ _ (1024 + 256 * h.val + (Retention.hi d).val) (by simp only [Retention.hi]; omega) (by simp only [Retention.hi]; omega)) (congrArg Ideal.cos (angle_at n i d)))
      (congrArg₂ (fun x y : EReal => x * y) (z_at m c hz b _ _ (64 * n.val + i.val) (by omega) _ _ (1024 + 256 * h.val + (Retention.lo d).val) (by simp only [Retention.lo]; omega) (by simp only [Retention.lo]; omega)) (congrArg Ideal.sin (angle_at n i d)))) Retention.bits_sixteenth).trans ?_
    rw [Ideal.cos_coe, Ideal.sin_coe, ← EReal.coe_mul, ← EReal.coe_mul, ← EReal.coe_add, ← EReal.coe_mul, Retention.kR, Retention.rot_hi]
    rfl

include hz in
theorem v_entry (n : Fin 64) (b : Fin 4) (i : Fin 64) (h : Fin 4) (e : Fin 512) :
    vC (entry m c) (ix5 n b i h e) = ((Retention.vR (Retention.seqOf (zOf m c) b) h (64 * n.val + i.val) e : ℝ) : EReal) := by
  unfold vC entry
  simp only [entryContents, afterL_cons, afterL_nil]
  after_reads_at
  rw [id]
  pointwise []
  exact z_at m c hz b _ _ _ (by omega) _ _ _ _ (by omega)

theorem m_entry (h : Fin 4) (i j : Fin 64) :
    mC (entry m c) (ix3 h i j) = ((if j.val ≤ i.val then Real.exp (Retention.lam h * ((i.val : ℝ) - j.val)) else 0 : ℝ) : EReal) := by
  unfold mC entry
  simp only [entryContents, afterL_cons, afterL_nil]
  after_reads_at
  rw [id]
  pointwise []
  rw [log_eq, Retention.sitofp_small i.val (by omega), Retention.sitofp_small j.val (by omega), ← EReal.coe_sub]
  by_cases hij : j.val ≤ i.val
  · have hr : (0 : ℝ) ≤ (i.val : ℝ) - j.val := sub_nonneg.2 (by exact_mod_cast hij)
    rw [if_pos hij, if_pos (EReal.coe_nonneg.2 hr), max_eq_left (EReal.coe_nonneg.2 hr), ← EReal.coe_mul, Ideal.exp_coe]
  · have hr : ¬ (0 : ℝ) ≤ (i.val : ℝ) - j.val := fun h => hij (by exact_mod_cast sub_nonneg.1 h)
    rw [if_neg hij, if_neg (fun h => hr (EReal.coe_nonneg.1 h)), id]
    pointwise []
    rfl

theorem i_entry (h : Fin 4) (i : Fin 64) :
    iC (entry m c) (ix4 0 i h 0) = ((Real.exp (Retention.lam h * ((i.val : ℝ) + 1)) : ℝ) : EReal) := by
  unfold iC entry
  simp only [entryContents, afterL_cons, afterL_nil]
  after_reads_at
  rw [id]
  pointwise []
  rw [log_eq, Retention.sitofp_small i.val (by omega), ← EReal.coe_one, ← EReal.coe_add, ← EReal.coe_mul, Ideal.exp_coe]

theorem c_entry (h : Fin 4) : cC (entry m c) (ix4 0 h 0 0) = ((Real.exp (Retention.lam h * (64 : ℕ)) : ℝ) : EReal) := by
  unfold cC entry
  simp only [entryContents, afterL_cons, afterL_nil]
  after_reads_at
  rw [id]
  pointwise []
  rw [log_eq, bits_64, ← EReal.coe_mul, Ideal.exp_coe]
  norm_num

theorem d_entry (h : Fin 4) (j : Fin 64) : dC (entry m c) (ix4 0 j h 0) = ((Real.exp (Retention.lam h * (((64 : ℕ) : ℝ) - 1 - j.val)) : ℝ) : EReal) := by
  unfold dC entry
  simp only [entryContents, afterL_cons, afterL_nil]
  after_reads_at
  rw [id]
  pointwise []
  rw [log_eq, bits_63, Retention.sitofp_small j.val (by omega), ← EReal.coe_sub, ← EReal.coe_mul, Ideal.exp_coe]
  norm_num

theorem s_entry (b h : Fin 4) (d : Fin 256) (e : Fin 512) : sC (entry m c) (ix4 b h d e) = 0 := by
  unfold sC entry
  simp only [entryContents, afterL_cons, afterL_nil]
  after_reads_at
  rw [id]
  pointwise []

include hz in
/-- The loop is entered with real operands and an empty state. -/
theorem before_zero : Before 0 (entry m c) (fun b h => Retention.qR (Retention.seqOf (zOf m c) b) h)
    (fun b h => Retention.kR (Retention.seqOf (zOf m c) b) h) (fun b h => Retention.vR (Retention.seqOf (zOf m c) b) h) where
  q := q_entry m c hz
  k := k_entry m c hz
  v := v_entry m c hz
  m := m_entry m c
  i := i_entry m c
  c := c_entry m c
  d := d_entry m c
  ctr := ctr_entry m c
  s := fun b h d e => (s_entry m c b h d e).trans EReal.coe_zero.symm
  o := fun c b i h e hc => absurd hc (Nat.not_lt_zero _)

end Entry

/-! ## The result -/

/-- The logistic gate, as the reference spells it. -/
theorem silu_real (x : ℝ) : (x : EReal) * Ideal.div 1 (1 + Ideal.exp (-(x : EReal))) = ((Retention.silu x : ℝ) : EReal) := by
  have h : 1 + Real.exp (-x) ≠ 0 := (by positivity : 0 < 1 + Real.exp (-x)).ne'
  rw [← EReal.coe_neg, Ideal.exp_coe, ← EReal.coe_one, ← EReal.coe_add, Ideal.div_coe h, ← EReal.coe_mul, ← EReal.coe_mul, Retention.silu]
  norm_num

/-- Normalised and gated, as the reference spells it. -/
theorem gate_real (s : EReal) (o : Fin 512 → EReal) (d e : EReal) (S : ℝ) (O : Fin 512 → ℝ) (hs : s = ((S : ℝ) : EReal)) (ho : ∀ x, o x = ((O x : ℝ) : EReal))
    (hd : d = ((512 : ℝ) : EReal)) (he : e = ((Retention.eps : ℝ) : EReal)) (y : Fin 512) :
    s * (o y * Ideal.rsqrt (Ideal.div (∑ x, o x * o x) d + e)) = ((S * Retention.headNorm O y : ℝ) : EReal) := by
  subst hs; subst hd; subst he
  simp only [ho, ← EReal.coe_mul, ← Retention.coe_sum]
  rw [Ideal.div_coe (by norm_num), ← EReal.coe_mul, ← EReal.coe_add, Retention.rsqrt_pos _ (Retention.norm_pos _), ← EReal.coe_mul, ← EReal.coe_mul, Retention.headNorm]

/-- The result from the loop's outputs. -/
theorem out_read (V0 : Valuation τ sig (Elt Ideal)) (z : S4x4096x6144.Idx → EReal) (hz : ∀ i, z i ≠ ⊤ ∧ z i ≠ ⊥)
    (ez : (V0 (Proc.tc.devRef main_arg0) : S4x4096x6144.Idx → EReal) = z)
    (ho : ∀ (n : Fin 64) b (i : Fin 64) h e, oC V0 (ix5 n b i h e) = ((Retention.oR (Retention.seqOf z b) h (64 * n.val + i.val) e : ℝ) : EReal)) :
    (out_main_v131 V0 : S4x4096x1024.Idx → EReal)
      = Retention.layer z (V0 (Proc.tc.devRef main_arg1) : S4x4096x1024.Idx → EReal) (V0 (Proc.tc.devRef main_arg2) : S2048x1024.Idx → EReal) := by
  refine funext fun x => ?_
  obtain ⟨b, n, j, rfl⟩ : ∃ (b : Fin 4) (n : Fin 4096) (j : Fin 1024), x = ix3 b n j := ⟨x 0, x 1, x 2, by
    funext a
    match a with
    | 0 => rfl
    | 1 => rfl
    | 2 => rfl⟩
  unfold out_main_v131
  pointwise []
  refine congrArg _ (Finset.sum_congr rfl fun k _ => congrArg (· * _) ?_)
  have eo : ∀ e : Fin 512, (V0 (Proc.tc.devRef main_v113_9) : S64x4x64x4x512.Idx → EReal)
      (ix5 ⟨n.val / 64, by omega⟩ b ⟨n.val % 64, by omega⟩ ⟨k.val / 512, by omega⟩ e)
        = ((Retention.oR (Retention.seqOf z b) (Retention.headOf k) n.val e : ℝ) : EReal) := fun e => by
    have e1 := ho ⟨n.val / 64, by omega⟩ b ⟨n.val % 64, by omega⟩ (Retention.headOf k) e
    rwa [show 64 * (n.val / 64) + n.val % 64 = n.val from Nat.div_add_mod n.val 64] at e1
  have eg : (V0 (Proc.tc.devRef main_arg0) : S4x4096x6144.Idx → EReal) (ix3 b n ⟨4096 + k.val, by omega⟩)
      = ((Retention.gR (Retention.seqOf z b) (Retention.headOf k) n.val (Retention.restOf k) : ℝ) : EReal) := by
    rw [ez, Retention.seq_eq z hz, Retention.gR]
    refine congrArg (fun j => ((Retention.seqOf z b n.val j : ℝ) : EReal)) (Fin.ext ?_)
    show 4096 + k.val = 4096 + 512 * (k.val / 512) + k.val % 512
    omega
  rw [eg, silu_real]
  exact gate_real _ (fun e => (V0 (Proc.tc.devRef main_v113_9) : S64x4x64x4x512.Idx → EReal)
    (ix5 ⟨n.val / 64, by omega⟩ b ⟨n.val % 64, by omega⟩ ⟨k.val / 512, by omega⟩ e)) _ _ _ _ rfl eo Retention.bits_512 Retention.bits_eps _

/-- The reference's result is the layer's core. -/
theorem result_eq (hz : ∀ i, zOf m c i ≠ ⊤ ∧ zOf m c i ≠ ⊥) :
    (out_main_v131 (STEP^[64] (entry m c)) : S4x4096x1024.Idx → EReal) = Retention.layer (zOf m c) (hOf m c) (wOf m c) := by
  refine (out_read _ (zOf m c) hz (iter_main_arg0 m c 64) fun n b i h e =>
    (outputs _ _ _ _ (before_zero m c hz)).o n b i h e n.isLt).trans ?_
  exact congrArg₂ (Retention.layer (zOf m c)) (iter_main_arg1 m c 64) (iter_main_arg2 m c 64)

end Cert.Proof.RetentionRef

end
-- ==== Proof.lean ====
/- The certificate's claims: the calls' frames, their idealizations, and the equations between each call and the
   layer's mathematics. The modules under Proof/ compute what each call's result array holds and what its reference
   computes; this file joins them. -/
module

public import proofs.«01_k».proof.Defs
public import proofs.«01_k».proof.Proof.Gen.Retention.Frame
public import proofs.«01_k».proof.Proof.Gen.RetentionIdeal.Value
public import proofs.«01_k».proof.Proof.Gen.RetentionRefIdeal.Run
public import proofs.«01_k».proof.Proof.Gen.Mlp.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.MlpFirst.Frame
public import proofs.«01_k».proof.Proof.Gen.MlpFirstIdeal.Value
public import proofs.«01_k».proof.Proof.Gen.MlpFirstRefIdeal.Run
public import proofs.«01_k».proof.Proof.Gen.MlpFirstRefIdeal.Read
public import proofs.«01_k».proof.Proof.Gen.GdnIn
public import proofs.«01_k».proof.Proof.Gen.GdnInIdeal.Frame
public import proofs.«01_k».proof.Proof.Gen.GdnInRefIdeal
public import proofs.«01_k».proof.Proof.Gen.MlpSecond.Frame
public import proofs.«01_k».proof.Proof.Gen.MlpSecondIdeal.Value
public import proofs.«01_k».proof.Proof.Gen.MlpSecondRefIdeal.Run
public import proofs.«01_k».proof.Proof.Gen.MlpSecondRefIdeal.Read
public import proofs.«01_k».proof.Proof.Gen.MlpThird.Frame
public import proofs.«01_k».proof.Proof.Gen.MlpThirdIdeal.Value
public import proofs.«01_k».proof.Proof.Gen.MlpThirdRefIdeal.Run
public import proofs.«01_k».proof.Proof.Gen.MlpThirdRefIdeal.Read
public import proofs.«01_k».proof.Proof.GdnInFrame
public import proofs.«01_k».proof.Proof.GdnInValue
public import proofs.«01_k».proof.Proof.GdnInRead
public import proofs.«01_k».proof.Proof.InProjBlock
public import proofs.«01_k».proof.Proof.InProjRead
public import proofs.«01_k».proof.Proof.MlpBlock
public import proofs.«01_k».proof.Proof.MlpRead
public import proofs.«01_k».proof.Proof.MlpFirstBlock
public import proofs.«01_k».proof.Proof.MlpFirstRead
public import proofs.«01_k».proof.Proof.MlpSecondBlock
public import proofs.«01_k».proof.Proof.MlpSecondRead
public import proofs.«01_k».proof.Proof.MlpThirdBlock
public import proofs.«01_k».proof.Proof.MlpThirdRead
public import proofs.«01_k».proof.Proof.RetPre
public import proofs.«01_k».proof.Proof.RetBlock
public import proofs.«01_k».proof.Proof.RetRefRead
public import Idealize.ShloMosaic.Adequacy
public import Idealize.ShloMosaic.Init

@[expose] public section

noncomputable section

namespace Cert.Proof

open Idealize.ShloMosaic Idealize.SL.Sem

/-! ## The references' frames

A reference is host operations only; it declares no semaphore, so its counters stay at zero. -/

/-- The retention reference runs and leaves its arguments. -/
theorem frame_RetentionRefIdeal : Cert.quiescent_RetentionRefIdeal (hRetentionRefIdeal := Cert.RetentionRefIdeal.Gen.facts) :=
  fun m ρ _ => (θ_run Cert.RetentionRefIdeal.defs _ _).mono
    (fun r h => ⟨fun c => (h c).2, sem_eq_zero_of_no_sems (by decide) r.2⟩) (Cert.RetentionRefIdeal.Value.run m ρ)

/-- The MLP reference runs and leaves its arguments. -/
theorem frame_MlpRefIdeal : Cert.quiescent_MlpRefIdeal (hMlpRefIdeal := Cert.MlpRefIdeal.Gen.facts) :=
  fun m ρ _ => (θ_run Cert.MlpRefIdeal.defs _ _).mono
    (fun r h => ⟨fun c => (h c).2, sem_eq_zero_of_no_sems (by decide) r.2⟩) (Cert.MlpRefIdeal.Value.run m ρ)

/-- The in-projection reference runs and leaves its arguments. -/
theorem frame_InProjRefIdeal : Cert.quiescent_InProjRefIdeal (hInProjRefIdeal := Cert.InProjRefIdeal.Gen.facts) :=
  fun m ρ _ => (θ_run Cert.InProjRefIdeal.defs _ _).mono
    (fun r h => ⟨fun c => (h c).2, sem_eq_zero_of_no_sems (by decide) r.2⟩) (Cert.InProjRefIdeal.Value.run m ρ)

/-- The reference of the MLP without the final norm runs and leaves its arguments. -/
theorem frame_MlpFirstRefIdeal : Cert.quiescent_MlpFirstRefIdeal (hMlpFirstRefIdeal := Cert.MlpFirstRefIdeal.Gen.facts) :=
  fun m ρ _ => (θ_run Cert.MlpFirstRefIdeal.defs _ _).mono
    (fun r h => ⟨fun c => (h c).2, sem_eq_zero_of_no_sems (by decide) r.2⟩) (Cert.MlpFirstRefIdeal.Value.run m ρ)

/-- The reference of the gated DeltaNet projection runs and leaves its arguments. -/
theorem frame_GdnInRefIdeal : Cert.quiescent_GdnInRefIdeal (hGdnInRefIdeal := Cert.GdnInRefIdeal.Gen.facts) :=
  fun m ρ _ => (θ_run Cert.GdnInRefIdeal.defs _ _).mono
    (fun r h => ⟨fun c => (h c).2, sem_eq_zero_of_no_sems (by decide) r.2⟩) (GdnInRef.run m ρ)

/-- The reference of layer 1's MLP runs and leaves its arguments. -/
theorem frame_MlpSecondRefIdeal : Cert.quiescent_MlpSecondRefIdeal (hMlpSecondRefIdeal := Cert.MlpSecondRefIdeal.Gen.facts) :=
  fun m ρ _ => (θ_run Cert.MlpSecondRefIdeal.defs _ _).mono
    (fun r h => ⟨fun c => (h c).2, sem_eq_zero_of_no_sems (by decide) r.2⟩) (Cert.MlpSecondRefIdeal.Value.run m ρ)

/-- The reference of layer 2's MLP runs and leaves its arguments. -/
theorem frame_MlpThirdRefIdeal : Cert.quiescent_MlpThirdRefIdeal (hMlpThirdRefIdeal := Cert.MlpThirdRefIdeal.Gen.facts) :=
  fun m ρ _ => (θ_run Cert.MlpThirdRefIdeal.defs _ _).mono
    (fun r h => ⟨fun c => (h c).2, sem_eq_zero_of_no_sems (by decide) r.2⟩) (Cert.MlpThirdRefIdeal.Value.run m ρ)

/-! ## The equations -/

/-- The retention call's result is the reference's, both being `Retention.layer` of the three arguments; the projections are
    real numbers. -/
theorem algebraic_retention : Cert.algebraic_RetentionIdeal_RetentionRefIdeal_pre_finite_projections
    (hRetentionIdeal := Cert.RetentionIdeal.Gen.facts) (hRetentionRefIdeal := Cert.RetentionRefIdeal.Gen.facts)
    (hPre_finite_projections := RetPre.facts) := by
  intro m g m' g' hp hag
  have hz : ∀ c i, Retention.zOf m c i ≠ ⊤ ∧ Retention.zOf m c i ≠ ⊥ := fun c i => RetPre.finite _ _ _ (hp c) i
  refine ⟨fun c => Retention.layer (Retention.zOf m c) (Retention.hOf m c) (Retention.wOf m c),
    (θ_run Cert.RetentionIdeal.defs _ _).mono (fun r h c => ?_) (Cert.RetentionIdeal.Value.run_blocks m g),
    (θ_run Cert.RetentionRefIdeal.defs _ _).mono (fun r h c => ?_) (Cert.RetentionRefIdeal.Value.run m' g')⟩
  · exact ⟨(h c).1.trans (Retention.result_at m hz c), (h c).2⟩
  · have ez : RetentionRef.zOf m' c = Retention.zOf m c := (hag c).1
    have eh : RetentionRef.hOf m' c = Retention.hOf m c := (hag c).2.1
    have ew : RetentionRef.wOf m' c = Retention.wOf m c := (hag c).2.2
    have hz' : ∀ i, RetentionRef.zOf m' c i ≠ ⊤ ∧ RetentionRef.zOf m' c i ≠ ⊥ := fun i => by rw [ez]; exact hz c i
    refine ⟨(h c).1.trans ((RetentionRef.result_eq m' c hz').trans ?_), (h c).2⟩
    rw [ez, eh, ew]

/-- The MLP call's result is the reference's, both being `Mlp.layer` of the five arguments. -/
theorem algebraic_mlp : Cert.algebraic_MlpIdeal_MlpRefIdeal
    (hMlpIdeal := Cert.MlpIdeal.Gen.facts) (hMlpRefIdeal := Cert.MlpRefIdeal.Gen.facts) := by
  intro m g m' g' _ hag
  refine ⟨fun c => Mlp.layer 3 (m ((c.tc : Thread Cert.MlpIdeal.nD Cert.MlpIdeal.τ).loc Cert.MlpIdeal.main_arg0))
      (m ((c.tc : Thread Cert.MlpIdeal.nD Cert.MlpIdeal.τ).loc Cert.MlpIdeal.main_arg1))
      (m ((c.tc : Thread Cert.MlpIdeal.nD Cert.MlpIdeal.τ).loc Cert.MlpIdeal.main_arg2))
      (m ((c.tc : Thread Cert.MlpIdeal.nD Cert.MlpIdeal.τ).loc Cert.MlpIdeal.main_arg3))
      (m ((c.tc : Thread Cert.MlpIdeal.nD Cert.MlpIdeal.τ).loc Cert.MlpIdeal.main_arg4)),
    (θ_run Cert.MlpIdeal.defs _ _).mono (fun r h c => ?_) (Cert.MlpIdeal.Value.run_blocks m g),
    (θ_run Cert.MlpRefIdeal.defs _ _).mono (fun r h c => ?_) (Cert.MlpRefIdeal.Value.run m' g')⟩
  · exact ⟨(h c).1.trans (Mlp.final m c), (h c).2⟩
  · refine ⟨(h c).1.trans ?_, (h c).2⟩
    rw [Cert.MlpRefIdeal.Read.val_main_v37_eq m', Mlp.reference_eq, (hag c).1, (hag c).2.1, (hag c).2.2.1, (hag c).2.2.2.1,
      (hag c).2.2.2.2]

/-- The result of the MLP call without the final norm is the reference's, both being `Mlp.plain` of the arguments. -/
theorem algebraic_mlpFirst : Cert.algebraic_MlpFirstIdeal_MlpFirstRefIdeal
    (hMlpFirstIdeal := Cert.MlpFirstIdeal.Gen.facts) (hMlpFirstRefIdeal := Cert.MlpFirstRefIdeal.Gen.facts) := by
  intro m g m' g' _ hag
  refine ⟨fun c => Mlp.plain 0 (MlpFirst.argH m c) (MlpFirst.argG m c) (MlpFirst.argU m c) (MlpFirst.argD m c),
    (θ_run Cert.MlpFirstIdeal.defs _ _).mono (fun r h c => ?_) (Cert.MlpFirstIdeal.Value.run_blocks m g),
    (θ_run Cert.MlpFirstRefIdeal.defs _ _).mono (fun r h c => ?_) (Cert.MlpFirstRefIdeal.Value.run m' g')⟩
  · exact ⟨(h c).1.trans (MlpFirst.final m c), (h c).2⟩
  · refine ⟨(h c).1.trans ?_, (h c).2⟩
    rw [Cert.MlpFirstRefIdeal.Read.val_main_v24_eq, MlpFirst.reference_eq, (hag c).1, (hag c).2.1, (hag c).2.2.1, (hag c).2.2.2.1]

/-- The result of layer 1's MLP call is the reference's, both being `Mlp.plain 1` of the arguments. -/
theorem algebraic_mlpSecond : Cert.algebraic_MlpSecondIdeal_MlpSecondRefIdeal
    (hMlpSecondIdeal := Cert.MlpSecondIdeal.Gen.facts) (hMlpSecondRefIdeal := Cert.MlpSecondRefIdeal.Gen.facts) := by
  intro m g m' g' _ hag
  refine ⟨fun c => Mlp.plain 1 (MlpSecond.argH m c) (MlpSecond.argG m c) (MlpSecond.argU m c) (MlpSecond.argD m c),
    (θ_run Cert.MlpSecondIdeal.defs _ _).mono (fun r h c => ?_) (Cert.MlpSecondIdeal.Value.run_blocks m g),
    (θ_run Cert.MlpSecondRefIdeal.defs _ _).mono (fun r h c => ?_) (Cert.MlpSecondRefIdeal.Value.run m' g')⟩
  · exact ⟨(h c).1.trans (MlpSecond.final m c), (h c).2⟩
  · refine ⟨(h c).1.trans ?_, (h c).2⟩
    rw [Cert.MlpSecondRefIdeal.Read.val_main_v24_eq, MlpSecond.reference_eq, (hag c).1, (hag c).2.1, (hag c).2.2.1, (hag c).2.2.2.1]

/-- The result of layer 2's MLP call is the reference's, both being `Mlp.plain 2` of the arguments. -/
theorem algebraic_mlpThird : Cert.algebraic_MlpThirdIdeal_MlpThirdRefIdeal
    (hMlpThirdIdeal := Cert.MlpThirdIdeal.Gen.facts) (hMlpThirdRefIdeal := Cert.MlpThirdRefIdeal.Gen.facts) := by
  intro m g m' g' _ hag
  refine ⟨fun c => Mlp.plain 2 (MlpThird.argH m c) (MlpThird.argG m c) (MlpThird.argU m c) (MlpThird.argD m c),
    (θ_run Cert.MlpThirdIdeal.defs _ _).mono (fun r h c => ?_) (Cert.MlpThirdIdeal.Value.run_blocks m g),
    (θ_run Cert.MlpThirdRefIdeal.defs _ _).mono (fun r h c => ?_) (Cert.MlpThirdRefIdeal.Value.run m' g')⟩
  · exact ⟨(h c).1.trans (MlpThird.final m c), (h c).2⟩
  · refine ⟨(h c).1.trans ?_, (h c).2⟩
    rw [Cert.MlpThirdRefIdeal.Read.val_main_v24_eq, MlpThird.reference_eq, (hag c).1, (hag c).2.1, (hag c).2.2.1, (hag c).2.2.2.1]

/-- The in-projection call's result is the reference's, both being `InProj.projected` of the three arguments. -/
theorem algebraic_inProj : Cert.algebraic_InProjIdeal_InProjRefIdeal
    (hInProjIdeal := Cert.InProjIdeal.Gen.facts) (hInProjRefIdeal := Cert.InProjRefIdeal.Gen.facts) := by
  intro m g m' g' _ hag
  refine ⟨fun c => InProj.projected (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2)),
    (θ_run Cert.InProjIdeal.defs _ _).mono (fun r h c => ?_) (Cert.InProjIdeal.Value.run_blocks m g),
    (θ_run Cert.InProjRefIdeal.defs _ _).mono (fun r h c => ?_) (Cert.InProjRefIdeal.Value.run m' g')⟩
  · exact ⟨(h c).1.trans (InProj.final m c), (h c).2⟩
  · refine ⟨(h c).1.trans ?_, (h c).2⟩
    refine (Cert.InProjRefIdeal.Read.val_main_v17_eq (m' ((c.tc : Thread Cert.InProjRefIdeal.nD Cert.InProjRefIdeal.τ).loc Cert.InProjRefIdeal.main_arg0))
      (m' ((c.tc : Thread Cert.InProjRefIdeal.nD Cert.InProjRefIdeal.τ).loc Cert.InProjRefIdeal.main_arg1))
      (m' ((c.tc : Thread Cert.InProjRefIdeal.nD Cert.InProjRefIdeal.τ).loc Cert.InProjRefIdeal.main_arg2))).trans ?_
    rw [InProj.reference_eq, (hag c).1, (hag c).2.1, (hag c).2.2]

/-- The gated DeltaNet projection's result is the reference's, both being `GdnIn.projected` of the three arguments. -/
theorem algebraic_gdnIn : Cert.algebraic_GdnInIdeal_GdnInRefIdeal
    (hGdnInIdeal := Cert.GdnInIdeal.Gen.facts) (hGdnInRefIdeal := Cert.GdnInRefIdeal.Gen.facts) := by
  intro m g m' g' _ hag
  refine ⟨fun c => GdnIn.projected (m ((c.tc : Thread Cert.GdnInIdeal.nD Cert.GdnInIdeal.τ).loc Cert.GdnInIdeal.main_arg0))
      (m ((c.tc : Thread Cert.GdnInIdeal.nD Cert.GdnInIdeal.τ).loc Cert.GdnInIdeal.main_arg1))
      (m ((c.tc : Thread Cert.GdnInIdeal.nD Cert.GdnInIdeal.τ).loc Cert.GdnInIdeal.main_arg2)),
    GdnIn.run m g, (θ_run Cert.GdnInRefIdeal.defs _ _).mono (fun r h c => ?_) (GdnInRef.run m' g')⟩
  refine ⟨(h c).1.trans ?_, (h c).2⟩
  rw [(hag c).1, (hag c).2.1, (hag c).2.2]

/-! ## The idealization of the retention call: its eight named constants -/

/-- Each named constant of the retention call's table stands at the float the kernel prints. -/
theorem preserves_retention : Cert.preserves_Retention_RetentionIdeal :=
  ⟨IdealRules.named_const.statement Cert.RetentionIdeal.κ "log_gamma0" .f32 0xBD020AEC#32 _ rfl,
    IdealRules.named_const.statement Cert.RetentionIdeal.κ "log_gamma1" .f32 0xBC8102B3#32 _ rfl,
    IdealRules.named_const.statement Cert.RetentionIdeal.κ "log_gamma2" .f32 0xBC0080AC#32 _ rfl,
    IdealRules.named_const.statement Cert.RetentionIdeal.κ "log_gamma3" .f32 0xBB80402B#32 _ rfl,
    IdealRules.named_const.statement Cert.RetentionIdeal.κ "chunk_dec0" .f32 0x399ACCA1#32 _ rfl,
    IdealRules.named_const.statement Cert.RetentionIdeal.κ "chunk_dec1" .f32 0x3C9160A5#32 _ rfl,
    IdealRules.named_const.statement Cert.RetentionIdeal.κ "chunk_dec2" .f32 0x3E097FCE#32 _ rfl,
    IdealRules.named_const.statement Cert.RetentionIdeal.κ "chunk_dec3" .f32 0x3EBBFC5D#32 _ rfl⟩

theorem claim : Cert.Claim :=
  ⟨Cert.Retention.Gen.facts, Cert.RetentionIdeal.Gen.facts, Cert.RetentionRefIdeal.Gen.facts, Cert.Mlp.Gen.facts,
    Cert.MlpIdeal.Gen.facts, Cert.MlpRefIdeal.Gen.facts, Cert.InProj.Gen.facts, Cert.InProjIdeal.Gen.facts,
    Cert.InProjRefIdeal.Gen.facts, Cert.MlpFirst.Gen.facts, Cert.MlpFirstIdeal.Gen.facts, Cert.MlpFirstRefIdeal.Gen.facts,
    Cert.GdnIn.Gen.facts, Cert.GdnInIdeal.Gen.facts, Cert.GdnInRefIdeal.Gen.facts,
    Cert.MlpSecond.Gen.facts, Cert.MlpSecondIdeal.Gen.facts, Cert.MlpSecondRefIdeal.Gen.facts,
    Cert.MlpThird.Gen.facts, Cert.MlpThirdIdeal.Gen.facts, Cert.MlpThirdRefIdeal.Gen.facts, RetPre.facts,
    fun m ρ _ => Cert.Retention.Gen.frame m ρ, fun m ρ _ => Cert.RetentionIdeal.Gen.frame m ρ,
    fun m ρ _ => Cert.RetentionIdeal.Gen.frame m ρ, frame_RetentionRefIdeal, fun m ρ _ => frame_RetentionRefIdeal m ρ trivial,
    fun m ρ _ => Cert.Mlp.Gen.frame m ρ, fun m ρ _ => Cert.MlpIdeal.Gen.frame m ρ, frame_MlpRefIdeal,
    fun m ρ _ => Cert.InProj.Gen.frame m ρ, fun m ρ _ => Cert.InProjIdeal.Gen.frame m ρ, frame_InProjRefIdeal,
    fun m ρ _ => Cert.MlpFirst.Gen.frame m ρ, fun m ρ _ => Cert.MlpFirstIdeal.Gen.frame m ρ, frame_MlpFirstRefIdeal,
    GdnIn.frame_bits, fun m ρ _ => GdnIn.frame (F := Ideal) m ρ, frame_GdnInRefIdeal,
    fun m ρ _ => Cert.MlpSecond.Gen.frame m ρ, fun m ρ _ => Cert.MlpSecondIdeal.Gen.frame m ρ, frame_MlpSecondRefIdeal,
    fun m ρ _ => Cert.MlpThird.Gen.frame m ρ, fun m ρ _ => Cert.MlpThirdIdeal.Gen.frame m ρ, frame_MlpThirdRefIdeal,
    preserves_retention, algebraic_retention, trivial, algebraic_mlp, trivial, algebraic_inProj, trivial, algebraic_mlpFirst,
    trivial, algebraic_gdnIn, trivial, algebraic_mlpSecond, trivial, algebraic_mlpThird⟩

end Cert.Proof

end
